-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x256 : Shape := ⟨3, ![64, 512, 256]⟩
abbrev S8x8x512x256 : Shape := ⟨4, ![8, 8, 512, 256]⟩
abbrev S8x8x128 : Shape := ⟨3, ![8, 8, 128]⟩
abbrev S1x8x512x256 : Shape := ⟨4, ![1, 8, 512, 256]⟩
abbrev S1x8x128 : Shape := ⟨3, ![1, 8, 128]⟩
abbrev S3x8x512 : Shape := ⟨3, ![3, 8, 512]⟩
abbrev S8x512 : Shape := ⟨2, ![8, 512]⟩
abbrev S1024x32x128 : Shape := ⟨3, ![1024, 32, 128]⟩
abbrev S8x512x256 : Shape := ⟨3, ![8, 512, 256]⟩
abbrev S8x512x1 : Shape := ⟨3, ![8, 512, 1]⟩
abbrev S8x512x512 : Shape := ⟨3, ![8, 512, 512]⟩
abbrev S8 : Shape := ⟨1, ![8]⟩
abbrev S8x1 : Shape := ⟨2, ![8, 1]⟩
abbrev S1024x512 : Shape := ⟨2, ![1024, 512]⟩
abbrev S1x512x512 : Shape := ⟨3, ![1, 512, 512]⟩
abbrev S512x512 : Shape := ⟨2, ![512, 512]⟩
abbrev S1024x4x128 : Shape := ⟨3, ![1024, 4, 128]⟩
abbrev S1x32x128 : Shape := ⟨3, ![1, 32, 128]⟩
abbrev S1x8x512 : Shape := ⟨3, ![1, 8, 512]⟩
abbrev S1x512 : Shape := ⟨2, ![1, 512]⟩
abbrev S1x1x1 : Shape := ⟨3, ![1, 1, 1]⟩
abbrev S1x1x128 : Shape := ⟨3, ![1, 1, 128]⟩
abbrev S1x1x512 : Shape := ⟨3, ![1, 1, 512]⟩
abbrev S1 : Shape := ⟨1, ![1]⟩
abbrev S1x1 : Shape := ⟨2, ![1, 1]⟩
abbrev S1x128 : Shape := ⟨2, ![1, 128]⟩
abbrev S8x128 : Shape := ⟨2, ![8, 128]⟩
abbrev S8x8x1 : Shape := ⟨3, ![8, 8, 1]⟩
abbrev S8x8 : Shape := ⟨2, ![8, 8]⟩
abbrev S64 : Shape := ⟨1, ![64]⟩

abbrev nBuf : Space → Nat
  | .hbm => 8
  | .vmem => 9
  | .smem => 0
  | _ => 0

abbrev bufTy : (tb : Table) → Fin (tcTables nBuf tb) → BufTy
  | .hbm, ⟨0, _⟩ => ⟨S64x512x256, .f32⟩
  | .hbm, ⟨1, _⟩ => ⟨S64x512x256, .f32⟩
  | .hbm, ⟨2, _⟩ => ⟨S8x8x512x256, .f32⟩
  | .hbm, ⟨3, _⟩ => ⟨S8x8x512x256, .f32⟩
  | .hbm, ⟨4, _⟩ => ⟨S8x8x128, .f32⟩
  | .hbm, ⟨5, _⟩ => ⟨S8x8x1, .f32⟩
  | .hbm, ⟨6, _⟩ => ⟨S8x8, .f32⟩
  | .hbm, ⟨7, _⟩ => ⟨S64, .f32⟩
  | .local _ .vmem, ⟨0, _⟩ => ⟨S1x8x512x256, .f32⟩
  | .local _ .vmem, ⟨1, _⟩ => ⟨S1x8x512x256, .f32⟩
  | .local _ .vmem, ⟨2, _⟩ => ⟨S1x8x512x256, .f32⟩
  | .local _ .vmem, ⟨3, _⟩ => ⟨S1x8x512x256, .f32⟩
  | .local _ .vmem, ⟨4, _⟩ => ⟨S1x8x128, .f32⟩
  | .local _ .vmem, ⟨5, _⟩ => ⟨S1x8x128, .f32⟩
  | .local _ .vmem, ⟨6, _⟩ => ⟨S3x8x512, .f32⟩
  | .local _ .vmem, ⟨7, _⟩ => ⟨S8x512, .f32⟩
  | .local _ .vmem, ⟨8, _⟩ => ⟨S1024x32x128, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c1_i32_263 : BitVec 32 := 1#32
  let c1022_i32 : BitVec 32 := 1022#32
  let v552 : BitVec 32 := Scalar.addi c1_i32_263 c1022_i32
  let c1_i32_264 : BitVec 32 := 1#32
  ⟨c1_i32_263, v552, c1_i32_264⟩
def k0_off1 (k0_t1 : Fin k0_t1_loop.trips) : Fin 3 → Nat :=
  let c1_i32_263 : BitVec 32 := 1#32
  let c1_i32_264 : BitVec 32 := 1#32
  let arg7 : BitVec 32 := Scf.iv c1_i32_263 c1_i32_264 k0_t1
  let v1042 : Index := Scalar.indexCast arg7
  let c0_504 : Index := 0#32
  let c0_505 : Index := 0#32
  ![v1042.toNat, 0, 0]
def k0_off2 (k0_t1 : Fin k0_t1_loop.trips) : Fin 3 → Nat :=
  let c1_i32_511 : BitVec 32 := 1#32
  let c1_i32_263 : BitVec 32 := 1#32
  let c1_i32_264 : BitVec 32 := 1#32
  let arg7 : BitVec 32 := Scf.iv c1_i32_263 c1_i32_264 k0_t1
  let c1_i32_509 : BitVec 32 := 1#32
  let v1047 : BitVec 32 := Scalar.addi arg7 c1_i32_509
  let c2_i32_510 : BitVec 32 := 2#32
  let v1048 : BitVec 32 := Scalar.remsi v1047 c2_i32_510
  let v1049 : BitVec 32 := Scalar.addi c1_i32_511 v1048
  let v1050 : Index := Scalar.indexCast v1049
  let c0_512 : Index := 0#32
  let c0_513 : Index := 0#32
  ![v1050.toNat, 0, 0]
def k0_off3 (k0_t1 : Fin k0_t1_loop.trips) : Fin 3 → Nat :=
  let c1_i32_515 : BitVec 32 := 1#32
  let c1_i32_263 : BitVec 32 := 1#32
  let c1_i32_264 : BitVec 32 := 1#32
  let arg7 : BitVec 32 := Scf.iv c1_i32_263 c1_i32_264 k0_t1
  let c2_i32_514 : BitVec 32 := 2#32
  let v1053 : BitVec 32 := Scalar.remsi arg7 c2_i32_514
  let v1054 : BitVec 32 := Scalar.addi c1_i32_515 v1053
  let v1055 : Index := Scalar.indexCast v1054
  let c0_516 : Index := 0#32
  let c0_517 : Index := 0#32
  ![v1055.toNat, 0, 0]
def k0_off4 (c0_i32_367 : BitVec 32) : Fin 3 → Nat :=
  let c1022_370 : Index := 1022#32
  let c511_i32_365 : BitVec 32 := 511#32
  let c128_i32_366 : BitVec 32 := 128#32
  let v730 : BitVec 32 := Scalar.divsi c511_i32_365 c128_i32_366
  let v731 : BitVec 32 := Scalar.addi c0_i32_367 v730
  let v733 : Index := Scalar.indexCast v731
  let c0_371 : Index := 0#32
  ![1022, v733.toNat, 0]
@[reducible] def k0_t2_loop : Scf.Loop 32 :=
  let c0_i32_435 : BitVec 32 := 0#32
  let c1022_i32_436 : BitVec 32 := 1022#32
  let v812 : BitVec 32 := Scalar.addi c0_i32_435 c1022_i32_436
  let c1_i32_437 : BitVec 32 := 1#32
  ⟨c0_i32_435, v812, c1_i32_437⟩
def k0_off5 (arg8 : BitVec 32) (v1047 : BitVec 1) (v1048 : BitVec 1) : Fin 3 → Nat :=
  let c10_i32 : BitVec 32 := 10#32
  let v1042 : BitVec 32 := Scalar.shrui arg8 c10_i32
  let c0_i32_504 : BitVec 32 := 0#32
  let v1044 : BitVec 1 := Scalar.cmpi .sgt v1042 c0_i32_504
  let c1023_i32 : BitVec 32 := 1023#32
  let v1043 : BitVec 32 := Scalar.andi arg8 c1023_i32
  let c0_i32_505 : BitVec 32 := 0#32
  let v1045 : BitVec 1 := Scalar.cmpi .sgt v1043 c0_i32_505
  let v1046 : BitVec 1 := Scalar.andi v1044 v1045
  let true_508 : BitVec 1 := 1#1
  let v1049 : BitVec 1 := Scalar.xori v1048 true_508
  let v1050 : BitVec 1 := Scalar.andi v1046 v1049
  let c1024_i32_510 : BitVec 32 := 1024#32
  let c0_i32_511 : BitVec 32 := 0#32
  let v1054 : BitVec 32 := Scalar.select v1050 c1024_i32_510 c0_i32_511
  let v1055 : BitVec 32 := Scalar.subi arg8 v1054
  let true_509 : BitVec 1 := 1#1
  let v1051 : BitVec 1 := Scalar.xori v1047 true_509
  let v1052 : BitVec 1 := Scalar.ori v1051 v1048
  let v1053 : BitVec 1 := Scalar.andi v1046 v1052
  let c1_i32_512 : BitVec 32 := 1#32
  let c0_i32_513 : BitVec 32 := 0#32
  let v1056 : BitVec 32 := Scalar.select v1053 c1_i32_512 c0_i32_513
  let v1057 : BitVec 32 := Scalar.subi v1055 v1056
  let c10_i32_514 : BitVec 32 := 10#32
  let v1058 : BitVec 32 := Scalar.shrui v1057 c10_i32_514
  let c1023_i32_515 : BitVec 32 := 1023#32
  let v1059 : BitVec 32 := Scalar.andi v1057 c1023_i32_515
  let v1060 : BitVec 32 := Scalar.addi v1058 v1059
  let v1065 : Index := Scalar.indexCast v1060
  let c0_i32_518 : BitVec 32 := 0#32
  let c128_i32_517 : BitVec 32 := 128#32
  let v1062 : BitVec 32 := Scalar.divsi v1058 c128_i32_517
  let v1063 : BitVec 32 := Scalar.addi c0_i32_518 v1062
  let v1066 : Index := Scalar.indexCast v1063
  let c0_520 : Index := 0#32
  ![v1065.toNat, v1066.toNat, 0]

def k0_chk1 (arg8 : BitVec 32) (v1047 : BitVec 1) (v1048 : BitVec 1) : Prop :=
  (∀ a, (k0_off5 arg8 v1047 v1048) a + S1x1x128.size a ≤ S1024x32x128.size a)
theorem k0_off5_inb : ∀ (arg8 : BitVec 32) (v1047 : BitVec 1) (v1048 : BitVec 1) (k0_hw1 : k0_chk1 arg8 v1047 v1048), ∀ a, (k0_off5 arg8 v1047 v1048) a + S1x1x128.size a ≤ S1024x32x128.size a := fun arg8 v1047 v1048 k0_hw1 => k0_hw1

def k0_off6 (arg9 : BitVec 32) (v1101 : BitVec 1) (v1102 : BitVec 1) : Fin 3 → Nat :=
  let c10_i32_532 : BitVec 32 := 10#32
  let v1096 : BitVec 32 := Scalar.shrui arg9 c10_i32_532
  let c0_i32_534 : BitVec 32 := 0#32
  let v1098 : BitVec 1 := Scalar.cmpi .sgt v1096 c0_i32_534
  let c1023_i32_533 : BitVec 32 := 1023#32
  let v1097 : BitVec 32 := Scalar.andi arg9 c1023_i32_533
  let c0_i32_535 : BitVec 32 := 0#32
  let v1099 : BitVec 1 := Scalar.cmpi .sgt v1097 c0_i32_535
  let v1100 : BitVec 1 := Scalar.andi v1098 v1099
  let true_538 : BitVec 1 := 1#1
  let v1103 : BitVec 1 := Scalar.xori v1102 true_538
  let v1104 : BitVec 1 := Scalar.andi v1100 v1103
  let c1024_i32_540 : BitVec 32 := 1024#32
  let c0_i32_541 : BitVec 32 := 0#32
  let v1108 : BitVec 32 := Scalar.select v1104 c1024_i32_540 c0_i32_541
  let v1109 : BitVec 32 := Scalar.subi arg9 v1108
  let true_539 : BitVec 1 := 1#1
  let v1105 : BitVec 1 := Scalar.xori v1101 true_539
  let v1106 : BitVec 1 := Scalar.ori v1105 v1102
  let v1107 : BitVec 1 := Scalar.andi v1100 v1106
  let c1_i32_542 : BitVec 32 := 1#32
  let c0_i32_543 : BitVec 32 := 0#32
  let v1110 : BitVec 32 := Scalar.select v1107 c1_i32_542 c0_i32_543
  let v1111 : BitVec 32 := Scalar.subi v1109 v1110
  let c10_i32_544 : BitVec 32 := 10#32
  let v1112 : BitVec 32 := Scalar.shrui v1111 c10_i32_544
  let c1023_i32_545 : BitVec 32 := 1023#32
  let v1113 : BitVec 32 := Scalar.andi v1111 c1023_i32_545
  let v1114 : BitVec 32 := Scalar.addi v1112 v1113
  let v1119 : Index := Scalar.indexCast v1114
  let c4_i32_548 : BitVec 32 := 4#32
  let c128_i32_547 : BitVec 32 := 128#32
  let v1116 : BitVec 32 := Scalar.divsi v1112 c128_i32_547
  let v1117 : BitVec 32 := Scalar.addi c4_i32_548 v1116
  let v1120 : Index := Scalar.indexCast v1117
  let c0_550 : Index := 0#32
  ![v1119.toNat, v1120.toNat, 0]

def k0_chk2 (arg9 : BitVec 32) (v1101 : BitVec 1) (v1102 : BitVec 1) : Prop :=
  (∀ a, (k0_off6 arg9 v1101 v1102) a + S1x1x128.size a ≤ S1024x32x128.size a)
theorem k0_off6_inb : ∀ (arg9 : BitVec 32) (v1101 : BitVec 1) (v1102 : BitVec 1) (k0_hw2 : k0_chk2 arg9 v1101 v1102), ∀ a, (k0_off6 arg9 v1101 v1102) a + S1x1x128.size a ≤ S1024x32x128.size a := fun arg9 v1101 v1102 k0_hw2 => k0_hw2

def k0_off7 (arg10 : BitVec 32) (v1155 : BitVec 1) (v1156 : BitVec 1) : Fin 3 → Nat :=
  let c10_i32_562 : BitVec 32 := 10#32
  let v1150 : BitVec 32 := Scalar.shrui arg10 c10_i32_562
  let c0_i32_564 : BitVec 32 := 0#32
  let v1152 : BitVec 1 := Scalar.cmpi .sgt v1150 c0_i32_564
  let c1023_i32_563 : BitVec 32 := 1023#32
  let v1151 : BitVec 32 := Scalar.andi arg10 c1023_i32_563
  let c0_i32_565 : BitVec 32 := 0#32
  let v1153 : BitVec 1 := Scalar.cmpi .sgt v1151 c0_i32_565
  let v1154 : BitVec 1 := Scalar.andi v1152 v1153
  let true_568 : BitVec 1 := 1#1
  let v1157 : BitVec 1 := Scalar.xori v1156 true_568
  let v1158 : BitVec 1 := Scalar.andi v1154 v1157
  let c1024_i32_570 : BitVec 32 := 1024#32
  let c0_i32_571 : BitVec 32 := 0#32
  let v1162 : BitVec 32 := Scalar.select v1158 c1024_i32_570 c0_i32_571
  let v1163 : BitVec 32 := Scalar.subi arg10 v1162
  let true_569 : BitVec 1 := 1#1
  let v1159 : BitVec 1 := Scalar.xori v1155 true_569
  let v1160 : BitVec 1 := Scalar.ori v1159 v1156
  let v1161 : BitVec 1 := Scalar.andi v1154 v1160
  let c1_i32_572 : BitVec 32 := 1#32
  let c0_i32_573 : BitVec 32 := 0#32
  let v1164 : BitVec 32 := Scalar.select v1161 c1_i32_572 c0_i32_573
  let v1165 : BitVec 32 := Scalar.subi v1163 v1164
  let c10_i32_574 : BitVec 32 := 10#32
  let v1166 : BitVec 32 := Scalar.shrui v1165 c10_i32_574
  let c1023_i32_575 : BitVec 32 := 1023#32
  let v1167 : BitVec 32 := Scalar.andi v1165 c1023_i32_575
  let v1168 : BitVec 32 := Scalar.addi v1166 v1167
  let v1173 : Index := Scalar.indexCast v1168
  let c8_i32_578 : BitVec 32 := 8#32
  let c128_i32_577 : BitVec 32 := 128#32
  let v1170 : BitVec 32 := Scalar.divsi v1166 c128_i32_577
  let v1171 : BitVec 32 := Scalar.addi c8_i32_578 v1170
  let v1174 : Index := Scalar.indexCast v1171
  let c0_580 : Index := 0#32
  ![v1173.toNat, v1174.toNat, 0]

def k0_chk3 (arg10 : BitVec 32) (v1155 : BitVec 1) (v1156 : BitVec 1) : Prop :=
  (∀ a, (k0_off7 arg10 v1155 v1156) a + S1x1x128.size a ≤ S1024x32x128.size a)
theorem k0_off7_inb : ∀ (arg10 : BitVec 32) (v1155 : BitVec 1) (v1156 : BitVec 1) (k0_hw3 : k0_chk3 arg10 v1155 v1156), ∀ a, (k0_off7 arg10 v1155 v1156) a + S1x1x128.size a ≤ S1024x32x128.size a := fun arg10 v1155 v1156 k0_hw3 => k0_hw3

def k0_off8 (arg11 : BitVec 32) (v1209 : BitVec 1) (v1210 : BitVec 1) : Fin 3 → Nat :=
  let c10_i32_592 : BitVec 32 := 10#32
  let v1204 : BitVec 32 := Scalar.shrui arg11 c10_i32_592
  let c0_i32_594 : BitVec 32 := 0#32
  let v1206 : BitVec 1 := Scalar.cmpi .sgt v1204 c0_i32_594
  let c1023_i32_593 : BitVec 32 := 1023#32
  let v1205 : BitVec 32 := Scalar.andi arg11 c1023_i32_593
  let c0_i32_595 : BitVec 32 := 0#32
  let v1207 : BitVec 1 := Scalar.cmpi .sgt v1205 c0_i32_595
  let v1208 : BitVec 1 := Scalar.andi v1206 v1207
  let true_598 : BitVec 1 := 1#1
  let v1211 : BitVec 1 := Scalar.xori v1210 true_598
  let v1212 : BitVec 1 := Scalar.andi v1208 v1211
  let c1024_i32_600 : BitVec 32 := 1024#32
  let c0_i32_601 : BitVec 32 := 0#32
  let v1216 : BitVec 32 := Scalar.select v1212 c1024_i32_600 c0_i32_601
  let v1217 : BitVec 32 := Scalar.subi arg11 v1216
  let true_599 : BitVec 1 := 1#1
  let v1213 : BitVec 1 := Scalar.xori v1209 true_599
  let v1214 : BitVec 1 := Scalar.ori v1213 v1210
  let v1215 : BitVec 1 := Scalar.andi v1208 v1214
  let c1_i32_602 : BitVec 32 := 1#32
  let c0_i32_603 : BitVec 32 := 0#32
  let v1218 : BitVec 32 := Scalar.select v1215 c1_i32_602 c0_i32_603
  let v1219 : BitVec 32 := Scalar.subi v1217 v1218
  let c10_i32_604 : BitVec 32 := 10#32
  let v1220 : BitVec 32 := Scalar.shrui v1219 c10_i32_604
  let c1023_i32_605 : BitVec 32 := 1023#32
  let v1221 : BitVec 32 := Scalar.andi v1219 c1023_i32_605
  let v1222 : BitVec 32 := Scalar.addi v1220 v1221
  let v1227 : Index := Scalar.indexCast v1222
  let c12_i32_608 : BitVec 32 := 12#32
  let c128_i32_607 : BitVec 32 := 128#32
  let v1224 : BitVec 32 := Scalar.divsi v1220 c128_i32_607
  let v1225 : BitVec 32 := Scalar.addi c12_i32_608 v1224
  let v1228 : Index := Scalar.indexCast v1225
  let c0_610 : Index := 0#32
  ![v1227.toNat, v1228.toNat, 0]

def k0_chk4 (arg11 : BitVec 32) (v1209 : BitVec 1) (v1210 : BitVec 1) : Prop :=
  (∀ a, (k0_off8 arg11 v1209 v1210) a + S1x1x128.size a ≤ S1024x32x128.size a)
theorem k0_off8_inb : ∀ (arg11 : BitVec 32) (v1209 : BitVec 1) (v1210 : BitVec 1) (k0_hw4 : k0_chk4 arg11 v1209 v1210), ∀ a, (k0_off8 arg11 v1209 v1210) a + S1x1x128.size a ≤ S1024x32x128.size a := fun arg11 v1209 v1210 k0_hw4 => k0_hw4

def k0_off9 (arg12 : BitVec 32) (v1263 : BitVec 1) (v1264 : BitVec 1) : Fin 3 → Nat :=
  let c10_i32_622 : BitVec 32 := 10#32
  let v1258 : BitVec 32 := Scalar.shrui arg12 c10_i32_622
  let c0_i32_624 : BitVec 32 := 0#32
  let v1260 : BitVec 1 := Scalar.cmpi .sgt v1258 c0_i32_624
  let c1023_i32_623 : BitVec 32 := 1023#32
  let v1259 : BitVec 32 := Scalar.andi arg12 c1023_i32_623
  let c0_i32_625 : BitVec 32 := 0#32
  let v1261 : BitVec 1 := Scalar.cmpi .sgt v1259 c0_i32_625
  let v1262 : BitVec 1 := Scalar.andi v1260 v1261
  let true_628 : BitVec 1 := 1#1
  let v1265 : BitVec 1 := Scalar.xori v1264 true_628
  let v1266 : BitVec 1 := Scalar.andi v1262 v1265
  let c1024_i32_630 : BitVec 32 := 1024#32
  let c0_i32_631 : BitVec 32 := 0#32
  let v1270 : BitVec 32 := Scalar.select v1266 c1024_i32_630 c0_i32_631
  let v1271 : BitVec 32 := Scalar.subi arg12 v1270
  let true_629 : BitVec 1 := 1#1
  let v1267 : BitVec 1 := Scalar.xori v1263 true_629
  let v1268 : BitVec 1 := Scalar.ori v1267 v1264
  let v1269 : BitVec 1 := Scalar.andi v1262 v1268
  let c1_i32_632 : BitVec 32 := 1#32
  let c0_i32_633 : BitVec 32 := 0#32
  let v1272 : BitVec 32 := Scalar.select v1269 c1_i32_632 c0_i32_633
  let v1273 : BitVec 32 := Scalar.subi v1271 v1272
  let c10_i32_634 : BitVec 32 := 10#32
  let v1274 : BitVec 32 := Scalar.shrui v1273 c10_i32_634
  let c1023_i32_635 : BitVec 32 := 1023#32
  let v1275 : BitVec 32 := Scalar.andi v1273 c1023_i32_635
  let v1276 : BitVec 32 := Scalar.addi v1274 v1275
  let v1281 : Index := Scalar.indexCast v1276
  let c16_i32_638 : BitVec 32 := 16#32
  let c128_i32_637 : BitVec 32 := 128#32
  let v1278 : BitVec 32 := Scalar.divsi v1274 c128_i32_637
  let v1279 : BitVec 32 := Scalar.addi c16_i32_638 v1278
  let v1282 : Index := Scalar.indexCast v1279
  let c0_640 : Index := 0#32
  ![v1281.toNat, v1282.toNat, 0]

def k0_chk5 (arg12 : BitVec 32) (v1263 : BitVec 1) (v1264 : BitVec 1) : Prop :=
  (∀ a, (k0_off9 arg12 v1263 v1264) a + S1x1x128.size a ≤ S1024x32x128.size a)
theorem k0_off9_inb : ∀ (arg12 : BitVec 32) (v1263 : BitVec 1) (v1264 : BitVec 1) (k0_hw5 : k0_chk5 arg12 v1263 v1264), ∀ a, (k0_off9 arg12 v1263 v1264) a + S1x1x128.size a ≤ S1024x32x128.size a := fun arg12 v1263 v1264 k0_hw5 => k0_hw5

def k0_off10 (arg13 : BitVec 32) (v1317 : BitVec 1) (v1318 : BitVec 1) : Fin 3 → Nat :=
  let c10_i32_652 : BitVec 32 := 10#32
  let v1312 : BitVec 32 := Scalar.shrui arg13 c10_i32_652
  let c0_i32_654 : BitVec 32 := 0#32
  let v1314 : BitVec 1 := Scalar.cmpi .sgt v1312 c0_i32_654
  let c1023_i32_653 : BitVec 32 := 1023#32
  let v1313 : BitVec 32 := Scalar.andi arg13 c1023_i32_653
  let c0_i32_655 : BitVec 32 := 0#32
  let v1315 : BitVec 1 := Scalar.cmpi .sgt v1313 c0_i32_655
  let v1316 : BitVec 1 := Scalar.andi v1314 v1315
  let true_658 : BitVec 1 := 1#1
  let v1319 : BitVec 1 := Scalar.xori v1318 true_658
  let v1320 : BitVec 1 := Scalar.andi v1316 v1319
  let c1024_i32_660 : BitVec 32 := 1024#32
  let c0_i32_661 : BitVec 32 := 0#32
  let v1324 : BitVec 32 := Scalar.select v1320 c1024_i32_660 c0_i32_661
  let v1325 : BitVec 32 := Scalar.subi arg13 v1324
  let true_659 : BitVec 1 := 1#1
  let v1321 : BitVec 1 := Scalar.xori v1317 true_659
  let v1322 : BitVec 1 := Scalar.ori v1321 v1318
  let v1323 : BitVec 1 := Scalar.andi v1316 v1322
  let c1_i32_662 : BitVec 32 := 1#32
  let c0_i32_663 : BitVec 32 := 0#32
  let v1326 : BitVec 32 := Scalar.select v1323 c1_i32_662 c0_i32_663
  let v1327 : BitVec 32 := Scalar.subi v1325 v1326
  let c10_i32_664 : BitVec 32 := 10#32
  let v1328 : BitVec 32 := Scalar.shrui v1327 c10_i32_664
  let c1023_i32_665 : BitVec 32 := 1023#32
  let v1329 : BitVec 32 := Scalar.andi v1327 c1023_i32_665
  let v1330 : BitVec 32 := Scalar.addi v1328 v1329
  let v1335 : Index := Scalar.indexCast v1330
  let c20_i32_668 : BitVec 32 := 20#32
  let c128_i32_667 : BitVec 32 := 128#32
  let v1332 : BitVec 32 := Scalar.divsi v1328 c128_i32_667
  let v1333 : BitVec 32 := Scalar.addi c20_i32_668 v1332
  let v1336 : Index := Scalar.indexCast v1333
  let c0_670 : Index := 0#32
  ![v1335.toNat, v1336.toNat, 0]

def k0_chk6 (arg13 : BitVec 32) (v1317 : BitVec 1) (v1318 : BitVec 1) : Prop :=
  (∀ a, (k0_off10 arg13 v1317 v1318) a + S1x1x128.size a ≤ S1024x32x128.size a)
theorem k0_off10_inb : ∀ (arg13 : BitVec 32) (v1317 : BitVec 1) (v1318 : BitVec 1) (k0_hw6 : k0_chk6 arg13 v1317 v1318), ∀ a, (k0_off10 arg13 v1317 v1318) a + S1x1x128.size a ≤ S1024x32x128.size a := fun arg13 v1317 v1318 k0_hw6 => k0_hw6

def k0_off11 (arg14 : BitVec 32) (v1371 : BitVec 1) (v1372 : BitVec 1) : Fin 3 → Nat :=
  let c10_i32_682 : BitVec 32 := 10#32
  let v1366 : BitVec 32 := Scalar.shrui arg14 c10_i32_682
  let c0_i32_684 : BitVec 32 := 0#32
  let v1368 : BitVec 1 := Scalar.cmpi .sgt v1366 c0_i32_684
  let c1023_i32_683 : BitVec 32 := 1023#32
  let v1367 : BitVec 32 := Scalar.andi arg14 c1023_i32_683
  let c0_i32_685 : BitVec 32 := 0#32
  let v1369 : BitVec 1 := Scalar.cmpi .sgt v1367 c0_i32_685
  let v1370 : BitVec 1 := Scalar.andi v1368 v1369
  let true_688 : BitVec 1 := 1#1
  let v1373 : BitVec 1 := Scalar.xori v1372 true_688
  let v1374 : BitVec 1 := Scalar.andi v1370 v1373
  let c1024_i32_690 : BitVec 32 := 1024#32
  let c0_i32_691 : BitVec 32 := 0#32
  let v1378 : BitVec 32 := Scalar.select v1374 c1024_i32_690 c0_i32_691
  let v1379 : BitVec 32 := Scalar.subi arg14 v1378
  let true_689 : BitVec 1 := 1#1
  let v1375 : BitVec 1 := Scalar.xori v1371 true_689
  let v1376 : BitVec 1 := Scalar.ori v1375 v1372
  let v1377 : BitVec 1 := Scalar.andi v1370 v1376
  let c1_i32_692 : BitVec 32 := 1#32
  let c0_i32_693 : BitVec 32 := 0#32
  let v1380 : BitVec 32 := Scalar.select v1377 c1_i32_692 c0_i32_693
  let v1381 : BitVec 32 := Scalar.subi v1379 v1380
  let c10_i32_694 : BitVec 32 := 10#32
  let v1382 : BitVec 32 := Scalar.shrui v1381 c10_i32_694
  let c1023_i32_695 : BitVec 32 := 1023#32
  let v1383 : BitVec 32 := Scalar.andi v1381 c1023_i32_695
  let v1384 : BitVec 32 := Scalar.addi v1382 v1383
  let v1389 : Index := Scalar.indexCast v1384
  let c24_i32_698 : BitVec 32 := 24#32
  let c128_i32_697 : BitVec 32 := 128#32
  let v1386 : BitVec 32 := Scalar.divsi v1382 c128_i32_697
  let v1387 : BitVec 32 := Scalar.addi c24_i32_698 v1386
  let v1390 : Index := Scalar.indexCast v1387
  let c0_700 : Index := 0#32
  ![v1389.toNat, v1390.toNat, 0]

def k0_chk7 (arg14 : BitVec 32) (v1371 : BitVec 1) (v1372 : BitVec 1) : Prop :=
  (∀ a, (k0_off11 arg14 v1371 v1372) a + S1x1x128.size a ≤ S1024x32x128.size a)
theorem k0_off11_inb : ∀ (arg14 : BitVec 32) (v1371 : BitVec 1) (v1372 : BitVec 1) (k0_hw7 : k0_chk7 arg14 v1371 v1372), ∀ a, (k0_off11 arg14 v1371 v1372) a + S1x1x128.size a ≤ S1024x32x128.size a := fun arg14 v1371 v1372 k0_hw7 => k0_hw7

def k0_off12 (arg15 : BitVec 32) (v1425 : BitVec 1) (v1426 : BitVec 1) : Fin 3 → Nat :=
  let c10_i32_712 : BitVec 32 := 10#32
  let v1420 : BitVec 32 := Scalar.shrui arg15 c10_i32_712
  let c0_i32_714 : BitVec 32 := 0#32
  let v1422 : BitVec 1 := Scalar.cmpi .sgt v1420 c0_i32_714
  let c1023_i32_713 : BitVec 32 := 1023#32
  let v1421 : BitVec 32 := Scalar.andi arg15 c1023_i32_713
  let c0_i32_715 : BitVec 32 := 0#32
  let v1423 : BitVec 1 := Scalar.cmpi .sgt v1421 c0_i32_715
  let v1424 : BitVec 1 := Scalar.andi v1422 v1423
  let true_718 : BitVec 1 := 1#1
  let v1427 : BitVec 1 := Scalar.xori v1426 true_718
  let v1428 : BitVec 1 := Scalar.andi v1424 v1427
  let c1024_i32_720 : BitVec 32 := 1024#32
  let c0_i32_721 : BitVec 32 := 0#32
  let v1432 : BitVec 32 := Scalar.select v1428 c1024_i32_720 c0_i32_721
  let v1433 : BitVec 32 := Scalar.subi arg15 v1432
  let true_719 : BitVec 1 := 1#1
  let v1429 : BitVec 1 := Scalar.xori v1425 true_719
  let v1430 : BitVec 1 := Scalar.ori v1429 v1426
  let v1431 : BitVec 1 := Scalar.andi v1424 v1430
  let c1_i32_722 : BitVec 32 := 1#32
  let c0_i32_723 : BitVec 32 := 0#32
  let v1434 : BitVec 32 := Scalar.select v1431 c1_i32_722 c0_i32_723
  let v1435 : BitVec 32 := Scalar.subi v1433 v1434
  let c10_i32_724 : BitVec 32 := 10#32
  let v1436 : BitVec 32 := Scalar.shrui v1435 c10_i32_724
  let c1023_i32_725 : BitVec 32 := 1023#32
  let v1437 : BitVec 32 := Scalar.andi v1435 c1023_i32_725
  let v1438 : BitVec 32 := Scalar.addi v1436 v1437
  let v1443 : Index := Scalar.indexCast v1438
  let c28_i32_728 : BitVec 32 := 28#32
  let c128_i32_727 : BitVec 32 := 128#32
  let v1440 : BitVec 32 := Scalar.divsi v1436 c128_i32_727
  let v1441 : BitVec 32 := Scalar.addi c28_i32_728 v1440
  let v1444 : Index := Scalar.indexCast v1441
  let c0_730 : Index := 0#32
  ![v1443.toNat, v1444.toNat, 0]

def k0_chk8 (arg15 : BitVec 32) (v1425 : BitVec 1) (v1426 : BitVec 1) : Prop :=
  (∀ a, (k0_off12 arg15 v1425 v1426) a + S1x1x128.size a ≤ S1024x32x128.size a)
theorem k0_off12_inb : ∀ (arg15 : BitVec 32) (v1425 : BitVec 1) (v1426 : BitVec 1) (k0_hw8 : k0_chk8 arg15 v1425 v1426), ∀ a, (k0_off12 arg15 v1425 v1426) a + S1x1x128.size a ≤ S1024x32x128.size a := fun arg15 v1425 v1426 k0_hw8 => k0_hw8

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x512x256 : Shape := ⟨3, ![64, 512, 256]⟩
abbrev S_ : Shape := ⟨0, ![]⟩
abbrev S64x512 : Shape := ⟨2, ![64, 512]⟩
abbrev S64x512x1 : Shape := ⟨3, ![64, 512, 1]⟩
abbrev S64x512x512 : Shape := ⟨3, ![64, 512, 512]⟩
abbrev S64x1x1 : Shape := ⟨3, ![64, 1, 1]⟩
abbrev S512x512 : Shape := ⟨2, ![512, 512]⟩
abbrev S64 : Shape := ⟨1, ![64]⟩
abbrev S1x512x512 : Shape := ⟨3, ![1, 512, 512]⟩
abbrev S64x1 : Shape := ⟨2, ![64, 1]⟩

abbrev nBuf : Space → Nat
  | .hbm => 275
  | .vmem => 0
  | .smem => 0
  | _ => 0

abbrev hbmTy0_0 (i : Nat) : BufTy := match i % 128 with
  | 0 => ⟨S64x512x256, .f32⟩
  | 1 => ⟨S64x512x256, .f32⟩
  | 2 => ⟨S64x512x256, .f32⟩
  | 3 => ⟨S_, .f32⟩
  | 4 => ⟨S64x512, .f32⟩
  | 5 => ⟨S64x512x1, .f32⟩
  | 6 => ⟨S64x512x1, .f32⟩
  | 7 => ⟨S_, .f32⟩
  | 8 => ⟨S_, .f32⟩
  | 9 => ⟨S64x512x1, .f32⟩
  | 10 => ⟨S64x512x1, .f32⟩
  | 11 => ⟨S64x512x256, .f32⟩
  | 12 => ⟨S64x512x256, .f32⟩
  | 13 => ⟨S64x512x256, .f32⟩
  | 14 => ⟨S_, .f32⟩
  | 15 => ⟨S64x512, .f32⟩
  | 16 => ⟨S64x512x1, .f32⟩
  | 17 => ⟨S64x512x1, .f32⟩
  | 18 => ⟨S_, .f32⟩
  | 19 => ⟨S_, .f32⟩
  | 20 => ⟨S64x512x1, .f32⟩
  | 21 => ⟨S64x512x1, .f32⟩
  | 22 => ⟨S64x512x256, .f32⟩
  | 23 => ⟨S64x512x256, .f32⟩
  | 24 => ⟨S64x512x512, .f32⟩
  | 25 => ⟨S_, .f32⟩
  | 26 => ⟨S64x512x512, .f32⟩
  | 27 => ⟨S64x512x512, .f32⟩
  | 28 => ⟨S_, .i32⟩
  | 29 => ⟨S_, .i32⟩
  | 30 => ⟨S64x512x512, .f32⟩
  | 31 => ⟨S_, .i32⟩
  | 32 => ⟨S_, .i32⟩
  | 33 => ⟨S64x512x512, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S64x1x1, .f32⟩
  | 44 => ⟨S_, .i32⟩
  | 45 => ⟨S_, .i32⟩
  | 46 => ⟨S_, .i32⟩
  | 47 => ⟨S_, .i32⟩
  | 48 => ⟨S_, .i32⟩
  | 49 => ⟨S64x1x1, .f32⟩
  | 50 => ⟨S_, .i32⟩
  | 51 => ⟨S_, .i32⟩
  | 52 => ⟨S_, .i32⟩
  | 53 => ⟨S64x1x1, .f32⟩
  | 54 => ⟨S_, .i32⟩
  | 55 => ⟨S_, .i32⟩
  | 56 => ⟨S_, .i32⟩
  | 57 => ⟨S64x1x1, .f32⟩
  | 58 => ⟨S_, .i32⟩
  | 59 => ⟨S_, .i1⟩
  | 60 => ⟨S64x1x1, .f32⟩
  | 61 => ⟨S_, .i32⟩
  | 62 => ⟨S_, .i1⟩
  | 63 => ⟨S64x1x1, .f32⟩
  | 64 => ⟨S64x1x1, .f32⟩
  | 65 => ⟨S64x1x1, .f32⟩
  | 66 => ⟨S64x1x1, .f32⟩
  | 67 => ⟨S64x1x1, .f32⟩
  | 68 => ⟨S64x1x1, .f32⟩
  | 69 => ⟨S_, .i32⟩
  | 70 => ⟨S64x512x512, .f32⟩
  | 71 => ⟨S_, .i32⟩
  | 72 => ⟨S_, .i32⟩
  | 73 => ⟨S512x512, .i32⟩
  | 74 => ⟨S512x512, .i32⟩
  | 75 => ⟨S_, .f32⟩
  | 76 => ⟨S512x512, .f32⟩
  | 77 => ⟨S_, .i32⟩
  | 78 => ⟨S512x512, .i32⟩
  | 79 => ⟨S512x512, .i1⟩
  | 80 => ⟨S_, .i32⟩
  | 81 => ⟨S512x512, .i32⟩
  | 82 => ⟨S512x512, .i1⟩
  | 83 => ⟨S512x512, .i1⟩
  | 84 => ⟨S_, .f32⟩
  | 85 => ⟨S_, .f32⟩
  | 86 => ⟨S512x512, .f32⟩
  | 87 => ⟨S512x512, .f32⟩
  | 88 => ⟨S_, .i32⟩
  | 89 => ⟨S64, .i32⟩
  | 90 => ⟨S_, .i32⟩
  | 91 => ⟨S64, .i32⟩
  | 92 => ⟨S64x512x512, .f32⟩
  | 93 => ⟨S512x512, .i32⟩
  | 94 => ⟨S512x512, .i32⟩
  | 95 => ⟨S64x512x512, .f32⟩
  | 96 => ⟨S64, .i32⟩
  | 97 => ⟨S64, .i32⟩
  | 98 => ⟨S64x512x512, .f32⟩
  | 99 => ⟨S_, .i32⟩
  | 100 => ⟨S64, .i32⟩
  | 101 => ⟨S64, .i1⟩
  | 102 => ⟨S_, .i32⟩
  | 103 => ⟨S64, .i32⟩
  | 104 => ⟨S64, .i1⟩
  | 105 => ⟨S64, .i1⟩
  | 106 => ⟨S_, .i1⟩
  | 107 => ⟨S_, .i1⟩
  | 108 => ⟨S_, .i32⟩
  | 109 => ⟨S64, .i32⟩
  | 110 => ⟨S64, .i32⟩
  | 111 => ⟨S_, .i32⟩
  | 112 => ⟨S64, .i32⟩
  | 113 => ⟨S64, .i32⟩
  | 114 => ⟨S1x512x512, .i32⟩
  | 115 => ⟨S64x1x1, .i32⟩
  | 116 => ⟨S64x512x512, .i32⟩
  | 117 => ⟨S64x512x512, .i32⟩
  | 118 => ⟨S64x512x512, .i1⟩
  | 119 => ⟨S1x512x512, .i32⟩
  | 120 => ⟨S64x1x1, .i32⟩
  | 121 => ⟨S64x512x512, .i32⟩
  | 122 => ⟨S64x512x512, .i32⟩
  | 123 => ⟨S64x512x512, .i1⟩
  | 124 => ⟨S64x512x512, .i1⟩
  | 125 => ⟨S_, .f32⟩
  | 126 => ⟨S_, .f32⟩
  | 127 => ⟨S512x512, .f32⟩
  | _ => ⟨S64x512x256, .f32⟩

abbrev hbmTy0_1 (i : Nat) : BufTy := match i % 128 with
  | 0 => ⟨S64x512x512, .f32⟩
  | 1 => ⟨S64x512x512, .f32⟩
  | 2 => ⟨S_, .f32⟩
  | 3 => ⟨S64, .f32⟩
  | 4 => ⟨S_, .i32⟩
  | 5 => ⟨S64, .i32⟩
  | 6 => ⟨S64, .i32⟩
  | 7 => ⟨S1x512x512, .i32⟩
  | 8 => ⟨S64x1x1, .i32⟩
  | 9 => ⟨S64x512x512, .i32⟩
  | 10 => ⟨S64x512x512, .i32⟩
  | 11 => ⟨S64x512x512, .i1⟩
  | 12 => ⟨S1x512x512, .i32⟩
  | 13 => ⟨S64x1x1, .i32⟩
  | 14 => ⟨S64x512x512, .i32⟩
  | 15 => ⟨S64x512x512, .i32⟩
  | 16 => ⟨S64x512x512, .i1⟩
  | 17 => ⟨S64x512x512, .i1⟩
  | 18 => ⟨S_, .f32⟩
  | 19 => ⟨S_, .f32⟩
  | 20 => ⟨S512x512, .f32⟩
  | 21 => ⟨S64x512x512, .f32⟩
  | 22 => ⟨S64x512x512, .f32⟩
  | 23 => ⟨S_, .f32⟩
  | 24 => ⟨S64, .f32⟩
  | 25 => ⟨S_, .i32⟩
  | 26 => ⟨S64, .i32⟩
  | 27 => ⟨S64, .i32⟩
  | 28 => ⟨S1x512x512, .i32⟩
  | 29 => ⟨S64x1x1, .i32⟩
  | 30 => ⟨S64x512x512, .i32⟩
  | 31 => ⟨S64x512x512, .i32⟩
  | 32 => ⟨S64x512x512, .i1⟩
  | 33 => ⟨S1x512x512, .i32⟩
  | 34 => ⟨S64x1x1, .i32⟩
  | 35 => ⟨S64x512x512, .i32⟩
  | 36 => ⟨S64x512x512, .i32⟩
  | 37 => ⟨S64x512x512, .i1⟩
  | 38 => ⟨S64x512x512, .i1⟩
  | 39 => ⟨S_, .f32⟩
  | 40 => ⟨S_, .f32⟩
  | 41 => ⟨S512x512, .f32⟩
  | 42 => ⟨S64x512x512, .f32⟩
  | 43 => ⟨S64x512x512, .f32⟩
  | 44 => ⟨S_, .f32⟩
  | 45 => ⟨S64, .f32⟩
  | 46 => ⟨S64, .i1⟩
  | 47 => ⟨S64, .i1⟩
  | 48 => ⟨S64, .i1⟩
  | 49 => ⟨S64, .i1⟩
  | 50 => ⟨S64, .i1⟩
  | 51 => ⟨S64, .i1⟩
  | 52 => ⟨S64, .i1⟩
  | 53 => ⟨S_, .i32⟩
  | 54 => ⟨S64, .i32⟩
  | 55 => ⟨S64, .i32⟩
  | 56 => ⟨S64, .i32⟩
  | 57 => ⟨S64, .i1⟩
  | 58 => ⟨S64, .i1⟩
  | 59 => ⟨S_, .i32⟩
  | 60 => ⟨S64, .i32⟩
  | 61 => ⟨S64, .i32⟩
  | 62 => ⟨S64, .i32⟩
  | 63 => ⟨S1x512x512, .i32⟩
  | 64 => ⟨S64x1x1, .i32⟩
  | 65 => ⟨S64x512x512, .i32⟩
  | 66 => ⟨S64x512x512, .i32⟩
  | 67 => ⟨S64x512x512, .i1⟩
  | 68 => ⟨S1x512x512, .i32⟩
  | 69 => ⟨S64x1x1, .i32⟩
  | 70 => ⟨S64x512x512, .i32⟩
  | 71 => ⟨S64x512x512, .i32⟩
  | 72 => ⟨S64x512x512, .i1⟩
  | 73 => ⟨S64x512x512, .i1⟩
  | 74 => ⟨S_, .f32⟩
  | 75 => ⟨S_, .f32⟩
  | 76 => ⟨S512x512, .f32⟩
  | 77 => ⟨S64x512x512, .f32⟩
  | 78 => ⟨S64x512x512, .f32⟩
  | 79 => ⟨S_, .i32⟩
  | 80 => ⟨S64, .i32⟩
  | 81 => ⟨S64, .i1⟩
  | 82 => ⟨S_, .i32⟩
  | 83 => ⟨S64, .i32⟩
  | 84 => ⟨S64, .i1⟩
  | 85 => ⟨S64, .i1⟩
  | 86 => ⟨S64, .i1⟩
  | 87 => ⟨S64, .i32⟩
  | 88 => ⟨S64, .i1⟩
  | 89 => ⟨S64, .i32⟩
  | 90 => ⟨S64x512x512, .i1⟩
  | 91 => ⟨S64x512x512, .f32⟩
  | 92 => ⟨S_, .i32⟩
  | 93 => ⟨S512x512, .i32⟩
  | 94 => ⟨S512x512, .i1⟩
  | 95 => ⟨S_, .i32⟩
  | 96 => ⟨S512x512, .i32⟩
  | 97 => ⟨S512x512, .i1⟩
  | 98 => ⟨S512x512, .i1⟩
  | 99 => ⟨S_, .f32⟩
  | 100 => ⟨S_, .f32⟩
  | 101 => ⟨S512x512, .f32⟩
  | 102 => ⟨S64x512x512, .i1⟩
  | 103 => ⟨S64x512x512, .f32⟩
  | 104 => ⟨S64x512x512, .f32⟩
  | 105 => ⟨S64x512x512, .f32⟩
  | 106 => ⟨S_, .f32⟩
  | 107 => ⟨S64x512, .f32⟩
  | 108 => ⟨S_, .f32⟩
  | 109 => ⟨S64, .f32⟩
  | 110 => ⟨S64, .f32⟩
  | 111 => ⟨S_, .f32⟩
  | 112 => ⟨S64, .f32⟩
  | 113 => ⟨S64, .i1⟩
  | 114 => ⟨S_, .f32⟩
  | 115 => ⟨S_, .f32⟩
  | 116 => ⟨S64, .f32⟩
  | 117 => ⟨S64, .f32⟩
  | 118 => ⟨S64x1, .f32⟩
  | 119 => ⟨S64x512, .f32⟩
  | 120 => ⟨S64x512, .f32⟩
  | 121 => ⟨S64x512, .f32⟩
  | 122 => ⟨S_, .f32⟩
  | 123 => ⟨S64, .f32⟩
  | 124 => ⟨S64, .f32⟩
  | 125 => ⟨S64, .f32⟩
  | 126 => ⟨S_, .f32⟩
  | 127 => ⟨S64x512, .f32⟩
  | _ => ⟨S64x512x256, .f32⟩

abbrev hbmTy0_2 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .i1⟩
  | 6 => ⟨S_, .f32⟩
  | 7 => ⟨S_, .f32⟩
  | 8 => ⟨S64, .f32⟩
  | 9 => ⟨S64, .f32⟩
  | 10 => ⟨S64x1, .f32⟩
  | 11 => ⟨S64x512, .f32⟩
  | 12 => ⟨S64x512, .f32⟩
  | 13 => ⟨S64x512, .f32⟩
  | 14 => ⟨S_, .f32⟩
  | 15 => ⟨S64, .f32⟩
  | 16 => ⟨S64, .f32⟩
  | 17 => ⟨S64, .f32⟩
  | 18 => ⟨S64, .f32⟩
  | _ => ⟨S64x512x256, .f32⟩

abbrev hbmTy (i : Nat) : BufTy := match i / 128 with
  | 0 => hbmTy0_0 i
  | 1 => hbmTy0_1 i
  | 2 => hbmTy0_2 i
  | _ => ⟨S64x512x256, .f32⟩

abbrev bufTy : (tb : Table) → Fin (tcTables nBuf tb) → BufTy
  | .hbm, ⟨i, _⟩ => hbmTy i
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call2_v0 : Ref sig .tc := ⟨.hbm, 13, rfl⟩
abbrev main_call2_cst : Ref sig .tc := ⟨.hbm, 14, rfl⟩
abbrev main_call2_v1 : Ref sig .tc := ⟨.hbm, 15, rfl⟩
abbrev main_call2_v2 : Ref sig .tc := ⟨.hbm, 16, rfl⟩
abbrev main_v4 : Ref sig .tc := ⟨.hbm, 17, rfl⟩
abbrev main_cst_0 : Ref sig .tc := ⟨.hbm, 18, rfl⟩
abbrev main_call3_v0 : Ref sig .tc := ⟨.hbm, 19, rfl⟩
abbrev main_call3_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_c_2 : Ref sig .tc := ⟨.hbm, 29, rfl⟩
abbrev main_v11_0 : Ref sig .tc := ⟨.hbm, 30, rfl⟩
abbrev main_v11_1 : Ref sig .tc := ⟨.hbm, 31, rfl⟩
abbrev main_v11_2 : Ref sig .tc := ⟨.hbm, 32, rfl⟩
abbrev main_v11_3 : Ref sig .tc := ⟨.hbm, 33, rfl⟩
abbrev main_while0c_c_25 : Ref sig .tc := ⟨.hbm, 34, rfl⟩
abbrev main_while0c_v59 : Ref sig .tc := ⟨.hbm, 35, rfl⟩
abbrev main_while0b_c_25 : Ref sig .tc := ⟨.hbm, 36, rfl⟩
abbrev main_while0b_v59 : Ref sig .tc := ⟨.hbm, 37, rfl⟩
abbrev main_while0b_c_26 : Ref sig .tc := ⟨.hbm, 38, rfl⟩
abbrev main_while0b_v60 : Ref sig .tc := ⟨.hbm, 39, rfl⟩
abbrev main_while0b_c_27 : Ref sig .tc := ⟨.hbm, 40, rfl⟩
abbrev main_while0b_v61 : Ref sig .tc := ⟨.hbm, 41, rfl⟩
abbrev main_while0b_c_28 : Ref sig .tc := ⟨.hbm, 42, rfl⟩
abbrev main_while0b_v62 : Ref sig .tc := ⟨.hbm, 43, rfl⟩
abbrev main_while0b_c_29 : Ref sig .tc := ⟨.hbm, 44, rfl⟩
abbrev main_while0b_v63 : Ref sig .tc := ⟨.hbm, 45, rfl⟩
abbrev main_while0b_c_30 : Ref sig .tc := ⟨.hbm, 46, rfl⟩
abbrev main_while0b_v64 : Ref sig .tc := ⟨.hbm, 47, rfl⟩
abbrev main_while0b_c_31 : Ref sig .tc := ⟨.hbm, 48, rfl⟩
abbrev main_while0b_v65 : Ref sig .tc := ⟨.hbm, 49, rfl⟩
abbrev main_while0b_c_32 : Ref sig .tc := ⟨.hbm, 50, rfl⟩
abbrev main_while0b_v66 : Ref sig .tc := ⟨.hbm, 51, rfl⟩
abbrev main_while0b_c_33 : Ref sig .tc := ⟨.hbm, 52, rfl⟩
abbrev main_while0b_v67 : Ref sig .tc := ⟨.hbm, 53, rfl⟩
abbrev main_while0b_c_34 : Ref sig .tc := ⟨.hbm, 54, rfl⟩
abbrev main_while0b_v68 : Ref sig .tc := ⟨.hbm, 55, rfl⟩
abbrev main_while0b_c_35 : Ref sig .tc := ⟨.hbm, 56, rfl⟩
abbrev main_while0b_v69 : Ref sig .tc := ⟨.hbm, 57, rfl⟩
abbrev main_while0b_c_36 : Ref sig .tc := ⟨.hbm, 58, rfl⟩
abbrev main_while0b_v70 : Ref sig .tc := ⟨.hbm, 59, rfl⟩
abbrev main_while0b_v71 : Ref sig .tc := ⟨.hbm, 60, rfl⟩
abbrev main_while0b_c_37 : Ref sig .tc := ⟨.hbm, 61, rfl⟩
abbrev main_while0b_v72 : Ref sig .tc := ⟨.hbm, 62, rfl⟩
abbrev main_while0b_v73 : Ref sig .tc := ⟨.hbm, 63, rfl⟩
abbrev main_while0b_v74 : Ref sig .tc := ⟨.hbm, 64, rfl⟩
abbrev main_while0b_v75 : Ref sig .tc := ⟨.hbm, 65, rfl⟩
abbrev main_while0b_v76 : Ref sig .tc := ⟨.hbm, 66, rfl⟩
abbrev main_while0b_v77 : Ref sig .tc := ⟨.hbm, 67, rfl⟩
abbrev main_while0b_v78 : Ref sig .tc := ⟨.hbm, 68, rfl⟩
abbrev main_while0b_c_38 : Ref sig .tc := ⟨.hbm, 69, rfl⟩
abbrev main_while0b_v79 : Ref sig .tc := ⟨.hbm, 70, rfl⟩
abbrev main_while0b_c_39 : Ref sig .tc := ⟨.hbm, 71, rfl⟩
abbrev main_while0b_v80 : Ref sig .tc := ⟨.hbm, 72, rfl⟩
abbrev main_v12 : Ref sig .tc := ⟨.hbm, 73, rfl⟩
abbrev main_v13 : Ref sig .tc := ⟨.hbm, 74, rfl⟩
abbrev main_cst_3 : Ref sig .tc := ⟨.hbm, 75, rfl⟩
abbrev main_v14 : Ref sig .tc := ⟨.hbm, 76, rfl⟩
abbrev main_c_4 : Ref sig .tc := ⟨.hbm, 77, rfl⟩
abbrev main_v15 : Ref sig .tc := ⟨.hbm, 78, rfl⟩
abbrev main_v16 : Ref sig .tc := ⟨.hbm, 79, rfl⟩
abbrev main_c_5 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_cst_6 : Ref sig .tc := ⟨.hbm, 84, rfl⟩
abbrev main_call6_v0 : Ref sig .tc := ⟨.hbm, 85, rfl⟩
abbrev main_call6_v1 : Ref sig .tc := ⟨.hbm, 86, rfl⟩
abbrev main_v20 : Ref sig .tc := ⟨.hbm, 87, rfl⟩
abbrev main_c_7 : Ref sig .tc := ⟨.hbm, 88, rfl⟩
abbrev main_v21 : Ref sig .tc := ⟨.hbm, 89, rfl⟩
abbrev main_c_8 : Ref sig .tc := ⟨.hbm, 90, rfl⟩
abbrev main_v22 : Ref sig .tc := ⟨.hbm, 91, rfl⟩
abbrev main_v23 : Ref sig .tc := ⟨.hbm, 92, rfl⟩
abbrev main_v24_0 : Ref sig .tc := ⟨.hbm, 93, rfl⟩
abbrev main_v24_1 : Ref sig .tc := ⟨.hbm, 94, rfl⟩
abbrev main_v24_2 : Ref sig .tc := ⟨.hbm, 95, rfl⟩
abbrev main_v24_3 : Ref sig .tc := ⟨.hbm, 96, rfl⟩
abbrev main_v24_4 : Ref sig .tc := ⟨.hbm, 97, rfl⟩
abbrev main_v24_5 : Ref sig .tc := ⟨.hbm, 98, rfl⟩
abbrev main_while1c_c_27 : Ref sig .tc := ⟨.hbm, 99, rfl⟩
abbrev main_while1c_v59 : Ref sig .tc := ⟨.hbm, 100, rfl⟩
abbrev main_while1c_v60 : Ref sig .tc := ⟨.hbm, 101, rfl⟩
abbrev main_while1c_c_28 : Ref sig .tc := ⟨.hbm, 102, rfl⟩
abbrev main_while1c_v61 : Ref sig .tc := ⟨.hbm, 103, rfl⟩
abbrev main_while1c_v62 : Ref sig .tc := ⟨.hbm, 104, rfl⟩
abbrev main_while1c_v63 : Ref sig .tc := ⟨.hbm, 105, rfl⟩
abbrev main_while1c_c_29 : Ref sig .tc := ⟨.hbm, 106, rfl⟩
abbrev main_while1c_v64 : Ref sig .tc := ⟨.hbm, 107, rfl⟩
abbrev main_while1b_c_27 : Ref sig .tc := ⟨.hbm, 108, rfl⟩
abbrev main_while1b_v59 : Ref sig .tc := ⟨.hbm, 109, rfl⟩
abbrev main_while1b_v60 : Ref sig .tc := ⟨.hbm, 110, rfl⟩
abbrev main_while1b_c_28 : Ref sig .tc := ⟨.hbm, 111, rfl⟩
abbrev main_while1b_v61 : Ref sig .tc := ⟨.hbm, 112, rfl⟩
abbrev main_while1b_v62 : Ref sig .tc := ⟨.hbm, 113, rfl⟩
abbrev main_while1b_v63 : Ref sig .tc := ⟨.hbm, 114, rfl⟩
abbrev main_while1b_v64 : Ref sig .tc := ⟨.hbm, 115, rfl⟩
abbrev main_while1b_v65 : Ref sig .tc := ⟨.hbm, 116, rfl⟩
abbrev main_while1b_v66 : Ref sig .tc := ⟨.hbm, 117, rfl⟩
abbrev main_while1b_v67 : Ref sig .tc := ⟨.hbm, 118, rfl⟩
abbrev main_while1b_v68 : Ref sig .tc := ⟨.hbm, 119, rfl⟩
abbrev main_while1b_v69 : Ref sig .tc := ⟨.hbm, 120, rfl⟩
abbrev main_while1b_v70 : Ref sig .tc := ⟨.hbm, 121, rfl⟩
abbrev main_while1b_v71 : Ref sig .tc := ⟨.hbm, 122, rfl⟩
abbrev main_while1b_v72 : Ref sig .tc := ⟨.hbm, 123, rfl⟩
abbrev main_while1b_v73 : Ref sig .tc := ⟨.hbm, 124, rfl⟩
abbrev main_while1b_cst_29 : Ref sig .tc := ⟨.hbm, 125, rfl⟩
abbrev main_while1b_call7_v0 : Ref sig .tc := ⟨.hbm, 126, rfl⟩
abbrev main_while1b_call7_v1 : Ref sig .tc := ⟨.hbm, 127, rfl⟩
abbrev main_while1b_call7_v2 : Ref sig .tc := ⟨.hbm, 128, rfl⟩
abbrev main_while1b_v74 : Ref sig .tc := ⟨.hbm, 129, rfl⟩
abbrev main_while1b_cst_30 : Ref sig .tc := ⟨.hbm, 130, rfl⟩
abbrev main_while1b_v75 : Ref sig .tc := ⟨.hbm, 131, rfl⟩
abbrev main_while1b_c_31 : Ref sig .tc := ⟨.hbm, 132, rfl⟩
abbrev main_while1b_v76 : Ref sig .tc := ⟨.hbm, 133, rfl⟩
abbrev main_while1b_v77 : Ref sig .tc := ⟨.hbm, 134, rfl⟩
abbrev main_while1b_v78 : Ref sig .tc := ⟨.hbm, 135, rfl⟩
abbrev main_while1b_v79 : Ref sig .tc := ⟨.hbm, 136, rfl⟩
abbrev main_while1b_v80 : Ref sig .tc := ⟨.hbm, 137, rfl⟩
abbrev main_while1b_v81 : Ref sig .tc := ⟨.hbm, 138, rfl⟩
abbrev main_while1b_v82 : Ref sig .tc := ⟨.hbm, 139, rfl⟩
abbrev main_while1b_v83 : Ref sig .tc := ⟨.hbm, 140, rfl⟩
abbrev main_while1b_v84 : Ref sig .tc := ⟨.hbm, 141, rfl⟩
abbrev main_while1b_v85 : Ref sig .tc := ⟨.hbm, 142, rfl⟩
abbrev main_while1b_v86 : Ref sig .tc := ⟨.hbm, 143, rfl⟩
abbrev main_while1b_v87 : Ref sig .tc := ⟨.hbm, 144, rfl⟩
abbrev main_while1b_v88 : Ref sig .tc := ⟨.hbm, 145, rfl⟩
abbrev main_while1b_cst_32 : Ref sig .tc := ⟨.hbm, 146, rfl⟩
abbrev main_while1b_call8_v0 : Ref sig .tc := ⟨.hbm, 147, rfl⟩
abbrev main_while1b_call8_v1 : Ref sig .tc := ⟨.hbm, 148, rfl⟩
abbrev main_while1b_call8_v2 : Ref sig .tc := ⟨.hbm, 149, rfl⟩
abbrev main_while1b_v89 : Ref sig .tc := ⟨.hbm, 150, rfl⟩
abbrev main_while1b_cst_33 : Ref sig .tc := ⟨.hbm, 151, rfl⟩
abbrev main_while1b_v90 : Ref sig .tc := ⟨.hbm, 152, rfl⟩
abbrev main_while1b_c_34 : Ref sig .tc := ⟨.hbm, 153, rfl⟩
abbrev main_while1b_v91 : Ref sig .tc := ⟨.hbm, 154, rfl⟩
abbrev main_while1b_v92 : Ref sig .tc := ⟨.hbm, 155, rfl⟩
abbrev main_while1b_v93 : Ref sig .tc := ⟨.hbm, 156, rfl⟩
abbrev main_while1b_v94 : Ref sig .tc := ⟨.hbm, 157, rfl⟩
abbrev main_while1b_v95 : Ref sig .tc := ⟨.hbm, 158, rfl⟩
abbrev main_while1b_v96 : Ref sig .tc := ⟨.hbm, 159, rfl⟩
abbrev main_while1b_v97 : Ref sig .tc := ⟨.hbm, 160, rfl⟩
abbrev main_while1b_v98 : Ref sig .tc := ⟨.hbm, 161, rfl⟩
abbrev main_while1b_v99 : Ref sig .tc := ⟨.hbm, 162, rfl⟩
abbrev main_while1b_v100 : Ref sig .tc := ⟨.hbm, 163, rfl⟩
abbrev main_while1b_v101 : Ref sig .tc := ⟨.hbm, 164, rfl⟩
abbrev main_while1b_v102 : Ref sig .tc := ⟨.hbm, 165, rfl⟩
abbrev main_while1b_v103 : Ref sig .tc := ⟨.hbm, 166, rfl⟩
abbrev main_while1b_cst_35 : Ref sig .tc := ⟨.hbm, 167, rfl⟩
abbrev main_while1b_call9_v0 : Ref sig .tc := ⟨.hbm, 168, rfl⟩
abbrev main_while1b_call9_v1 : Ref sig .tc := ⟨.hbm, 169, rfl⟩
abbrev main_while1b_call9_v2 : Ref sig .tc := ⟨.hbm, 170, rfl⟩
abbrev main_while1b_v104 : Ref sig .tc := ⟨.hbm, 171, rfl⟩
abbrev main_while1b_cst_36 : Ref sig .tc := ⟨.hbm, 172, rfl⟩
abbrev main_while1b_v105 : Ref sig .tc := ⟨.hbm, 173, rfl⟩
abbrev main_while1b_v106 : Ref sig .tc := ⟨.hbm, 174, rfl⟩
abbrev main_while1b_v107 : Ref sig .tc := ⟨.hbm, 175, rfl⟩
abbrev main_while1b_v108 : Ref sig .tc := ⟨.hbm, 176, rfl⟩
abbrev main_while1b_v109 : Ref sig .tc := ⟨.hbm, 177, rfl⟩
abbrev main_while1b_v110 : Ref sig .tc := ⟨.hbm, 178, rfl⟩
abbrev main_while1b_v111 : Ref sig .tc := ⟨.hbm, 179, rfl⟩
abbrev main_while1b_v112 : Ref sig .tc := ⟨.hbm, 180, rfl⟩
abbrev main_while1b_c_37 : Ref sig .tc := ⟨.hbm, 181, rfl⟩
abbrev main_while1b_v113 : Ref sig .tc := ⟨.hbm, 182, rfl⟩
abbrev main_while1b_v114 : Ref sig .tc := ⟨.hbm, 183, rfl⟩
abbrev main_while1b_v115 : Ref sig .tc := ⟨.hbm, 184, rfl⟩
abbrev main_while1b_v116 : Ref sig .tc := ⟨.hbm, 185, rfl⟩
abbrev main_while1b_v117 : Ref sig .tc := ⟨.hbm, 186, rfl⟩
abbrev main_while1b_c_38 : Ref sig .tc := ⟨.hbm, 187, rfl⟩
abbrev main_while1b_v118 : Ref sig .tc := ⟨.hbm, 188, rfl⟩
abbrev main_while1b_v119 : Ref sig .tc := ⟨.hbm, 189, rfl⟩
abbrev main_while1b_v120 : Ref sig .tc := ⟨.hbm, 190, rfl⟩
abbrev main_while1b_v121 : Ref sig .tc := ⟨.hbm, 191, rfl⟩
abbrev main_while1b_v122 : Ref sig .tc := ⟨.hbm, 192, rfl⟩
abbrev main_while1b_v123 : Ref sig .tc := ⟨.hbm, 193, rfl⟩
abbrev main_while1b_v124 : Ref sig .tc := ⟨.hbm, 194, rfl⟩
abbrev main_while1b_v125 : Ref sig .tc := ⟨.hbm, 195, rfl⟩
abbrev main_while1b_v126 : Ref sig .tc := ⟨.hbm, 196, rfl⟩
abbrev main_while1b_v127 : Ref sig .tc := ⟨.hbm, 197, rfl⟩
abbrev main_while1b_v128 : Ref sig .tc := ⟨.hbm, 198, rfl⟩
abbrev main_while1b_v129 : Ref sig .tc := ⟨.hbm, 199, rfl⟩
abbrev main_while1b_v130 : Ref sig .tc := ⟨.hbm, 200, rfl⟩
abbrev main_while1b_v131 : Ref sig .tc := ⟨.hbm, 201, rfl⟩
abbrev main_while1b_cst_39 : Ref sig .tc := ⟨.hbm, 202, rfl⟩
abbrev main_while1b_call12_v0 : Ref sig .tc := ⟨.hbm, 203, rfl⟩
abbrev main_while1b_call12_v1 : Ref sig .tc := ⟨.hbm, 204, rfl⟩
abbrev main_while1b_call12_v2 : Ref sig .tc := ⟨.hbm, 205, rfl⟩
abbrev main_while1b_v132 : Ref sig .tc := ⟨.hbm, 206, rfl⟩
abbrev main_while1b_c_40 : Ref sig .tc := ⟨.hbm, 207, rfl⟩
abbrev main_while1b_v133 : Ref sig .tc := ⟨.hbm, 208, rfl⟩
abbrev main_while1b_v134 : Ref sig .tc := ⟨.hbm, 209, rfl⟩
abbrev main_while1b_c_41 : Ref sig .tc := ⟨.hbm, 210, rfl⟩
abbrev main_while1b_v135 : Ref sig .tc := ⟨.hbm, 211, rfl⟩
abbrev main_while1b_v136 : Ref sig .tc := ⟨.hbm, 212, rfl⟩
abbrev main_while1b_v137 : Ref sig .tc := ⟨.hbm, 213, rfl⟩
abbrev main_while1b_v138 : Ref sig .tc := ⟨.hbm, 214, rfl⟩
abbrev main_while1b_v139 : Ref sig .tc := ⟨.hbm, 215, rfl⟩
abbrev main_while1b_v140 : Ref sig .tc := ⟨.hbm, 216, rfl⟩
abbrev main_while1b_v141 : Ref sig .tc := ⟨.hbm, 217, rfl⟩
abbrev main_while1b_v142 : Ref sig .tc := ⟨.hbm, 218, rfl⟩
abbrev main_while1b_v143 : Ref sig .tc := ⟨.hbm, 219, rfl⟩
abbrev main_c_9 : Ref sig .tc := ⟨.hbm, 220, rfl⟩
abbrev main_v25 : Ref sig .tc := ⟨.hbm, 221, rfl⟩
abbrev main_v26 : Ref sig .tc := ⟨.hbm, 222, rfl⟩
abbrev main_c_10 : Ref sig .tc := ⟨.hbm, 223, rfl⟩
abbrev main_v27 : Ref sig .tc := ⟨.hbm, 224, rfl⟩
abbrev main_v28 : Ref sig .tc := ⟨.hbm, 225, rfl⟩
abbrev main_v29 : Ref sig .tc := ⟨.hbm, 226, rfl⟩
abbrev main_cst_11 : Ref sig .tc := ⟨.hbm, 227, rfl⟩
abbrev main_call13_v0 : Ref sig .tc := ⟨.hbm, 228, rfl⟩
abbrev main_call13_v1 : Ref sig .tc := ⟨.hbm, 229, rfl⟩
abbrev main_call13_v2 : Ref sig .tc := ⟨.hbm, 230, rfl⟩
abbrev main_call13_v3 : Ref sig .tc := ⟨.hbm, 231, rfl⟩
abbrev main_v30 : Ref sig .tc := ⟨.hbm, 232, rfl⟩
abbrev main_v31 : Ref sig .tc := ⟨.hbm, 233, rfl⟩
abbrev main_cst_12 : Ref sig .tc := ⟨.hbm, 234, rfl⟩
abbrev main_v32 : Ref sig .tc := ⟨.hbm, 235, rfl⟩
abbrev main_cst_13 : Ref sig .tc := ⟨.hbm, 236, rfl⟩
abbrev main_v33 : Ref sig .tc := ⟨.hbm, 237, rfl⟩
abbrev main_v34 : Ref sig .tc := ⟨.hbm, 238, rfl⟩
abbrev main_cst_14 : Ref sig .tc := ⟨.hbm, 239, rfl⟩
abbrev main_v35 : Ref sig .tc := ⟨.hbm, 240, rfl⟩
abbrev main_v36 : Ref sig .tc := ⟨.hbm, 241, rfl⟩
abbrev main_cst_15 : Ref sig .tc := ⟨.hbm, 242, rfl⟩
abbrev main_call14_v0 : Ref sig .tc := ⟨.hbm, 243, rfl⟩
abbrev main_call14_v1 : Ref sig .tc := ⟨.hbm, 244, rfl⟩
abbrev main_v37 : Ref sig .tc := ⟨.hbm, 245, rfl⟩
abbrev main_v38 : Ref sig .tc := ⟨.hbm, 246, rfl⟩
abbrev main_v39 : Ref sig .tc := ⟨.hbm, 247, rfl⟩
abbrev main_v40 : Ref sig .tc := ⟨.hbm, 248, rfl⟩
abbrev main_v41 : Ref sig .tc := ⟨.hbm, 249, rfl⟩
abbrev main_cst_16 : Ref sig .tc := ⟨.hbm, 250, rfl⟩
abbrev main_v42 : Ref sig .tc := ⟨.hbm, 251, rfl⟩
abbrev main_v43 : Ref sig .tc := ⟨.hbm, 252, rfl⟩
abbrev main_v44 : Ref sig .tc := ⟨.hbm, 253, rfl⟩
abbrev main_cst_17 : Ref sig .tc := ⟨.hbm, 254, rfl⟩
abbrev main_v45 : Ref sig .tc := ⟨.hbm, 255, rfl⟩
abbrev main_cst_18 : Ref sig .tc := ⟨.hbm, 256, rfl⟩
abbrev main_v46 : Ref sig .tc := ⟨.hbm, 257, rfl⟩
abbrev main_v47 : Ref sig .tc := ⟨.hbm, 258, rfl⟩
abbrev main_cst_19 : Ref sig .tc := ⟨.hbm, 259, rfl⟩
abbrev main_v48 : Ref sig .tc := ⟨.hbm, 260, rfl⟩
abbrev main_v49 : Ref sig .tc := ⟨.hbm, 261, rfl⟩
abbrev main_cst_20 : Ref sig .tc := ⟨.hbm, 262, rfl⟩
abbrev main_call15_v0 : Ref sig .tc := ⟨.hbm, 263, rfl⟩
abbrev main_call15_v1 : Ref sig .tc := ⟨.hbm, 264, rfl⟩
abbrev main_v50 : Ref sig .tc := ⟨.hbm, 265, rfl⟩
abbrev main_v51 : Ref sig .tc := ⟨.hbm, 266, rfl⟩
abbrev main_v52 : Ref sig .tc := ⟨.hbm, 267, rfl⟩
abbrev main_v53 : Ref sig .tc := ⟨.hbm, 268, rfl⟩
abbrev main_v54 : Ref sig .tc := ⟨.hbm, 269, rfl⟩
abbrev main_cst_21 : Ref sig .tc := ⟨.hbm, 270, rfl⟩
abbrev main_v55 : Ref sig .tc := ⟨.hbm, 271, rfl⟩
abbrev main_v56 : Ref sig .tc := ⟨.hbm, 272, rfl⟩
abbrev main_v57 : Ref sig .tc := ⟨.hbm, 273, rfl⟩
abbrev main_v58 : Ref sig .tc := ⟨.hbm, 274, rfl⟩

abbrev nD : Nat := 1
abbrev τ : Topo := Topo.v7x

variable {F : FTy → Type} [FloatOps F]

abbrev main_while0_count : Scf.Loop 32 := ⟨0#32, 262143#32, 1#32⟩
-- ==== Proof.Words.lean ====
/-
  The word the backtrack loop carries for a cell: row `i` and column `j`, packed as `1024·i + j`. What the kernel
  computes of it (its two halves, whether both are positive, the word one step back) is stated here of `i` and `j`.
-/
module

public import Idealize.ShloMosaic.Lib.Affine
public import Idealize.ShloMosaic.PureOps

@[expose] public section

namespace Cert.Proof

open Idealize.ShloMosaic

/-- Cell `(i, j)` as one word. -/
def cellW (i j : ℕ) : BitVec 32 := BitVec.ofNat 32 (1024 * i + j)

/-- The kernel's test that neither half of a cell's word is zero. -/
def insideW (w : BitVec 32) : BitVec 1 :=
  Scalar.andi (Scalar.cmpi .sgt (Scalar.shrui w 10#32) 0#32) (Scalar.cmpi .sgt (Scalar.andi w 1023#32) 0#32)

/-- The word of the cell one step back, from the two threshold bits `b3` (at least 3) and `b7` (at least 7) of the code
    carried with the cell. -/
def backW (w : BitVec 32) (b3 b7 : BitVec 1) : BitVec 32 :=
  Scalar.subi (Scalar.subi w (Scalar.select (Scalar.andi (insideW w) (Scalar.xori b7 1#1)) 1024#32 0#32))
    (Scalar.select (Scalar.andi (insideW w) (Scalar.ori (Scalar.xori b3 1#1) b7)) 1#32 0#32)

theorem toNat_ofNat_small {n : ℕ} (h : n < 2 ^ 31) : (BitVec.ofNat 32 n).toNat = n := by
  rw [BitVec.toNat_ofNat]; exact Nat.mod_eq_of_lt (by omega)

theorem toInt_ofNat_small {n : ℕ} (h : n < 2 ^ 31) : (BitVec.ofNat 32 n).toInt = n := by
  rw [BitVec.toInt_eq_toNat_of_lt (by rw [toNat_ofNat_small h]; omega), toNat_ofNat_small h]

theorem shrui_cellW {i j : ℕ} (hi : i < 512) (hj : j < 512) : Scalar.shrui (cellW i j) 10#32 = BitVec.ofNat 32 i := by
  apply BitVec.eq_of_toNat_eq
  show (IntOp.shrui .scalar (cellW i j) 10#32).toNat = _
  unfold IntOp.shrui cellW
  rw [if_pos (by decide)]
  rw [toNat_ofNat_small (by omega), BitVec.ushiftRight_eq', BitVec.toNat_ushiftRight, toNat_ofNat_small (by omega)]
  show (1024 * i + j) >>> 10 = i
  rw [Nat.shiftRight_eq_div_pow]; omega

theorem andi_cellW {i j : ℕ} (hi : i < 512) (hj : j < 512) : Scalar.andi (cellW i j) 1023#32 = BitVec.ofNat 32 j := by
  apply BitVec.eq_of_toNat_eq
  show (cellW i j &&& 1023#32).toNat = _
  unfold cellW
  rw [BitVec.toNat_and, toNat_ofNat_small (by omega), toNat_ofNat_small (by omega), toNat_ofNat_small (by omega)]
  show (1024 * i + j) &&& (2 ^ 10 - 1) = j
  rw [Nat.and_two_pow_sub_one_eq_mod]; omega

theorem sgt_zero_ofNat {n : ℕ} (h : n < 2 ^ 31) : Scalar.cmpi .sgt (BitVec.ofNat 32 n) 0#32 = BitVec.ofBool (decide (0 < n)) := by
  show BitVec.ofBool ((0#32).slt (BitVec.ofNat 32 n)) = _
  congr 1
  rw [BitVec.slt_eq_decide, toInt_ofNat_small h]
  simp

theorem insideW_cellW {i j : ℕ} (hi : i < 512) (hj : j < 512) : insideW (cellW i j) = BitVec.ofBool (decide (0 < i ∧ 0 < j)) := by
  unfold insideW
  rw [shrui_cellW hi hj, andi_cellW hi hj, sgt_zero_ofNat (by omega), sgt_zero_ofNat (by omega)]
  rcases Nat.eq_zero_or_pos i with h | h <;> rcases Nat.eq_zero_or_pos j with h' | h' <;> simp [h, h', Scalar.andi, IntOp.andi]

/-- Where the cell one step back lies: unmoved outside the interior, else by the two bits. -/
def backI (i j : ℕ) (b7 : BitVec 1) : ℕ := if 0 < i ∧ 0 < j ∧ b7 = 0#1 then i - 1 else i
/-- Its column. -/
def backJ (i j : ℕ) (b3 b7 : BitVec 1) : ℕ := if 0 < i ∧ 0 < j ∧ (b3 = 0#1 ∨ b7 = 1#1) then j - 1 else j

theorem backI_le (i j : ℕ) (b7 : BitVec 1) : backI i j b7 ≤ i := by unfold backI; split <;> omega
theorem backJ_le (i j : ℕ) (b3 b7 : BitVec 1) : backJ i j b3 b7 ≤ j := by unfold backJ; split <;> omega

theorem cellW_sub {a b : ℕ} (h : b ≤ a) (ha : a < 2 ^ 31) : BitVec.ofNat 32 a - BitVec.ofNat 32 b = BitVec.ofNat 32 (a - b) := by
  apply BitVec.eq_of_toNat_eq
  rw [BitVec.toNat_sub, toNat_ofNat_small ha, toNat_ofNat_small (by omega), toNat_ofNat_small (by omega)]
  omega

theorem backW_cellW {i j : ℕ} (hi : i < 512) (hj : j < 512) (b3 b7 : BitVec 1) :
    backW (cellW i j) b3 b7 = cellW (backI i j b7) (backJ i j b3 b7) := by
  have key : ∀ c d : Bool, (c = true → 1024 ≤ 1024 * i) → (d = true → 1 ≤ j) →
      Scalar.subi (Scalar.subi (cellW i j) (Scalar.select (BitVec.ofBool c) 1024#32 0#32)) (Scalar.select (BitVec.ofBool d) 1#32 0#32)
        = cellW (if c then i - 1 else i) (if d then j - 1 else j) := by
    intro c d hc hd
    show (BitVec.ofNat 32 (1024 * i + j) - _) - _ = _
    have e1 : Scalar.select (BitVec.ofBool c) 1024#32 0#32 = BitVec.ofNat 32 (if c then 1024 else 0) := by cases c <;> rfl
    have e2 : Scalar.select (BitVec.ofBool d) 1#32 0#32 = BitVec.ofNat 32 (if d then 1 else 0) := by cases d <;> rfl
    rw [e1, e2]
    rw [cellW_sub (by cases c <;> simp at hc ⊢; omega) (by omega),
      cellW_sub (by cases c <;> cases d <;> simp at hc hd ⊢ <;> omega) (by omega)]
    unfold cellW
    congr 1
    cases c <;> cases d <;> simp at hc hd ⊢ <;> omega
  unfold backW
  rw [insideW_cellW hi hj]
  have e7 : Scalar.andi (BitVec.ofBool (decide (0 < i ∧ 0 < j))) (Scalar.xori b7 1#1) = BitVec.ofBool (decide (0 < i ∧ 0 < j ∧ b7 = 0#1)) := by
    by_cases h1 : 0 < i <;> by_cases h2 : 0 < j <;> rcases BitVec.eq_zero_or_eq_one b7 with h | h <;> subst h <;> simp [h1, h2, Scalar.andi, IntOp.andi, Scalar.xori, IntOp.xori]
  have e3 : Scalar.andi (BitVec.ofBool (decide (0 < i ∧ 0 < j))) (Scalar.ori (Scalar.xori b3 1#1) b7)
      = BitVec.ofBool (decide (0 < i ∧ 0 < j ∧ (b3 = 0#1 ∨ b7 = 1#1))) := by
    by_cases h1 : 0 < i <;> by_cases h2 : 0 < j <;> rcases BitVec.eq_zero_or_eq_one b7 with h | h <;> rcases BitVec.eq_zero_or_eq_one b3 with h' | h' <;> subst h <;> subst h' <;>
      simp [h1, h2, Scalar.andi, IntOp.andi, Scalar.xori, IntOp.xori, Scalar.ori, IntOp.ori]
  rw [e7, e3, key _ _ (by simp; omega) (by simp; omega)]
  unfold backI backJ
  simp only [decide_eq_true_eq]

theorem backI_lt {i j : ℕ} (hi : i < 512) (b7 : BitVec 1) : backI i j b7 < 512 := lt_of_le_of_lt (backI_le _ _ _) hi
theorem backJ_lt {i j : ℕ} (hj : j < 512) (b3 b7 : BitVec 1) : backJ i j b3 b7 < 512 := lt_of_le_of_lt (backJ_le _ _ _ _) hj

theorem addi_ofNat {a b : ℕ} (h : a + b < 2 ^ 31) : Scalar.addi (BitVec.ofNat 32 a) (BitVec.ofNat 32 b) = BitVec.ofNat 32 (a + b) := by
  apply BitVec.eq_of_toNat_eq
  show (BitVec.ofNat 32 a + BitVec.ofNat 32 b).toNat = _
  rw [BitVec.toNat_add, toNat_ofNat_small (by omega), toNat_ofNat_small (by omega), toNat_ofNat_small h]; omega

theorem subi_ofNat {a b : ℕ} (h : b ≤ a) (ha : a < 2 ^ 31) : Scalar.subi (BitVec.ofNat 32 a) (BitVec.ofNat 32 b) = BitVec.ofNat 32 (a - b) :=
  cellW_sub h ha

private theorem msb_small {n : ℕ} (h : n < 2 ^ 31) : (BitVec.ofNat 32 n).msb = false := by
  rw [BitVec.msb_eq_decide, toNat_ofNat_small h]; simp; omega

theorem divsi_ofNat {a b : ℕ} (ha : a < 2 ^ 31) (hb : b < 2 ^ 31) (h0 : 0 < b) :
    Scalar.divsi (BitVec.ofNat 32 a) (BitVec.ofNat 32 b) = BitVec.ofNat 32 (a / b) := by
  have h := Affine.divsi (a := BitVec.ofNat 32 a) (b := BitVec.ofNat 32 b) (e := ((a / b : ℕ) : ℤ))
    (Affine.ofNat (e := (a : ℤ)) a ⟨rfl, ha⟩) (Affine.ofNat (e := (b : ℤ)) b ⟨rfl, hb⟩)
    ⟨by push_cast; rfl, by omega, by omega⟩
  have := Affine.toNat_of h (Int.natCast_nonneg _)
  exact BitVec.eq_of_toNat_eq (by rw [toNat_ofNat_small (lt_of_le_of_lt (Nat.div_le_self _ _) ha)]; exact_mod_cast this)

theorem remsi_ofNat {a b : ℕ} (ha : a < 2 ^ 31) (hb : b < 2 ^ 31) (h0 : 0 < b) :
    Scalar.remsi (BitVec.ofNat 32 a) (BitVec.ofNat 32 b) = BitVec.ofNat 32 (a % b) := by
  have h := Affine.remsi (a := BitVec.ofNat 32 a) (b := BitVec.ofNat 32 b) (e := ((a % b : ℕ) : ℤ))
    (Affine.ofNat (e := (a : ℤ)) a ⟨rfl, ha⟩) (Affine.ofNat (e := (b : ℤ)) b ⟨rfl, hb⟩)
    ⟨by push_cast; rfl, by omega, by omega⟩
  have := Affine.toNat_of h (Int.natCast_nonneg _)
  exact BitVec.eq_of_toNat_eq (by rw [toNat_ofNat_small (lt_of_le_of_lt (Nat.mod_le _ _) ha)]; exact_mod_cast this)

theorem eq_zero_ofNat {n : ℕ} (h : n < 2 ^ 31) : Scalar.cmpi .eq (BitVec.ofNat 32 n) 0#32 = BitVec.ofBool (decide (n = 0)) := by
  show BitVec.ofBool (BitVec.ofNat 32 n == 0#32) = _
  congr 1
  rw [Bool.eq_iff_iff, beq_iff_eq, decide_eq_true_eq]
  constructor
  · intro hh
    have := congrArg BitVec.toNat hh
    rwa [toNat_ofNat_small h] at this
  · rintro rfl; rfl

/-- A cell's word whose halves are inside the table. -/
def CellOk (w : BitVec 32) : Prop := ∃ i j : ℕ, i < 512 ∧ j < 512 ∧ w = cellW i j

theorem CellOk.back {w : BitVec 32} (h : CellOk w) (b3 b7 : BitVec 1) : CellOk (backW w b3 b7) := by
  obtain ⟨i, j, hi, hj, rfl⟩ := h
  exact ⟨_, _, backI_lt hi b7, backJ_lt hj b3 b7, backW_cellW hi hj b3 b7⟩

/-- The last cell. -/
theorem cellOk_last : CellOk (Scalar.addi (Scalar.muli 511#32 1024#32) 511#32) := ⟨511, 511, by omega, by omega, by decide⟩

end Cert.Proof
-- ==== Proof.Model.lean ====
/-
  What the kernel computes of one block, said once for every float instance: the skewed cost table of a sample, the
  diagonal-by-diagonal dynamic programme over it, the code it leaves in each cell, and the walk back from the last cell.
-/
module

public import proofs.«01_k».proof.Proof.Words

@[expose] public section

noncomputable section

namespace Cert.Proof

open Idealize.ShloMosaic

/-- One sample's values along a diagonal: lane `i` is the cell of row `i`. -/
abbrev Lane (F : FTy → Type) := Fin 512 → F .f32

variable {F : FTy → Type} [FloatOps F]

/-- The value outside the table. -/
def infF : F .f32 := FloatOps.ofBits .f32 0x7F800000#32
/-- Zero. -/
def zeroF : F .f32 := FloatOps.ofBits .f32 0x00000000#32

/-- The skewed table of a sample: its cost transposed (`c j i`), read along diagonals; outside it, `infF`. -/
def skewed (c : Fin 512 → Fin 512 → F .f32) (q : ℕ) : Lane F := fun i =>
  if h : (q + 1024 - i.val) % 1024 < 512 then c ⟨(q + 1024 - i.val) % 1024, h⟩ i else infF

/-- A diagonal moved one lane up. -/
def shiftUp (p : Lane F) : Lane F := fun i => if i.val = 0 then infF else p ⟨i.val - 1, by omega⟩

/-- One cell of the dynamic programme from its cost and its three neighbours: diagonal, up, left. -/
def dpCell (w a b c : F .f32) : F .f32 := FloatOps.addf w (FloatOps.minimumf a (FloatOps.minimumf b c))

/-- The cell's cost with the choice among the three neighbours added to it: 0 diagonal, 4 up, 8 left. -/
def dpCode (w a b c : F .f32) : F .f32 :=
  FloatOps.addf w (Scalar.select (FloatOps.cmpf .ole a (FloatOps.minimumf b c)) (FloatOps.ofBits .f32 0x00000000#32)
    (Scalar.select (IntOp.andi (IntOp.xori (FloatOps.cmpf .ole a (FloatOps.minimumf b c)) 1#1) (FloatOps.cmpf .ole b c))
      (FloatOps.ofBits .f32 0x40800000#32) (FloatOps.ofBits .f32 0x41000000#32)))

/-- The last two diagonals after `k` steps. -/
def dpPair (W : ℕ → Lane F) : ℕ → Lane F × Lane F
  | 0 => (fun i => if i.val = 0 then W 0 i else infF, fun _ => infF)
  | k + 1 => (fun i => dpCell (W (k + 1) i) (shiftUp (dpPair W k).2 i) (shiftUp (dpPair W k).1 i) ((dpPair W k).1 i),
      (dpPair W k).1)

/-- The coded table: cost and choice of the cell of diagonal `q` in row `i`. -/
def coded (W : ℕ → Lane F) : ℕ → Lane F
  | 0 => W 0
  | k + 1 => fun i => dpCode (W (k + 1) i) (shiftUp (dpPair W k).2 i) (shiftUp (dpPair W k).1 i) ((dpPair W k).1 i)

/-- Whether a coded value is at least 3. -/
def bit3 (e : F .f32) : BitVec 1 := Scalar.cmpf .oge e (Scalar.ofBits .f32 0x40400000#32)
/-- Whether a coded value is at least 7. -/
def bit7 (e : F .f32) : BitVec 1 := Scalar.cmpf .oge e (Scalar.ofBits .f32 0x40E00000#32)
/-- The cost in a coded value. -/
def uncode (e : F .f32) : F .f32 :=
  Scalar.subf (Scalar.subf e (Scalar.mulf (Scalar.ofBits .f32 0x40800000#32) (Scalar.sitofp .f32 (Scalar.extui (bit3 e)))))
    (Scalar.mulf (Scalar.ofBits .f32 0x40800000#32) (Scalar.sitofp .f32 (Scalar.extui (bit7 e))))

/-- Where a sample's walk stands: the cell, and the coded value there. -/
structure Walk (F : FTy → Type) where
  i : ℕ
  j : ℕ
  e : F .f32

/-- One step back through the coded table `X`, whose first cell holds `s0`. -/
def Walk.step (X : ℕ → Lane F) (s0 : F .f32) (s : Walk F) : Walk F :=
  let i' := backI s.i s.j (bit7 s.e)
  let j' := backJ s.i s.j (bit3 s.e) (bit7 s.e)
  ⟨i', j', if i' + j' = 0 then s0 else X (i' + j') ⟨i' % 512, Nat.mod_lt _ (by decide)⟩⟩

/-- The walk after `n` steps from the last cell, where the coded value is `e0`. -/
def walkAt (X : ℕ → Lane F) (s0 e0 : F .f32) : ℕ → Walk F
  | 0 => ⟨511, 511, e0⟩
  | n + 1 => (walkAt X s0 e0 n).step X s0

theorem walkAt_lt (X : ℕ → Lane F) (s0 e0 : F .f32) (n : ℕ) :
    (walkAt X s0 e0 n).i < 512 ∧ (walkAt X s0 e0 n).j < 512 := by
  induction n with
  | zero => exact ⟨show (511 : ℕ) < 512 by omega, show (511 : ℕ) < 512 by omega⟩
  | succ n ih => exact ⟨backI_lt ih.1 _, backJ_lt ih.2 _ _⟩

/-- What the step from `s` to `s'` adds to column `l`. -/
def rowAdd (s s' : Walk F) (l : ℕ) : F .f32 := if 0 < s.i ∧ 0 < s.j ∧ l = s'.j then uncode s'.e else zeroF

/-- The column sums after `n` steps, from `R`. -/
def rowAt (X : ℕ → Lane F) (s0 e0 : F .f32) (R : Lane F) : ℕ → Lane F
  | 0 => R
  | n + 1 => fun l => FloatOps.addf (rowAt X s0 e0 R n l) (rowAdd (walkAt X s0 e0 n) (walkAt X s0 e0 (n + 1)) l.val)

/-- The column sums before the walk: the last cell's cost in the last column. -/
def rowStart (X : ℕ → Lane F) : Lane F := fun l => if l.val = 511 then uncode (X 1022 511) else zeroF

/-- The column sums at the end: the first cell's cost is added if the walk stopped short of it. -/
def endRow (X : ℕ → Lane F) : Lane F := fun l =>
  FloatOps.addf (rowAt X (X 0 0) (X 1022 511) (rowStart X) 1022 l)
    (if l.val = 0 ∧ ¬ ((walkAt X (X 0 0) (X 1022 511) 1022).i = 0 ∧ (walkAt X (X 0 0) (X 1022 511) 1022).j = 0) then X 0 0
      else zeroF)

theorem dpPair_congr {W W' : ℕ → Lane F} (h : ∀ q, q ≤ 1022 → W q = W' q) (k : ℕ) (hk : k ≤ 1022) : dpPair W k = dpPair W' k := by
  induction k with
  | zero => unfold dpPair; rw [h 0 hk]
  | succ k ih => unfold dpPair; rw [h (k + 1) hk, ih (by omega)]

theorem coded_congr {W W' : ℕ → Lane F} (h : ∀ q, q ≤ 1022 → W q = W' q) (k : ℕ) (hk : k ≤ 1022) : coded W k = coded W' k := by
  cases k with
  | zero => exact h 0 hk
  | succ k =>
    show (fun i => dpCode (W (k + 1) i) (shiftUp (dpPair W k).2 i) (shiftUp (dpPair W k).1 i) ((dpPair W k).1 i)) =
      fun i => dpCode (W' (k + 1) i) (shiftUp (dpPair W' k).2 i) (shiftUp (dpPair W' k).1 i) ((dpPair W' k).1 i)
    rw [h (k + 1) hk, dpPair_congr h k (by omega)]

theorem walkAt_congr {X X' : ℕ → Lane F} (h : ∀ q, q ≤ 1022 → X q = X' q) (s0 e0 : F .f32) (n : ℕ) : walkAt X s0 e0 n = walkAt X' s0 e0 n := by
  induction n with
  | zero => rfl
  | succ n ih =>
    show (walkAt X s0 e0 n).step X s0 = (walkAt X' s0 e0 n).step X' s0
    have hl := walkAt_lt X' s0 e0 n
    rw [ih]
    unfold Walk.step
    dsimp only
    have h1 := backI_lt hl.1 (j := (walkAt X' s0 e0 n).j) (bit7 (walkAt X' s0 e0 n).e)
    have h2 := backJ_lt hl.2 (i := (walkAt X' s0 e0 n).i) (bit3 (walkAt X' s0 e0 n).e) (bit7 (walkAt X' s0 e0 n).e)
    rw [h (_ + _) (Nat.le_trans (Nat.add_le_add (Nat.le_of_lt_succ h1) (Nat.le_of_lt_succ h2)) (by decide))]

theorem endRow_congr {X X' : ℕ → Lane F} (h : ∀ q, q ≤ 1022 → X q = X' q) : endRow X = endRow X' := by
  have hr : ∀ (s0 e0 : F .f32) (R : Lane F) (n : ℕ), rowAt X s0 e0 R n = rowAt X' s0 e0 R n := fun s0 e0 R n => by
    induction n with
    | zero => rfl
    | succ n ih => unfold rowAt; rw [ih, walkAt_congr h, walkAt_congr h]
  unfold endRow rowStart
  simp only [h 0 (by omega), h 1022 le_rfl, hr, walkAt_congr h]

end Cert.Proof
-- ==== Proof.DpState.lean ====
/-
  The dynamic programme's two buffers — the three pages of running diagonals and the skewed table — as plain functions,
  and what one trip of the loop makes of them; then the diagonals and codes they hold after any number of trips.
-/
module

public import proofs.«01_k».proof.Proof.Model
public import Idealize.ShloMosaic.Lib.ValueIdxCore

@[expose] public section

noncomputable section

namespace Cert.Proof

open Idealize.ShloMosaic Idealize.ShloMosaic.ValueIdx

variable {F : FTy → Type} [FloatOps F]

/-- The three pages of running diagonals. -/
abbrev Pages (F : FTy → Type) := (⟨3, ![3, 8, 512]⟩ : Shape).Idx → F .f32
/-- The skewed table. -/
abbrev Table (F : FTy → Type) := (⟨3, ![1024, 32, 128]⟩ : Shape).Idx → F .f32

/-- Where the table keeps sample `g`'s cell of diagonal `q` in row `i`. -/
def adr (q : ℕ) (g : Fin 8) (i : Fin 512) : (⟨3, ![1024, 32, 128]⟩ : Shape).Idx :=
  ix3 ⟨q % 1024, Nat.mod_lt _ (by decide)⟩ ⟨4 * g.val + i.val / 128, by omega⟩ ⟨i.val % 128, Nat.mod_lt _ (by decide)⟩

/-- Sample `g`'s diagonals in the table. -/
def diagOf (T : Table F) (g : Fin 8) (q : ℕ) : Lane F := fun i => T (adr q g i)

/-- The sample an address belongs to. -/
def smp (r : Fin 32) : Fin 8 := ⟨r.val / 4, by omega⟩
/-- The row an address belongs to. -/
def rowOf (r : Fin 32) (l : Fin 128) : Fin 512 := ⟨128 * (r.val % 4) + l.val, by omega⟩

/-- The cell's four inputs in trip `k`: its cost, and the diagonal, upper and left neighbours. -/
def inW (s : Pages F × Table F) (k : ℕ) (g : Fin 8) (i : Fin 512) : F .f32 := s.2 (adr (k + 1) g i)
def inA (s : Pages F × Table F) (k : ℕ) (g : Fin 8) (i : Fin 512) : F .f32 := s.1 (ix3 ⟨(k + 1) % 2 + 1, by omega⟩ g i)
def inB (s : Pages F × Table F) (k : ℕ) (g : Fin 8) (i : Fin 512) : F .f32 := s.1 (ix3 ⟨(k + 2) % 2 + 1, by omega⟩ g i)
def inC (s : Pages F × Table F) (g : Fin 8) (i : Fin 512) : F .f32 := s.1 (ix3 0 g i)

/-- The new diagonal of trip `k`. -/
def newV (s : Pages F × Table F) (k : ℕ) (g : Fin 8) : Lane F := fun i =>
  dpCell (inW s k g i) (inA s k g i) (inB s k g i) (inC s g i)
/-- The new codes of trip `k`. -/
def newE (s : Pages F × Table F) (k : ℕ) (g : Fin 8) : Lane F := fun i =>
  dpCode (inW s k g i) (inA s k g i) (inB s k g i) (inC s g i)

/-- One trip. -/
def dpStep (k : ℕ) (s : Pages F × Table F) : Pages F × Table F :=
  (fun y => if (y 0).val = 0 then newV s k (y 1) (y 2)
      else if (y 0).val = (k + 1) % 2 + 1 then shiftUp (newV s k (y 1)) (y 2) else s.1 y,
    fun y => if (y 0).val = k + 1 then newE s k (smp (y 1)) (rowOf (y 1) (y 2)) else s.2 y)

theorem dpStep_one (k : ℕ) (s : Pages F × Table F) (p : Fin 3) (g : Fin 8) (i : Fin 512) :
    (dpStep k s).1 (ix3 p g i) = if p.val = 0 then newV s k g i
      else if p.val = (k + 1) % 2 + 1 then shiftUp (newV s k g) i else s.1 (ix3 p g i) := rfl

theorem dpStep_two (k : ℕ) (s : Pages F × Table F) (q : Fin 1024) (r : Fin 32) (l : Fin 128) :
    (dpStep k s).2 (ix3 q r l) = if q.val = k + 1 then newE s k (smp r) (rowOf r l) else s.2 (ix3 q r l) := rfl

/-- The buffers after `k` trips from `s`. -/
def dpState (s : Pages F × Table F) : ℕ → Pages F × Table F
  | 0 => s
  | k + 1 => dpStep k (dpState s k)

/-- The pages before the first trip, over a table: the first diagonal, the same moved up, and nothing. -/
structure PagesStart (s : Pages F × Table F) : Prop where
  page0 : ∀ g i, s.1 (ix3 0 g i) = (dpPair (diagOf s.2 g) 0).1 i
  page1 : ∀ g i, s.1 (ix3 1 g i) = shiftUp (dpPair (diagOf s.2 g) 0).1 i
  page2 : ∀ g i, s.1 (ix3 2 g i) = infF

theorem smp_adr (q : ℕ) (g : Fin 8) (i : Fin 512) : smp ((adr q g i) 1) = g := by
  apply Fin.ext; show (4 * g.val + i.val / 128) / 4 = g.val; omega
theorem rowOf_adr (q : ℕ) (g : Fin 8) (i : Fin 512) : rowOf ((adr q g i) 1) ((adr q g i) 2) = i := by
  apply Fin.ext; show 128 * ((4 * g.val + i.val / 128) % 4) + i.val % 128 = i.val; omega
theorem adr_zero (q : ℕ) (g : Fin 8) (i : Fin 512) : ((adr q g i) 0).val = q % 1024 := rfl

/-- After `k` trips the pages hold the last diagonal and the two last moved up, and the table its first `k` diagonals
    coded. -/
theorem dpState_spec (s : Pages F × Table F) (h : PagesStart s) (k : ℕ) (hk : k ≤ 1022) :
    (∀ g i, (dpState s k).1 (ix3 0 g i) = (dpPair (diagOf s.2 g) k).1 i) ∧
    (∀ g i, (dpState s k).1 (ix3 ⟨(k + 2) % 2 + 1, by omega⟩ g i) = shiftUp (dpPair (diagOf s.2 g) k).1 i) ∧
    (∀ g i, (dpState s k).1 (ix3 ⟨(k + 1) % 2 + 1, by omega⟩ g i) = shiftUp (dpPair (diagOf s.2 g) k).2 i) ∧
    (∀ q g i, q < 1024 → diagOf (dpState s k).2 g q i = if q ≤ k then coded (diagOf s.2 g) q i else diagOf s.2 g q i) := by
  induction k with
  | zero =>
    refine ⟨h.page0, h.page1, fun g i => ?_, fun q g i hq => ?_⟩
    · refine (h.page2 g i).trans ?_
      unfold shiftUp dpPair
      split <;> rfl
    · show diagOf s.2 g q i = _
      by_cases h0 : q ≤ 0
      · obtain rfl : q = 0 := by omega
        rfl
      · rw [if_neg h0]
  | succ k ih =>
    obtain ⟨h0, h1, h2, h3⟩ := ih (by omega)
    have hW : ∀ g i, inW (dpState s k) k g i = diagOf s.2 g (k + 1) i := fun g i => by
      have := h3 (k + 1) g i (by omega)
      rw [if_neg (by omega)] at this
      exact this
    have hV : ∀ g, newV (dpState s k) k g = (dpPair (diagOf s.2 g) (k + 1)).1 := fun g => by
      funext i
      unfold newV
      rw [hW, show inA (dpState s k) k g i = _ from h2 g i, show inB (dpState s k) k g i = _ from h1 g i,
        show inC (dpState s k) g i = _ from h0 g i]
      rfl
    have hE : ∀ g, newE (dpState s k) k g = coded (diagOf s.2 g) (k + 1) := fun g => by
      funext i
      unfold newE
      rw [hW, show inA (dpState s k) k g i = _ from h2 g i, show inB (dpState s k) k g i = _ from h1 g i,
        show inC (dpState s k) g i = _ from h0 g i]
      rfl
    refine ⟨fun g i => ?_, fun g i => ?_, fun g i => ?_, fun q g i hq => ?_⟩
    · refine (dpStep_one k _ _ g i).trans ?_
      rw [if_pos (show ((0 : Fin 3)).val = 0 from rfl)]
      exact congrFun (hV g) i
    · refine (dpStep_one k _ _ g i).trans ?_
      rw [if_neg (Nat.succ_ne_zero _), if_pos (by show (k + 1 + 2) % 2 + 1 = (k + 1) % 2 + 1; omega)]
      exact congrFun (congrArg shiftUp (hV g)) i
    · refine (dpStep_one k _ _ g i).trans ?_
      rw [if_neg (Nat.succ_ne_zero _), if_neg (by show ¬ ((k + 1 + 1) % 2 + 1 = (k + 1) % 2 + 1); omega)]
      exact h1 g i
    · show (if q % 1024 = k + 1 then newE (dpState s k) k (smp ((adr q g i) 1)) (rowOf ((adr q g i) 1) ((adr q g i) 2))
        else diagOf (dpState s k).2 g q i) = _
      rw [smp_adr, rowOf_adr, hE, h3 q g i hq, Nat.mod_eq_of_lt hq]
      by_cases hq1 : q = k + 1
      · subst hq1; rw [if_pos rfl, if_pos (le_refl _)]
      · rw [if_neg hq1]
        by_cases hq2 : q ≤ k
        · rw [if_pos hq2, if_pos (by omega)]
        · rw [if_neg hq2, if_neg (by omega)]

end Cert.Proof
-- ==== Proof.Reads.lean ====
/-
  A load at a unit-stride rectangle, read at one position.
-/
module

public import Idealize.ShloMosaic.Lib.WritesUnit
public import Idealize.ShloMosaic.Lib.ValueIdxCore
public import Idealize.ShloMosaic.Lib.Pipeline.Value
public import Idealize.ShloMosaic.Lib.ValueLayout
public import Idealize.ShloMosaic.Lib.KernelVsHost

@[expose] public section

namespace Cert.Proof

open Idealize.ShloMosaic Idealize.ShloMosaic.ValueIdx

variable {sig : RefSig} {κ : Kind} {sp : Space} {s : Shape} {e : EltTy} {Val : EltTy → Type}

/-- What a load at a unit-stride rectangle reads at `x`: the buffer at `x` moved by the offsets. -/
theorem readAt_unit_at (v : View sig κ sp s e) (f : v.ty.Contents Val) {off off' size : Fin s.rank → ℕ}
    (inb : ∀ a, off a + size a ≤ s.size a) (h : off = off') (x : (Rect.unit off size inb).shape.Idx) (y : s.Idx)
    (hy : ∀ a, (y a).val = off' a + (x a).val) :
    v.readAt Val (Rect.unit off size inb).toLoadRect f x = v.read Val f y := by
  subst h
  exact congrArg (v.read Val f) (funext fun a => Fin.ext (by
    show off a + 1 * (x a).val = (y a).val
    rw [hy a]; omega))

/-- Two rank-3 indices with equal coordinates, coordinate by coordinate. -/
theorem forall_fin3 {P : Fin 3 → Prop} (h0 : P 0) (h1 : P 1) (h2 : P 2) : ∀ a, P a := fun a =>
  match a with | ⟨0, _⟩ => h0 | ⟨1, _⟩ => h1 | ⟨2, _⟩ => h2

theorem forall_fin2 {P : Fin 2 → Prop} (h0 : P 0) (h1 : P 1) : ∀ a, P a := fun a =>
  match a with | ⟨0, _⟩ => h0 | ⟨1, _⟩ => h1

/-- Two rank-3 arrays equal at every three coordinates are equal. -/
theorem ext3 {n0 n1 n2 : ℕ} {α : Type} {f g : (⟨3, ![n0, n1, n2]⟩ : Shape).Idx → α}
    (h : ∀ (a : Fin n0) (b : Fin n1) (c : Fin n2), f (ix3 a b c) = g (ix3 a b c)) : f = g := by
  funext y
  rw [eq_ix3 y]
  exact h _ _ _

theorem ext2 {n0 n1 : ℕ} {α : Type} {f g : (⟨2, ![n0, n1]⟩ : Shape).Idx → α}
    (h : ∀ (a : Fin n0) (b : Fin n1), f (ix2 a b) = g (ix2 a b)) : f = g := by
  funext y
  rw [eq_ix2 y]
  exact h _ _

/-- The word test of two small numbers. -/
theorem cmpi_eq_ofNat {a b : ℕ} (ha : a < 2 ^ 31) (hb : b < 2 ^ 31) :
    Scalar.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_eq]
  constructor
  · intro hh
    have := congrArg BitVec.toNat hh
    rwa [BitVec.toNat_ofNat, BitVec.toNat_ofNat, Nat.mod_eq_of_lt (by omega), Nat.mod_eq_of_lt (by omega)] at this
  · rintro rfl; rfl

theorem select_ofBool {α : Type} (b : Bool) (x y : α) : Scalar.select (BitVec.ofBool b) x y = if b = true then x else y := by
  cases b <;> rfl

end Cert.Proof
-- ==== Proof.Pay1.lean ====
/-
  The loop over the diagonals: what each value one trip stores is, lane by lane.
-/
module

public import proofs.«01_k».proof.Proof.Gen.KernelIdeal.Skeleton
public import proofs.«01_k».proof.Proof.DpState
public import proofs.«01_k».proof.Proof.Reads

@[expose] public section

noncomputable section

namespace Cert.KernelIdeal.Hand

open Idealize.ShloMosaic Idealize.ShloMosaic.ValueIdx Cert.KernelIdeal Cert.KernelIdeal.Gen Cert.Proof

variable {F : FTy → Type} [FloatOps F]

/-- The row and lane of a table page that keep sample `g`'s row `i`. -/
abbrev pg (g : Fin 8) (i : Fin 512) : S1x32x128.Idx :=
  ix3 (0 : Fin 1) ⟨4 * g.val + i.val / 128, by omega⟩ ⟨i.val % 128, Nat.mod_lt _ (by decide)⟩

theorem pay2_at (v : Vec F S1x32x128 .f32) (g : Fin 8) (i : Fin 512) : k0_pay2 v (ix2 g i) = v (pg g i) :=
  shapeCast_apply v shapeCasts_S1x32x128_S8x512 _ _ (by
    rw [Shape.rowMajor_val_three, Shape.rowMajor_val_two]
    show (0 * 32 + (4 * g.val + i.val / 128)) * 128 + i.val % 128 = g.val * 512 + i.val
    omega)

theorem pay7_at (w : Vec F S1x32x128 .f32) (c b a : Vec F S1x8x512 .f32) (g : Fin 8) (i : Fin 512) :
    k0_pay7 w c b a (ix2 g i) = dpCell (w (pg g i)) (a (ix3 0 g i)) (b (ix3 0 g i)) (c (ix3 0 g i)) := by
  show FloatOps.addf (k0_pay2 w (ix2 g i)) (FloatOps.minimumf (shapeCast S8x512 a shapeCasts_S1x8x512_S8x512 (ix2 g i))
    (FloatOps.minimumf (shapeCast S8x512 b shapeCasts_S1x8x512_S8x512 (ix2 g i))
      (shapeCast S8x512 c shapeCasts_S1x8x512_S8x512 (ix2 g i)))) = _
  rw [pay2_at, shapeCast_1ab_ab_apply, shapeCast_1ab_ab_apply, shapeCast_1ab_ab_apply]
  rfl

/-- The codes, on the flat page. -/
def codePage (w : Vec F S1x32x128 .f32) (c b a : Vec F S1x8x512 .f32) : FVec F S8x512 .f32 := fun y =>
  FloatOps.addf (k0_pay2 w y) (Scalar.select (FloatOps.cmpf .ole (k0_pay5 a y) (k0_pay6 c b y)) (FloatOps.ofBits .f32 0x00000000#32)
    (Scalar.select (IntOp.andi (IntOp.xori (FloatOps.cmpf .ole (k0_pay5 a y) (k0_pay6 c b y)) 1#1) (FloatOps.cmpf .ole (k0_pay4 b y) (k0_pay3 c y)))
      (FloatOps.ofBits .f32 0x40800000#32) (FloatOps.ofBits .f32 0x41000000#32)))

theorem codePage_at (w : Vec F S1x32x128 .f32) (c b a : Vec F S1x8x512 .f32) (g : Fin 8) (i : Fin 512) :
    codePage w c b a (ix2 g i) = dpCode (w (pg g i)) (a (ix3 0 g i)) (b (ix3 0 g i)) (c (ix3 0 g i)) := by
  unfold codePage
  rw [pay2_at]
  show FloatOps.addf (w (pg g i)) (Scalar.select (FloatOps.cmpf .ole (shapeCast S8x512 a shapeCasts_S1x8x512_S8x512 (ix2 g i))
    (FloatOps.minimumf (shapeCast S8x512 b shapeCasts_S1x8x512_S8x512 (ix2 g i))
      (shapeCast S8x512 c shapeCasts_S1x8x512_S8x512 (ix2 g i)))) _ (Scalar.select (IntOp.andi (IntOp.xori (FloatOps.cmpf .ole (shapeCast S8x512 a shapeCasts_S1x8x512_S8x512 (ix2 g i))
    (FloatOps.minimumf (shapeCast S8x512 b shapeCasts_S1x8x512_S8x512 (ix2 g i))
      (shapeCast S8x512 c shapeCasts_S1x8x512_S8x512 (ix2 g i)))) 1#1) (FloatOps.cmpf .ole (shapeCast S8x512 b shapeCasts_S1x8x512_S8x512 (ix2 g i)) (shapeCast S8x512 c shapeCasts_S1x8x512_S8x512 (ix2 g i)))) _ _)) = _
  rw [shapeCast_1ab_ab_apply, shapeCast_1ab_ab_apply, shapeCast_1ab_ab_apply]
  rfl

theorem pay8_at (w : Vec F S1x32x128 .f32) (c b a : Vec F S1x8x512 .f32) (r : Fin 32) (l : Fin 128) :
    k0_pay8 w c b a (ix3 0 r l) = dpCode (w (pg (smp r) (rowOf r l))) (a (ix3 0 (smp r) (rowOf r l)))
      (b (ix3 0 (smp r) (rowOf r l))) (c (ix3 0 (smp r) (rowOf r l))) := by
  have h : k0_pay8 w c b a = shapeCast S1x32x128 (shapeCast S1x32x128 (codePage w c b a) shapeCasts_S8x512_S1x32x128)
      shapeCasts_S1x32x128_S1x32x128 := rfl
  rw [h, shapeCast_apply _ _ (ix3 0 r l) (ix3 0 r l) rfl, ← codePage_at]
  refine shapeCast_apply _ _ _ _ ?_
  rw [Shape.rowMajor_val_three, Shape.rowMajor_val_two]
  show r.val / 4 * 512 + (128 * (r.val % 4) + l.val) = (0 * 32 + r.val) * 128 + l.val
  omega

theorem pay67_at (v : FVec F S8x512 .f32) (g : Fin 8) (i : Fin 512) : k0_pay67 v (ix3 0 g i) = v (ix2 g i) :=
  shapeCast_ab_1ab_apply v shapeCasts_S8x512_S1x8x512 0 g i

/-- Lane numbers. -/
abbrev lanes : IVec S8x512 32 := iota .tc S8x512 32 [1] iota_S8x512_d1_w32

/-- A page moved one lane up. -/
theorem moved_at (v : FVec F S8x512 .f32) (g : Fin 8) (i : Fin 512) :
    Scalar.select (Scalar.cmpi .eq (lanes (ix2 g i)) 0#32) (infF (F := F))
      (dynamicRotate 1 1#32 none v rotates_S8x512_d1 (ix2 g i)) = shiftUp (fun i => v (ix2 g i)) i := by
  have hl : lanes (ix2 g i) = BitVec.ofNat 32 i.val := iota_single_apply .tc S8x512 32 1 iota_S8x512_d1_w32 (ix2 g i)
  rw [hl, cmpi_eq_ofNat (by omega) (by omega) (b := 0), select_ofBool]
  unfold shiftUp
  by_cases h : i.val = 0
  · rw [if_pos (by simpa using h), if_pos h]
  · rw [if_neg (by simpa using h), if_neg h]
    refine dynamicRotate_apply (s := S8x512) 1 1#32 v rotates_S8x512_d1 (ix2 g i) (ix2 g ⟨i.val - 1, by omega⟩) ?_
    refine forall_fin2 rfl ?_
    show i.val - 1 = if (1 : Fin 2) = 1 then (i.val + 512 - (1#32).toNat % 512) % 512 else i.val
    rw [if_pos rfl]
    show i.val - 1 = (i.val + 512 - 1 % 512) % 512
    omega

theorem pay68_at (v : FVec F S8x512 .f32) (g : Fin 8) (i : Fin 512) :
    k0_pay68 lanes v (ix3 0 g i) = shiftUp (fun i => v (ix2 g i)) i := by
  have h : k0_pay68 lanes v = shapeCast S1x8x512 (shapeCast S1x8x512 (fun y => Scalar.select (Scalar.cmpi .eq (lanes y) 0#32) (infF (F := F))
      (dynamicRotate 1 1#32 none v rotates_S8x512_d1 y)) shapeCasts_S8x512_S1x8x512) shapeCasts_S1x8x512_S1x8x512 := rfl
  rw [h, shapeCast_apply _ _ (ix3 0 g i) (ix3 0 g i) rfl, ← moved_at]
  exact shapeCast_ab_1ab_apply _ shapeCasts_S8x512_S1x8x512 0 g i

end Cert.KernelIdeal.Hand
-- ==== Proof.Loop1.lean ====
/-
  The loop over the diagonals, by an invariant: before trip `k` the pages and the table read as the plain recursion
  `dpState` says.
-/
module

public import proofs.«01_k».proof.Proof.Gen.KernelIdeal.Frame
public import proofs.«01_k».proof.Proof.Gen.KernelIdeal.Loops
public import proofs.«01_k».proof.Proof.Pay1

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

local notation "𝕄G" => MT nD τ sig Unit (Elt F) ℕ (UR sig nD τ) ℕ

section Reads

variable (arg4 : Memref sig .tc .vmem S3x8x512 .f32) (arg6 : Memref sig .tc .vmem S1024x32x128 .f32)
  (f4 : BufTy.Contents (Elt F) arg4.view.ty) (f6 : BufTy.Contents (Elt F) arg6.view.ty)

/-- The table page of trip `k`. -/
abbrev ldW (k : Fin k0_t1_loop.trips) : Vec F S1x32x128 .f32 :=
  arg6.view.readAt (Elt F) (Rect.unit (s := S1024x32x128) (k0_off1 k) S1x32x128.size (k0_off1_inb k)).toLoadRect f6
/-- The last diagonal. -/
abbrev ldC : Vec F S1x8x512 .f32 :=
  arg4.view.readAt (Elt F) (Rect.unit (s := S3x8x512) ![0, 0, 0] S1x8x512.size inb_S3x8x512_S1x8x512_0_0_0).toLoadRect f4
/-- The last diagonal moved up. -/
abbrev ldB (k : Fin k0_t1_loop.trips) : Vec F S1x8x512 .f32 :=
  arg4.view.readAt (Elt F) (Rect.unit (s := S3x8x512) (k0_off2 k) S1x8x512.size (k0_off2_inb k)).toLoadRect f4
/-- The one before it, moved up. -/
abbrev ldA (k : Fin k0_t1_loop.trips) : Vec F S1x8x512 .f32 :=
  arg4.view.readAt (Elt F) (Rect.unit (s := S3x8x512) (k0_off3 k) S1x8x512.size (k0_off3_inb k)).toLoadRect f4

/-- The pair of buffers as plain functions. -/
abbrev st1 : Pages F × Table F := (arg4.view.read (Elt F) f4, arg6.view.read (Elt F) f6)

theorem ldW_at (k : Fin k0_t1_loop.trips) (hk : k.val < 1022) (g : Fin 8) (i : Fin 512) :
    ldW arg6 f6 k (pg g i) = inW (st1 arg4 arg6 f4 f6) k.val g i :=
  readAt_unit_at arg6.view f6 (k0_off1_inb k) (k0_off1_eq k) (pg g i) (adr (k.val + 1) g i)
    (forall_fin3 (by show (k.val + 1) % 1024 = k.val + 1 + 0; omega) (by show 4 * g.val + i.val / 128 = 0 + _; rw [Nat.zero_add])
      (by show i.val % 128 = 0 + _; rw [Nat.zero_add]))

theorem ldC_at (g : Fin 8) (i : Fin 512) : ldC arg4 f4 (ix3 0 g i) = inC (st1 arg4 arg6 f4 f6) g i :=
  readAt_unit_at arg4.view f4 inb_S3x8x512_S1x8x512_0_0_0 rfl (ix3 0 g i) (ix3 0 g i)
    (forall_fin3 rfl (Nat.zero_add _).symm (Nat.zero_add _).symm)

theorem ldB_at (k : Fin k0_t1_loop.trips) (g : Fin 8) (i : Fin 512) :
    ldB arg4 f4 k (ix3 0 g i) = inB (st1 arg4 arg6 f4 f6) k.val g i :=
  readAt_unit_at arg4.view f4 (k0_off2_inb k) (k0_off2_eq k) (ix3 0 g i) (ix3 ⟨(k.val + 2) % 2 + 1, by omega⟩ g i)
    (forall_fin3 rfl (Nat.zero_add _).symm (Nat.zero_add _).symm)

theorem ldA_at (k : Fin k0_t1_loop.trips) (g : Fin 8) (i : Fin 512) :
    ldA arg4 f4 k (ix3 0 g i) = inA (st1 arg4 arg6 f4 f6) k.val g i :=
  readAt_unit_at arg4.view f4 (k0_off3_inb k) (k0_off3_eq k) (ix3 0 g i) (ix3 ⟨(k.val + 1) % 2 + 1, by omega⟩ g i)
    (forall_fin3 rfl (Nat.zero_add _).symm (Nat.zero_add _).symm)

/-- The new diagonal the trip computes. -/
abbrev trV (k : Fin k0_t1_loop.trips) : FVec F S8x512 .f32 := k0_pay7 (ldW arg6 f6 k) (ldC arg4 f4) (ldB arg4 f4 k) (ldA arg4 f4 k)

theorem trV_at (k : Fin k0_t1_loop.trips) (hk : k.val < 1022) (g : Fin 8) (i : Fin 512) :
    trV arg4 arg6 f4 f6 k (ix2 g i) = newV (st1 arg4 arg6 f4 f6) k.val g i := by
  rw [trV, pay7_at, ldW_at arg4 arg6 f4 f6 k hk, ldC_at arg4 arg6 f4 f6, ldB_at arg4 arg6 f4 f6, ldA_at arg4 arg6 f4 f6]
  rfl

/-- The pages after the trip. -/
theorem pages_after (k : Fin k0_t1_loop.trips) (hk : k.val < 1022) :
    arg4.view.read (Elt F) (arg4.view.writes (Elt F) f4
        [⟨Rect.unit (s := S3x8x512) (k0_off3 k) S1x8x512.size (k0_off3_inb k), k0_pay68 lanes (trV arg4 arg6 f4 f6 k)⟩,
          ⟨Rect.unit (s := S3x8x512) ![0, 0, 0] S1x8x512.size inb_S3x8x512_S1x8x512_0_0_0, k0_pay67 (trV arg4 arg6 f4 f6 k)⟩])
      = (dpStep k.val (st1 arg4 arg6 f4 f6)).1 := by
  refine ext3 fun p g i => ?_
  refine Eq.trans ?_ (dpStep_one k.val (st1 arg4 arg6 f4 f6) p g i).symm
  by_cases h0 : p.val = 0
  · rw [if_pos h0]
    rw [View.read_writes_cons_unit_of_not_mem arg4.view f4 (k0_off3_inb k) _ _ (ix3 p g i) (k0_off3_eq k) 0
      (.inl (by show p.val < (k.val + 1) % 2 + 1; omega))]
    rw [View.read_writes_cons_unit_of_mem arg4.view f4 inb_S3x8x512_S1x8x512_0_0_0 _ _ (ix3 p g i) (ix3 0 g i) rfl
      (forall_fin3 (by show p.val = 0 + 0; omega) (Nat.zero_add _).symm (Nat.zero_add _).symm)]
    rw [pay67_at, trV_at arg4 arg6 f4 f6 k hk]
  · rw [if_neg h0]
    by_cases h1 : p.val = (k.val + 1) % 2 + 1
    · rw [if_pos h1]
      rw [View.read_writes_cons_unit_of_mem arg4.view f4 (k0_off3_inb k) _ _ (ix3 p g i) (ix3 0 g i) (k0_off3_eq k)
        (forall_fin3 (by show p.val = (k.val + 1) % 2 + 1 + 0; omega) (Nat.zero_add _).symm (Nat.zero_add _).symm)]
      rw [pay68_at]
      congr 1
      funext i
      exact trV_at arg4 arg6 f4 f6 k hk g i
    · rw [if_neg h1]
      rw [View.read_writes_cons_unit_of_not_mem arg4.view f4 (k0_off3_inb k) _ _ (ix3 p g i) (k0_off3_eq k) 0
        (by show p.val < (k.val + 1) % 2 + 1 ∨ (k.val + 1) % 2 + 1 + 1 ≤ p.val; omega)]
      rw [View.read_writes_cons_unit_of_not_mem arg4.view f4 inb_S3x8x512_S1x8x512_0_0_0 _ _ (ix3 p g i) rfl 0
        (.inr (by show 0 + 1 ≤ p.val; omega))]
      rfl

/-- The table after the trip. -/
theorem table_after (k : Fin k0_t1_loop.trips) (hk : k.val < 1022) :
    arg6.view.read (Elt F) (arg6.view.writes (Elt F) f6
        [⟨Rect.unit (s := S1024x32x128) (k0_off1 k) S1x32x128.size (k0_off1_inb k),
          k0_pay8 (ldW arg6 f6 k) (ldC arg4 f4) (ldB arg4 f4 k) (ldA arg4 f4 k)⟩])
      = (dpStep k.val (st1 arg4 arg6 f4 f6)).2 := by
  refine ext3 fun q r l => ?_
  refine Eq.trans ?_ (dpStep_two k.val (st1 arg4 arg6 f4 f6) q r l).symm
  by_cases h1 : q.val = k.val + 1
  · rw [if_pos h1]
    rw [View.read_writes_cons_unit_of_mem arg6.view f6 (k0_off1_inb k) _ _ (ix3 q r l) (ix3 0 r l) (k0_off1_eq k)
      (forall_fin3 (by show q.val = k.val + 1 + 0; omega) (Nat.zero_add _).symm (Nat.zero_add _).symm)]
    rw [pay8_at, ldW_at arg4 arg6 f4 f6 k hk, ldC_at arg4 arg6 f4 f6, ldB_at arg4 arg6 f4 f6, ldA_at arg4 arg6 f4 f6]
    rfl
  · rw [if_neg h1]
    rw [View.read_writes_cons_unit_of_not_mem arg6.view f6 (k0_off1_inb k) _ _ (ix3 q r l) (k0_off1_eq k) 0
      (by show q.val < k.val + 1 ∨ k.val + 1 + 1 ≤ q.val; omega)]
    rfl

end Reads

set_option maxHeartbeats 4000000 in
/-- One trip. -/
theorem trip1 (𝒱 : Variants) (c : Dev nD) (bd : Option 𝒱.V) (i : grid0.Coords) (arg1 : Memref sig .tc .vmem S1x8x512x256 .f32) (harg1 : arg1.IsWhole) (arg2 : Memref sig .tc .vmem S1x8x512x256 .f32) (harg2 : arg2.IsWhole) (arg3 : Memref sig .tc .vmem S1x8x128 .f32) (harg3 : arg3.IsWhole) (arg4 : Memref sig .tc .vmem S3x8x512 .f32) (harg4 : arg4.IsWhole) (arg5 : Memref sig .tc .vmem S8x512 .f32) (harg5 : arg5.IsWhole) (arg6 : Memref sig .tc .vmem S1024x32x128 .f32) (harg6 : arg6.IsWhole) (v548 : FVec F S8x512 .f32) (k : Fin k0_t1_loop.trips) (E : Set ℕ)
    (f4 : BufTy.Contents (Elt F) arg4.view.ty) (f6 : BufTy.Contents (Elt F) arg6.view.ty) :
    iprop((arg4.view.loc (c : Thread nD τ) ↦[arg4.view.set]{fullShare} f4) ∗ (arg6.view.loc (c : Thread nD τ) ↦[arg6.view.set]{fullShare} f6))
    ⊢@{sProp 𝕄G} wp frame (wpE (defs₀ (F := F)) 𝒱 (c : Thread nD τ) bd) E (k0_t1_body (F := F) i arg1 harg1 arg2 harg2 arg3 harg3 arg4 harg4 arg5 harg5 arg6 harg6 lanes v548 k PUnit.unit)
      (fun _ => iprop((∃ f4', (arg4.view.loc (c : Thread nD τ) ↦[arg4.view.set]{fullShare} f4') ∗ ⌜arg4.view.read (Elt F) f4' = (dpStep k.val (st1 arg4 arg6 f4 f6)).1⌝)
        ∗ (∃ f6', (arg6.view.loc (c : Thread nD τ) ↦[arg6.view.set]{fullShare} f6') ∗ ⌜arg6.view.read (Elt F) f6' = (dpStep k.val (st1 arg4 arg6 f4 f6)).2⌝))) := by
  have hk : k.val < 1022 := Nat.lt_of_lt_of_le k.isLt k0_t1_abs.2.1
  unfold k0_t1_body
  iintro ⟨H4, H6⟩
  sl_exec
  sl_step
  isplitl [H4]
  · iexists _; isplitl [H4]; · iexact H4
    ipureintro
    exact pages_after arg4 arg6 f4 f6 k hk
  · iexists _; isplitl [H6]; · iexact H6
    ipureintro
    exact table_after arg4 arg6 f4 f6 k hk

/-- What holds before trip `k`, the buffers having read as `R4` and `R6` before the first. -/
abbrev inv1 (c : Dev nD) (arg4 : Memref sig .tc .vmem S3x8x512 .f32) (arg6 : Memref sig .tc .vmem S1024x32x128 .f32)
    (G4 : BufTy.Contents (Elt F) arg4.view.ty) (G6 : BufTy.Contents (Elt F) arg6.view.ty) (k : ℕ) : sProp 𝕄G :=
  iprop((∃ f4, (arg4.view.loc (c : Thread nD τ) ↦[arg4.view.set]{fullShare} f4) ∗ ⌜arg4.view.read (Elt F) f4 = (dpState (st1 arg4 arg6 G4 G6) k).1⌝)
    ∗ (∃ f6, (arg6.view.loc (c : Thread nD τ) ↦[arg6.view.set]{fullShare} f6) ∗ ⌜arg6.view.read (Elt F) f6 = (dpState (st1 arg4 arg6 G4 G6) k).2⌝))

set_option warn.classDefReducibility false in
set_option maxHeartbeats 4000000 in
/-- The loop by its invariant. -/
@[sl_loop] def loopInv_k0_t1 (𝒱 : Variants) (c : Dev nD) (bd : Option 𝒱.V) (E : Set ℕ) (i : grid0.Coords) (arg1 : Memref sig .tc .vmem S1x8x512x256 .f32) (harg1 : arg1.IsWhole) (arg2 : Memref sig .tc .vmem S1x8x512x256 .f32) (harg2 : arg2.IsWhole) (arg3 : Memref sig .tc .vmem S1x8x128 .f32) (harg3 : arg3.IsWhole) (arg4 : Memref sig .tc .vmem S3x8x512 .f32) (harg4 : arg4.IsWhole) (arg5 : Memref sig .tc .vmem S8x512 .f32) (harg5 : arg5.IsWhole) (arg6 : Memref sig .tc .vmem S1024x32x128 .f32) (harg6 : arg6.IsWhole) (v548 : FVec F S8x512 .f32)
    (G4 : BufTy.Contents (Elt F) arg4.view.ty) (G6 : BufTy.Contents (Elt F) arg6.view.ty) :
    LoopInvTy_k0_t1 (F := F) Unit ℕ (UR sig nD τ) ℕ 𝒱 c bd E i arg1 harg1 arg2 harg2 arg3 harg3 arg4 harg4 arg5 harg5 arg6 harg6 lanes v548 where
  inv k _ := inv1 c arg4 arg6 G4 G6 k
  step k acc := by
    iintro ⟨⟨%f4, H4, %h4⟩, ⟨%f6, H6, %h6⟩⟩
    iapply (wp_wand_r Idealize.ShloMosaic.frame (wpE (defs₀ (F := F)) 𝒱 (c : Thread nD τ) bd) E)
    isplitl [H4 H6]
    · iapply (trip1 𝒱 c bd i arg1 harg1 arg2 harg2 arg3 harg3 arg4 harg4 arg5 harg5 arg6 harg6 v548 k E f4 f6)
      isplitl [H4]; · iexact H4
      iexact H6
    · iintro %_ ⟨⟨%f4', H4, %h4'⟩, ⟨%f6', H6, %h6'⟩⟩
      have hst : st1 arg4 arg6 f4 f6 = dpState (st1 arg4 arg6 G4 G6) k.val := Prod.ext h4 h6
      isplitl [H4]
      · iexists f4'; isplitl [H4]; · iexact H4
        ipureintro; rw [h4', hst]; rfl
      iexists f6'; isplitl [H6]; · iexact H6
      ipureintro; rw [h6', hst]; rfl

end Cert.KernelIdeal.Hand
-- ==== Proof.Pay2.lean ====
/-
  The walk back: what one trip computes for one sample — the cell one step back, the coded value read there, and the
  sample's row of column sums — against the plain walk.
-/
module

public import proofs.«01_k».proof.Proof.Gen.KernelIdeal.Skeleton
public import proofs.«01_k».proof.Proof.DpState
public import proofs.«01_k».proof.Proof.Reads

@[expose] public section

noncomputable section

namespace Cert.KernelIdeal.Hand

open Idealize.ShloMosaic Idealize.ShloMosaic.ValueIdx Cert.KernelIdeal Cert.KernelIdeal.Gen Cert.Proof

variable {F : FTy → Type} [FloatOps F]

/-- The lane the kernel picks from a row of the table: the row is turned until the lane comes first. -/
def pickLane (r : Vec F S1x1x128 .f32) (n : BitVec 32) : F .f32 :=
  extractAt ![0, 0, 0] (extractStridedSlice S1x1x1 ![0, 0, 0]
    (dynamicRotate 2 (Scalar.remsi (Scalar.subi 128#32 (Scalar.remsi n 128#32)) 128#32) none r rotates_S1x1x128_d2)
    slices_S1x1x128_o0_0_0_S1x1x1) inpos_S1x1x1_p0_0_0

theorem pickLane_at (r : Vec F S1x1x128 .f32) (n : ℕ) (hn : n < 512) :
    pickLane r (BitVec.ofNat 32 n) = r (ix3 0 0 ⟨n % 128, Nat.mod_lt _ (by decide)⟩) := by
  have hw : Scalar.remsi (Scalar.subi 128#32 (Scalar.remsi (BitVec.ofNat 32 n) 128#32)) 128#32
      = BitVec.ofNat 32 ((128 - n % 128) % 128) := by
    rw [remsi_ofNat (b := 128) (by omega) (by omega) (by omega), subi_ofNat (a := 128) (by omega) (by omega),
      remsi_ofNat (b := 128) (by omega) (by omega) (by omega)]
  unfold pickLane
  rw [hw]
  show dynamicRotate 2 (BitVec.ofNat 32 ((128 - n % 128) % 128)) none r rotates_S1x1x128_d2 _ = _
  refine dynamicRotate_apply (s := S1x1x128) 2 _ r rotates_S1x1x128_d2 _ _ ?_
  refine forall_fin3 rfl rfl ?_
  rw [toNat_ofNat_small (by omega)]
  show n % 128 = (0 + 128 - (128 - n % 128) % 128 % 128) % 128
  omega

/-- The coded value the trip reads. -/
def newCode (w : BitVec 32) (e s0 : F .f32) (r : Vec F S1x1x128 .f32) : F .f32 :=
  Scalar.select (Scalar.cmpi .eq (Scalar.addi (Scalar.shrui (backW w (bit3 e) (bit7 e)) 10#32)
    (Scalar.andi (backW w (bit3 e) (bit7 e)) 1023#32)) 0#32) s0 (pickLane r (Scalar.shrui (backW w (bit3 e) (bit7 e)) 10#32))

/-- The row of column sums the trip stores. -/
def newRow (v553 : IVec S1x512 32) (w : BitVec 32) (e e' : F .f32) (v : Vec F S1x512 .f32) : FVec F S1x512 .f32 :=
  shapeCast S1x512 (addf v (select (andi (broadcast S1x512 (insideW w))
    (cmpi .eq v553 (broadcast S1x512 (Scalar.andi (backW w (bit3 e) (bit7 e)) 1023#32))))
    (broadcast S1x512 (uncode e')) (broadcast S1x512 (Scalar.ofBits .f32 0x00000000#32)))) shapeCasts_S1x512_S1x512

/-- Where the trip reads the table, for the sample whose rows begin at `base`. -/
def offG (base : BitVec 32) (w : BitVec 32) (b3 b7 : BitVec 1) : Fin 3 → ℕ :=
  ![(Scalar.addi (Scalar.shrui (backW w b3 b7) 10#32) (Scalar.andi (backW w b3 b7) 1023#32)).toNat,
    (Scalar.addi base (Scalar.divsi (Scalar.shrui (backW w b3 b7) 10#32) 128#32)).toNat, 0]

theorem offG_at (g : Fin 8) {i j : ℕ} (hi : i < 512) (hj : j < 512) (b3 b7 : BitVec 1) :
    offG (BitVec.ofNat 32 (4 * g.val)) (cellW i j) b3 b7
      = ![backI i j b7 + backJ i j b3 b7, 4 * g.val + backI i j b7 / 128, 0] := by
  have h1 := backI_lt hi (j := j) b7
  have h2 := backJ_lt hj (i := i) b3 b7
  unfold offG
  rw [backW_cellW hi hj, shrui_cellW h1 h2, andi_cellW h1 h2, addi_ofNat (by omega),
    divsi_ofNat (b := 128) (by omega) (by omega) (by omega), addi_ofNat (by omega),
    toNat_ofNat_small (by omega), toNat_ofNat_small (by omega)]

theorem offG_inb (g : Fin 8) {i j : ℕ} (hi : i < 512) (hj : j < 512) (b3 b7 : BitVec 1) :
    ∀ a, offG (BitVec.ofNat 32 (4 * g.val)) (cellW i j) b3 b7 a + S1x1x128.size a ≤ S1024x32x128.size a := by
  have h1 := backI_lt hi (j := j) b7
  have h2 := backJ_lt hj (i := i) b3 b7
  rw [offG_at g hi hj]
  refine forall_fin3 ?_ ?_ ?_
  · show backI i j b7 + backJ i j b3 b7 + 1 ≤ 1024; omega
  · show 4 * g.val + backI i j b7 / 128 + 1 ≤ 32; omega
  · show 0 + 128 ≤ 128; omega

/-- The word of a walk's cell. -/
abbrev Wd (s : Walk F) : BitVec 32 := cellW s.i s.j

/-- A walk that stands inside the table. -/
abbrev Inside (s : Walk F) : Prop := s.i < 512 ∧ s.j < 512

theorem back_word {s : Walk F} (h : Inside s) (X : ℕ → Lane F) (s0 : F .f32) :
    backW (Wd s) (bit3 s.e) (bit7 s.e) = Wd (s.step X s0) := backW_cellW h.1 h.2 _ _

theorem newCode_at (T : Table F) (g : Fin 8) {s : Walk F} (h : Inside s) (s0 : F .f32) (r : Vec F S1x1x128 .f32)
    (hr : ∀ l : Fin 128, ∀ (q : Fin 1024) (u : Fin 32), q.val = (s.step (diagOf T g) s0).i + (s.step (diagOf T g) s0).j →
      u.val = 4 * g.val + (s.step (diagOf T g) s0).i / 128 → r (ix3 0 0 l) = T (ix3 q u l)) :
    newCode (Wd s) s.e s0 r = (s.step (diagOf T g) s0).e := by
  have h1 : (s.step (diagOf T g) s0).i < 512 := backI_lt h.1 _
  have h2 : (s.step (diagOf T g) s0).j < 512 := backJ_lt h.2 _ _
  unfold newCode
  rw [back_word h (diagOf T g) s0]
  generalize hs' : s.step (diagOf T g) s0 = s' at *
  have he : s'.e = if s'.i + s'.j = 0 then s0 else diagOf T g (s'.i + s'.j) ⟨s'.i % 512, Nat.mod_lt _ (by decide)⟩ := by
    subst hs'; rfl
  rw [he, shrui_cellW h1 h2, andi_cellW h1 h2, addi_ofNat (by omega), cmpi_eq_ofNat (b := 0) (by omega) (by omega), select_ofBool,
    pickLane_at r _ h1]
  by_cases h0 : s'.i + s'.j = 0
  · rw [if_pos (by simpa using h0), if_pos h0]
  · rw [if_neg (by simpa using h0), if_neg h0]
    have h5 : (adr (s'.i + s'.j) g ⟨s'.i % 512, Nat.mod_lt _ (by decide)⟩)
        = ix3 ⟨s'.i + s'.j, by omega⟩ ⟨4 * g.val + s'.i / 128, by omega⟩ ⟨s'.i % 128, Nat.mod_lt _ (by decide)⟩ := by
      funext a
      match a with
      | ⟨0, _⟩ => exact Fin.ext (show (s'.i + s'.j) % 1024 = _ by show _ = s'.i + s'.j; omega)
      | ⟨1, _⟩ => exact Fin.ext (show 4 * g.val + s'.i % 512 / 128 = 4 * g.val + s'.i / 128 by omega)
      | ⟨2, _⟩ => exact Fin.ext (show s'.i % 512 % 128 = s'.i % 128 by omega)
    show _ = T _
    rw [h5]
    exact hr _ _ _ rfl rfl

/-- Lane numbers along a row. -/
abbrev cols : IVec S1x512 32 := iota .tc S1x512 32 [1] iota_S1x512_d1_w32

theorem newRow_at (T : Table F) (g : Fin 8) {s : Walk F} (h : Inside s) (s0 : F .f32) (v : Vec F S1x512 .f32) (l : Fin 512) :
    newRow cols (Wd s) s.e (s.step (diagOf T g) s0).e v (ix2 0 l)
      = FloatOps.addf (v (ix2 0 l)) (rowAdd s (s.step (diagOf T g) s0) l.val) := by
  have h1 : (s.step (diagOf T g) s0).i < 512 := backI_lt h.1 _
  have h2 : (s.step (diagOf T g) s0).j < 512 := backJ_lt h.2 _ _
  unfold newRow
  rw [back_word h (diagOf T g) s0, shapeCast_apply _ _ (ix2 0 l) (ix2 0 l) rfl]
  generalize hs' : s.step (diagOf T g) s0 = s' at *
  show FloatOps.addf (v (ix2 0 l)) (Scalar.select (IntOp.andi (insideW (Wd s)) (Scalar.cmpi .eq (cols (ix2 0 l)) (Scalar.andi (Wd s') 1023#32)))
    (uncode s'.e) zeroF) = _
  rw [insideW_cellW h.1 h.2, andi_cellW h1 h2,
    show cols (ix2 0 l) = BitVec.ofNat 32 l.val from iota_single_apply .tc S1x512 32 1 iota_S1x512_d1_w32 (ix2 0 l),
    cmpi_eq_ofNat (by omega) (by omega)]
  congr 1
  unfold rowAdd
  by_cases c1 : 0 < s.i <;> by_cases c2 : 0 < s.j <;> by_cases c3 : l.val = s'.j <;> simp [c1, c2, c3, IntOp.andi, Scalar.select]

end Cert.KernelIdeal.Hand
-- ==== Proof.Loop2.lean ====
/-
  The walk back, by an invariant: before trip `k` the carried words and coded values are those of the walks after `k`
  steps, and the rows of column sums read as the plain recursion says.
-/
module

public import proofs.«01_k».proof.Proof.Gen.KernelIdeal.Frame
public import proofs.«01_k».proof.Proof.Gen.KernelIdeal.Loops
public import proofs.«01_k».proof.Proof.Pay2

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

local notation "𝕄G" => MT nD τ sig Unit (Elt F) ℕ (UR sig nD τ) ℕ

/-- Eight walks, one per sample, as the loop carries them. -/
def packed (w : Fin 8 → Walk F) : BitVec 32 × BitVec 32 × BitVec 32 × BitVec 32 × BitVec 32 × BitVec 32 × BitVec 32 × BitVec 32 × F .f32 × F .f32 × F .f32 × F .f32 × F .f32 × F .f32 × F .f32 × F .f32 :=
  (Wd (w 0), Wd (w 1), Wd (w 2), Wd (w 3), Wd (w 4), Wd (w 5), Wd (w 6), Wd (w 7), (w 0).e, (w 1).e, (w 2).e, (w 3).e, (w 4).e, (w 5).e, (w 6).e, (w 7).e)

/-- The walks one step on. -/
abbrev stepped (T : Table F) (s0 : Fin 8 → F .f32) (w : Fin 8 → Walk F) : Fin 8 → Walk F := fun g => (w g).step (diagOf T g) (s0 g)

/-- The rows one step on. -/
abbrev rowsStep (T : Table F) (s0 : Fin 8 → F .f32) (w : Fin 8 → Walk F) (R : S8x512.Idx → F .f32) : S8x512.Idx → F .f32 :=
  fun y => FloatOps.addf (R y) (rowAdd (w (y 0)) (stepped T s0 w (y 0)) (y 1).val)

section Reads

variable (arg5 : Memref sig .tc .vmem S8x512 .f32) (arg6 : Memref sig .tc .vmem S1024x32x128 .f32)
  (f5 : BufTy.Contents (Elt F) arg5.view.ty) (f6 : BufTy.Contents (Elt F) arg6.view.ty)

/-- Eight rows stored one after another read each as stored. -/
theorem rows_at (p : Fin 8 → FVec F S1x512 .f32) (g : Fin 8) (l : Fin 512) :
    arg5.view.read (Elt F) (arg5.view.writes (Elt F) f5 [⟨Rect.unit (s := S8x512) ![7, 0] S1x512.size inb_S8x512_S1x512_7_0, p 7⟩, ⟨Rect.unit (s := S8x512) ![6, 0] S1x512.size inb_S8x512_S1x512_6_0, p 6⟩, ⟨Rect.unit (s := S8x512) ![5, 0] S1x512.size inb_S8x512_S1x512_5_0, p 5⟩, ⟨Rect.unit (s := S8x512) ![4, 0] S1x512.size inb_S8x512_S1x512_4_0, p 4⟩, ⟨Rect.unit (s := S8x512) ![3, 0] S1x512.size inb_S8x512_S1x512_3_0, p 3⟩, ⟨Rect.unit (s := S8x512) ![2, 0] S1x512.size inb_S8x512_S1x512_2_0, p 2⟩, ⟨Rect.unit (s := S8x512) ![1, 0] S1x512.size inb_S8x512_S1x512_1_0, p 1⟩, ⟨Rect.unit (s := S8x512) ![0, 0] S1x512.size inb_S8x512_S1x512_0_0, p 0⟩]) (ix2 g l) = p g (ix2 0 l) := by
  have miss : ∀ (n : ℕ) (inb : ∀ a, (![n, 0] : Fin 2 → ℕ) a + S1x512.size a ≤ S8x512.size a) (q : FVec F S1x512 .f32)
      (L : List (View.Piece (Elt F) S8x512 .f32)), g.val ≠ n →
      arg5.view.read (Elt F) (arg5.view.writes (Elt F) f5 (⟨Rect.unit (s := S8x512) ![n, 0] S1x512.size inb, q⟩ :: L)) (ix2 g l)
        = arg5.view.read (Elt F) (arg5.view.writes (Elt F) f5 L) (ix2 g l) := fun n inb q L hn =>
    View.read_writes_cons_unit_of_not_mem arg5.view f5 inb _ _ (ix2 g l) rfl 0 (by show g.val < n ∨ n + 1 ≤ g.val; omega)
  have hit : ∀ (n : ℕ) (inb : ∀ a, (![n, 0] : Fin 2 → ℕ) a + S1x512.size a ≤ S8x512.size a) (q : FVec F S1x512 .f32)
      (L : List (View.Piece (Elt F) S8x512 .f32)), g.val = n →
      arg5.view.read (Elt F) (arg5.view.writes (Elt F) f5 (⟨Rect.unit (s := S8x512) ![n, 0] S1x512.size inb, q⟩ :: L)) (ix2 g l)
        = q (ix2 0 l) := fun n inb q L hn =>
    View.read_writes_cons_unit_of_mem arg5.view f5 inb _ _ (ix2 g l) (ix2 0 l) rfl
      (forall_fin2 (by show g.val = n + 0; omega) (Nat.zero_add _).symm)
  obtain ⟨g, hg⟩ := g
  interval_cases g
  · rw [miss 7 _ _ _ (by show (0 : ℕ) ≠ 7; omega), miss 6 _ _ _ (by show (0 : ℕ) ≠ 6; omega), miss 5 _ _ _ (by show (0 : ℕ) ≠ 5; omega), miss 4 _ _ _ (by show (0 : ℕ) ≠ 4; omega), miss 3 _ _ _ (by show (0 : ℕ) ≠ 3; omega), miss 2 _ _ _ (by show (0 : ℕ) ≠ 2; omega), miss 1 _ _ _ (by show (0 : ℕ) ≠ 1; omega), hit 0 _ _ _ rfl]
    rfl
  · rw [miss 7 _ _ _ (by show (1 : ℕ) ≠ 7; omega), miss 6 _ _ _ (by show (1 : ℕ) ≠ 6; omega), miss 5 _ _ _ (by show (1 : ℕ) ≠ 5; omega), miss 4 _ _ _ (by show (1 : ℕ) ≠ 4; omega), miss 3 _ _ _ (by show (1 : ℕ) ≠ 3; omega), miss 2 _ _ _ (by show (1 : ℕ) ≠ 2; omega), hit 1 _ _ _ rfl]
    rfl
  · rw [miss 7 _ _ _ (by show (2 : ℕ) ≠ 7; omega), miss 6 _ _ _ (by show (2 : ℕ) ≠ 6; omega), miss 5 _ _ _ (by show (2 : ℕ) ≠ 5; omega), miss 4 _ _ _ (by show (2 : ℕ) ≠ 4; omega), miss 3 _ _ _ (by show (2 : ℕ) ≠ 3; omega), hit 2 _ _ _ rfl]
    rfl
  · rw [miss 7 _ _ _ (by show (3 : ℕ) ≠ 7; omega), miss 6 _ _ _ (by show (3 : ℕ) ≠ 6; omega), miss 5 _ _ _ (by show (3 : ℕ) ≠ 5; omega), miss 4 _ _ _ (by show (3 : ℕ) ≠ 4; omega), hit 3 _ _ _ rfl]
    rfl
  · rw [miss 7 _ _ _ (by show (4 : ℕ) ≠ 7; omega), miss 6 _ _ _ (by show (4 : ℕ) ≠ 6; omega), miss 5 _ _ _ (by show (4 : ℕ) ≠ 5; omega), hit 4 _ _ _ rfl]
    rfl
  · rw [miss 7 _ _ _ (by show (5 : ℕ) ≠ 7; omega), miss 6 _ _ _ (by show (5 : ℕ) ≠ 6; omega), hit 5 _ _ _ rfl]
    rfl
  · rw [miss 7 _ _ _ (by show (6 : ℕ) ≠ 7; omega), hit 6 _ _ _ rfl]
    rfl
  · rw [hit 7 _ _ _ rfl]
    rfl

theorem row_ld (n : ℕ) (inb : ∀ a, (![n, 0] : Fin 2 → ℕ) a + S1x512.size a ≤ S8x512.size a) (g : Fin 8) (hg : g.val = n) (l : Fin 512) :
    arg5.view.readAt (Elt F) (Rect.unit (s := S8x512) ![n, 0] S1x512.size inb).toLoadRect f5 (ix2 0 l) = arg5.view.read (Elt F) f5 (ix2 g l) :=
  readAt_unit_at arg5.view f5 inb rfl (ix2 0 l) (ix2 g l) (forall_fin2 (by show g.val = n + 0; omega) (Nat.zero_add _).symm)

theorem code_at (g : Fin 8) {s : Walk F} (h : Inside s) (s0 : F .f32)
    (inb : ∀ a, offG (BitVec.ofNat 32 (4 * g.val)) (Wd s) (bit3 s.e) (bit7 s.e) a + S1x1x128.size a ≤ S1024x32x128.size a) :
    newCode (Wd s) s.e s0 (arg6.view.readAt (Elt F) (Rect.unit (s := S1024x32x128) (offG (BitVec.ofNat 32 (4 * g.val)) (Wd s) (bit3 s.e) (bit7 s.e)) S1x1x128.size inb).toLoadRect f6)
      = (s.step (diagOf (arg6.view.read (Elt F) f6) g) s0).e := by
  refine newCode_at (arg6.view.read (Elt F) f6) g h s0 _ fun l q u hq hu => ?_
  refine readAt_unit_at arg6.view f6 inb (offG_at g h.1 h.2 _ _) (ix3 0 0 l) (ix3 q u l) (forall_fin3 ?_ ?_ (Nat.zero_add _).symm)
  · exact hq
  · exact hu

end Reads

set_option maxHeartbeats 8000000 in
/-- One trip. -/
theorem trip2 (𝒱 : Variants) (c : Dev nD) (bd : Option 𝒱.V) (i : grid0.Coords) (arg1 : Memref sig .tc .vmem S1x8x512x256 .f32) (harg1 : arg1.IsWhole) (arg2 : Memref sig .tc .vmem S1x8x512x256 .f32) (harg2 : arg2.IsWhole) (arg3 : Memref sig .tc .vmem S1x8x128 .f32) (harg3 : arg3.IsWhole) (arg4 : Memref sig .tc .vmem S3x8x512 .f32) (harg4 : arg4.IsWhole) (arg5 : Memref sig .tc .vmem S8x512 .f32) (harg5 : arg5.IsWhole) (arg6 : Memref sig .tc .vmem S1024x32x128 .f32) (harg6 : arg6.IsWhole) (s0 : Fin 8 → F .f32) (v739 v749 v759 v769 v779 : F .f32) (v784 : Vec F S1x1x128 .f32) (v785 : BitVec 32)
    (k : Fin k0_t2_loop.trips) (E : Set ℕ) (w : Fin 8 → Walk F) (hw : ∀ g, Inside (w g))
    (f5 : BufTy.Contents (Elt F) arg5.view.ty) (f6 : BufTy.Contents (Elt F) arg6.view.ty) :
    iprop((arg5.view.loc (c : Thread nD τ) ↦[arg5.view.set]{fullShare} f5) ∗ (arg6.view.loc (c : Thread nD τ) ↦[arg6.view.set]{fullShare} f6))
    ⊢@{sProp 𝕄G} wp frame (wpE (defs₀ (F := F)) 𝒱 (c : Thread nD τ) bd) E
      (k0_t2_body (F := F) i arg1 harg1 arg2 harg2 arg3 harg3 arg4 harg4 arg5 harg5 arg6 harg6 cols (s0 0) (s0 1) (s0 2) (s0 3) (s0 4) (s0 5) (s0 6) (s0 7) v739 v749 v759 v769 v779 v784 v785 k (packed w))
      (fun r => iprop(⌜r = packed (stepped (arg6.view.read (Elt F) f6) s0 w)⌝
        ∗ (∃ f5', (arg5.view.loc (c : Thread nD τ) ↦[arg5.view.set]{fullShare} f5') ∗ ⌜arg5.view.read (Elt F) f5' = rowsStep (arg6.view.read (Elt F) f6) s0 w (arg5.view.read (Elt F) f5)⌝)
        ∗ (arg6.view.loc (c : Thread nD τ) ↦[arg6.view.set]{fullShare} f6))) := by
  have c1 : ∀ b3 b7, k0_chk1 (Wd (w 0)) b3 b7 := fun b3 b7 => offG_inb 0 (hw 0).1 (hw 0).2 b3 b7
  have c2 : ∀ b3 b7, k0_chk2 (Wd (w 1)) b3 b7 := fun b3 b7 => offG_inb 1 (hw 1).1 (hw 1).2 b3 b7
  have c3 : ∀ b3 b7, k0_chk3 (Wd (w 2)) b3 b7 := fun b3 b7 => offG_inb 2 (hw 2).1 (hw 2).2 b3 b7
  have c4 : ∀ b3 b7, k0_chk4 (Wd (w 3)) b3 b7 := fun b3 b7 => offG_inb 3 (hw 3).1 (hw 3).2 b3 b7
  have c5 : ∀ b3 b7, k0_chk5 (Wd (w 4)) b3 b7 := fun b3 b7 => offG_inb 4 (hw 4).1 (hw 4).2 b3 b7
  have c6 : ∀ b3 b7, k0_chk6 (Wd (w 5)) b3 b7 := fun b3 b7 => offG_inb 5 (hw 5).1 (hw 5).2 b3 b7
  have c7 : ∀ b3 b7, k0_chk7 (Wd (w 6)) b3 b7 := fun b3 b7 => offG_inb 6 (hw 6).1 (hw 6).2 b3 b7
  have c8 : ∀ b3 b7, k0_chk8 (Wd (w 7)) b3 b7 := fun b3 b7 => offG_inb 7 (hw 7).1 (hw 7).2 b3 b7
  have n0 : newCode (Wd (w 0)) (w 0).e (s0 0) (arg6.view.readAt (Elt F) (Rect.unit (s := S1024x32x128) (k0_off5 (Wd (w 0)) (bit3 (w 0).e) (bit7 (w 0).e)) S1x1x128.size (c1 _ _)).toLoadRect f6) = ((w 0).step (diagOf (arg6.view.read (Elt F) f6) 0) (s0 0)).e :=
    code_at arg6 f6 0 (hw 0) (s0 0) (c1 _ _)
  have n1 : newCode (Wd (w 1)) (w 1).e (s0 1) (arg6.view.readAt (Elt F) (Rect.unit (s := S1024x32x128) (k0_off6 (Wd (w 1)) (bit3 (w 1).e) (bit7 (w 1).e)) S1x1x128.size (c2 _ _)).toLoadRect f6) = ((w 1).step (diagOf (arg6.view.read (Elt F) f6) 1) (s0 1)).e :=
    code_at arg6 f6 1 (hw 1) (s0 1) (c2 _ _)
  have n2 : newCode (Wd (w 2)) (w 2).e (s0 2) (arg6.view.readAt (Elt F) (Rect.unit (s := S1024x32x128) (k0_off7 (Wd (w 2)) (bit3 (w 2).e) (bit7 (w 2).e)) S1x1x128.size (c3 _ _)).toLoadRect f6) = ((w 2).step (diagOf (arg6.view.read (Elt F) f6) 2) (s0 2)).e :=
    code_at arg6 f6 2 (hw 2) (s0 2) (c3 _ _)
  have n3 : newCode (Wd (w 3)) (w 3).e (s0 3) (arg6.view.readAt (Elt F) (Rect.unit (s := S1024x32x128) (k0_off8 (Wd (w 3)) (bit3 (w 3).e) (bit7 (w 3).e)) S1x1x128.size (c4 _ _)).toLoadRect f6) = ((w 3).step (diagOf (arg6.view.read (Elt F) f6) 3) (s0 3)).e :=
    code_at arg6 f6 3 (hw 3) (s0 3) (c4 _ _)
  have n4 : newCode (Wd (w 4)) (w 4).e (s0 4) (arg6.view.readAt (Elt F) (Rect.unit (s := S1024x32x128) (k0_off9 (Wd (w 4)) (bit3 (w 4).e) (bit7 (w 4).e)) S1x1x128.size (c5 _ _)).toLoadRect f6) = ((w 4).step (diagOf (arg6.view.read (Elt F) f6) 4) (s0 4)).e :=
    code_at arg6 f6 4 (hw 4) (s0 4) (c5 _ _)
  have n5 : newCode (Wd (w 5)) (w 5).e (s0 5) (arg6.view.readAt (Elt F) (Rect.unit (s := S1024x32x128) (k0_off10 (Wd (w 5)) (bit3 (w 5).e) (bit7 (w 5).e)) S1x1x128.size (c6 _ _)).toLoadRect f6) = ((w 5).step (diagOf (arg6.view.read (Elt F) f6) 5) (s0 5)).e :=
    code_at arg6 f6 5 (hw 5) (s0 5) (c6 _ _)
  have n6 : newCode (Wd (w 6)) (w 6).e (s0 6) (arg6.view.readAt (Elt F) (Rect.unit (s := S1024x32x128) (k0_off11 (Wd (w 6)) (bit3 (w 6).e) (bit7 (w 6).e)) S1x1x128.size (c7 _ _)).toLoadRect f6) = ((w 6).step (diagOf (arg6.view.read (Elt F) f6) 6) (s0 6)).e :=
    code_at arg6 f6 6 (hw 6) (s0 6) (c7 _ _)
  have n7 : newCode (Wd (w 7)) (w 7).e (s0 7) (arg6.view.readAt (Elt F) (Rect.unit (s := S1024x32x128) (k0_off12 (Wd (w 7)) (bit3 (w 7).e) (bit7 (w 7).e)) S1x1x128.size (c8 _ _)).toLoadRect f6) = ((w 7).step (diagOf (arg6.view.read (Elt F) f6) 7) (s0 7)).e :=
    code_at arg6 f6 7 (hw 7) (s0 7) (c8 _ _)
  have hb : ∀ g, backW (Wd (w g)) (bit3 (w g).e) (bit7 (w g).e) = Wd (stepped (arg6.view.read (Elt F) f6) s0 w g) :=
    fun g => back_word (hw g) _ _
  unfold k0_t2_body packed
  iintro ⟨H5, H6⟩
  sl_exec (disch := first | exact c1 _ _ | exact c2 _ _ | exact c3 _ _ | exact c4 _ _ | exact c5 _ _ | exact c6 _ _ | exact c7 _ _ | exact c8 _ _)
  sl_step
  isplitr [H5 H6]
  · ipureintro
    show (backW (Wd (w 0)) (bit3 (w 0).e) (bit7 (w 0).e), backW (Wd (w 1)) (bit3 (w 1).e) (bit7 (w 1).e), backW (Wd (w 2)) (bit3 (w 2).e) (bit7 (w 2).e), backW (Wd (w 3)) (bit3 (w 3).e) (bit7 (w 3).e), backW (Wd (w 4)) (bit3 (w 4).e) (bit7 (w 4).e), backW (Wd (w 5)) (bit3 (w 5).e) (bit7 (w 5).e), backW (Wd (w 6)) (bit3 (w 6).e) (bit7 (w 6).e), backW (Wd (w 7)) (bit3 (w 7).e) (bit7 (w 7).e), newCode (Wd (w 0)) (w 0).e (s0 0) (arg6.view.readAt (Elt F) (Rect.unit (s := S1024x32x128) (k0_off5 (Wd (w 0)) (bit3 (w 0).e) (bit7 (w 0).e)) S1x1x128.size (c1 _ _)).toLoadRect f6), newCode (Wd (w 1)) (w 1).e (s0 1) (arg6.view.readAt (Elt F) (Rect.unit (s := S1024x32x128) (k0_off6 (Wd (w 1)) (bit3 (w 1).e) (bit7 (w 1).e)) S1x1x128.size (c2 _ _)).toLoadRect f6), newCode (Wd (w 2)) (w 2).e (s0 2) (arg6.view.readAt (Elt F) (Rect.unit (s := S1024x32x128) (k0_off7 (Wd (w 2)) (bit3 (w 2).e) (bit7 (w 2).e)) S1x1x128.size (c3 _ _)).toLoadRect f6), newCode (Wd (w 3)) (w 3).e (s0 3) (arg6.view.readAt (Elt F) (Rect.unit (s := S1024x32x128) (k0_off8 (Wd (w 3)) (bit3 (w 3).e) (bit7 (w 3).e)) S1x1x128.size (c4 _ _)).toLoadRect f6), newCode (Wd (w 4)) (w 4).e (s0 4) (arg6.view.readAt (Elt F) (Rect.unit (s := S1024x32x128) (k0_off9 (Wd (w 4)) (bit3 (w 4).e) (bit7 (w 4).e)) S1x1x128.size (c5 _ _)).toLoadRect f6), newCode (Wd (w 5)) (w 5).e (s0 5) (arg6.view.readAt (Elt F) (Rect.unit (s := S1024x32x128) (k0_off10 (Wd (w 5)) (bit3 (w 5).e) (bit7 (w 5).e)) S1x1x128.size (c6 _ _)).toLoadRect f6), newCode (Wd (w 6)) (w 6).e (s0 6) (arg6.view.readAt (Elt F) (Rect.unit (s := S1024x32x128) (k0_off11 (Wd (w 6)) (bit3 (w 6).e) (bit7 (w 6).e)) S1x1x128.size (c7 _ _)).toLoadRect f6), newCode (Wd (w 7)) (w 7).e (s0 7) (arg6.view.readAt (Elt F) (Rect.unit (s := S1024x32x128) (k0_off12 (Wd (w 7)) (bit3 (w 7).e) (bit7 (w 7).e)) S1x1x128.size (c8 _ _)).toLoadRect f6)) = _
    rw [hb 0, hb 1, hb 2, hb 3, hb 4, hb 5, hb 6, hb 7, n0, n1, n2, n3, n4, n5, n6, n7]
  isplitl [H5]
  · iexists _; isplitl [H5]; · iexact H5
    ipureintro
    refine ext2 fun g l => ?_
    refine (rows_at arg5 f5 ![newRow cols (Wd (w 0)) (w 0).e (newCode (Wd (w 0)) (w 0).e (s0 0) (arg6.view.readAt (Elt F) (Rect.unit (s := S1024x32x128) (k0_off5 (Wd (w 0)) (bit3 (w 0).e) (bit7 (w 0).e)) S1x1x128.size (c1 _ _)).toLoadRect f6)) (arg5.view.readAt (Elt F) (Rect.unit (s := S8x512) ![0, 0] S1x512.size inb_S8x512_S1x512_0_0).toLoadRect f5), newRow cols (Wd (w 1)) (w 1).e (newCode (Wd (w 1)) (w 1).e (s0 1) (arg6.view.readAt (Elt F) (Rect.unit (s := S1024x32x128) (k0_off6 (Wd (w 1)) (bit3 (w 1).e) (bit7 (w 1).e)) S1x1x128.size (c2 _ _)).toLoadRect f6)) (arg5.view.readAt (Elt F) (Rect.unit (s := S8x512) ![1, 0] S1x512.size inb_S8x512_S1x512_1_0).toLoadRect f5), newRow cols (Wd (w 2)) (w 2).e (newCode (Wd (w 2)) (w 2).e (s0 2) (arg6.view.readAt (Elt F) (Rect.unit (s := S1024x32x128) (k0_off7 (Wd (w 2)) (bit3 (w 2).e) (bit7 (w 2).e)) S1x1x128.size (c3 _ _)).toLoadRect f6)) (arg5.view.readAt (Elt F) (Rect.unit (s := S8x512) ![2, 0] S1x512.size inb_S8x512_S1x512_2_0).toLoadRect f5), newRow cols (Wd (w 3)) (w 3).e (newCode (Wd (w 3)) (w 3).e (s0 3) (arg6.view.readAt (Elt F) (Rect.unit (s := S1024x32x128) (k0_off8 (Wd (w 3)) (bit3 (w 3).e) (bit7 (w 3).e)) S1x1x128.size (c4 _ _)).toLoadRect f6)) (arg5.view.readAt (Elt F) (Rect.unit (s := S8x512) ![3, 0] S1x512.size inb_S8x512_S1x512_3_0).toLoadRect f5), newRow cols (Wd (w 4)) (w 4).e (newCode (Wd (w 4)) (w 4).e (s0 4) (arg6.view.readAt (Elt F) (Rect.unit (s := S1024x32x128) (k0_off9 (Wd (w 4)) (bit3 (w 4).e) (bit7 (w 4).e)) S1x1x128.size (c5 _ _)).toLoadRect f6)) (arg5.view.readAt (Elt F) (Rect.unit (s := S8x512) ![4, 0] S1x512.size inb_S8x512_S1x512_4_0).toLoadRect f5), newRow cols (Wd (w 5)) (w 5).e (newCode (Wd (w 5)) (w 5).e (s0 5) (arg6.view.readAt (Elt F) (Rect.unit (s := S1024x32x128) (k0_off10 (Wd (w 5)) (bit3 (w 5).e) (bit7 (w 5).e)) S1x1x128.size (c6 _ _)).toLoadRect f6)) (arg5.view.readAt (Elt F) (Rect.unit (s := S8x512) ![5, 0] S1x512.size inb_S8x512_S1x512_5_0).toLoadRect f5), newRow cols (Wd (w 6)) (w 6).e (newCode (Wd (w 6)) (w 6).e (s0 6) (arg6.view.readAt (Elt F) (Rect.unit (s := S1024x32x128) (k0_off11 (Wd (w 6)) (bit3 (w 6).e) (bit7 (w 6).e)) S1x1x128.size (c7 _ _)).toLoadRect f6)) (arg5.view.readAt (Elt F) (Rect.unit (s := S8x512) ![6, 0] S1x512.size inb_S8x512_S1x512_6_0).toLoadRect f5), newRow cols (Wd (w 7)) (w 7).e (newCode (Wd (w 7)) (w 7).e (s0 7) (arg6.view.readAt (Elt F) (Rect.unit (s := S1024x32x128) (k0_off12 (Wd (w 7)) (bit3 (w 7).e) (bit7 (w 7).e)) S1x1x128.size (c8 _ _)).toLoadRect f6)) (arg5.view.readAt (Elt F) (Rect.unit (s := S8x512) ![7, 0] S1x512.size inb_S8x512_S1x512_7_0).toLoadRect f5)] g l).trans ?_
    have key : ∀ (n : ℕ) (inb) (g : Fin 8) (hg : g.val = n), newRow cols (Wd (w g)) (w g).e (stepped (arg6.view.read (Elt F) f6) s0 w g).e
        (arg5.view.readAt (Elt F) (Rect.unit (s := S8x512) ![n, 0] S1x512.size inb).toLoadRect f5) (ix2 0 l)
        = rowsStep (arg6.view.read (Elt F) f6) s0 w (arg5.view.read (Elt F) f5) (ix2 g l) := fun n inb g hg => by
      rw [newRow_at (arg6.view.read (Elt F) f6) g (hw g) (s0 g), row_ld arg5 f5 n inb g hg]
    rw [n0, n1, n2, n3, n4, n5, n6, n7]
    obtain ⟨g, hg⟩ := g
    interval_cases g
    · exact key 0 _ 0 rfl
    · exact key 1 _ 1 rfl
    · exact key 2 _ 2 rfl
    · exact key 3 _ 3 rfl
    · exact key 4 _ 4 rfl
    · exact key 5 _ 5 rfl
    · exact key 6 _ 6 rfl
    · exact key 7 _ 7 rfl
  · iexact H6

/-- The walks after `k` trips. -/
abbrev walks (T : Table F) (s0 e0 : Fin 8 → F .f32) (k : ℕ) : Fin 8 → Walk F := fun g => walkAt (diagOf T g) (s0 g) (e0 g) k

/-- The rows after `k` trips. -/
def rowsAt (T : Table F) (s0 e0 : Fin 8 → F .f32) (R : S8x512.Idx → F .f32) : ℕ → S8x512.Idx → F .f32
  | 0 => R
  | k + 1 => rowsStep T s0 (walks T s0 e0 k) (rowsAt T s0 e0 R k)

theorem rowsAt_at (T : Table F) (s0 e0 : Fin 8 → F .f32) (R : S8x512.Idx → F .f32) (k : ℕ) (g : Fin 8) (l : Fin 512) :
    rowsAt T s0 e0 R k (ix2 g l) = rowAt (diagOf T g) (s0 g) (e0 g) (fun l => R (ix2 g l)) k l := by
  induction k with
  | zero => rfl
  | succ k ih =>
    show FloatOps.addf (rowsAt T s0 e0 R k (ix2 g l)) _ = FloatOps.addf _ _
    rw [ih]; rfl

/-- The word of the last cell, as the kernel computes it. -/
abbrev lastWord : BitVec 32 := Scalar.addi (Scalar.muli 511#32 1024#32) 511#32

set_option warn.classDefReducibility false in
set_option maxHeartbeats 4000000 in
/-- The loop by its invariant. -/
@[sl_loop] def loopInv_k0_t2 (𝒱 : Variants) (c : Dev nD) (bd : Option 𝒱.V) (E : Set ℕ) (i : grid0.Coords) (arg1 : Memref sig .tc .vmem S1x8x512x256 .f32) (harg1 : arg1.IsWhole) (arg2 : Memref sig .tc .vmem S1x8x512x256 .f32) (harg2 : arg2.IsWhole) (arg3 : Memref sig .tc .vmem S1x8x128 .f32) (harg3 : arg3.IsWhole) (arg4 : Memref sig .tc .vmem S3x8x512 .f32) (harg4 : arg4.IsWhole) (arg5 : Memref sig .tc .vmem S8x512 .f32) (harg5 : arg5.IsWhole) (arg6 : Memref sig .tc .vmem S1024x32x128 .f32) (harg6 : arg6.IsWhole) (v555 v557 v559 v561 v563 v565 v567 v569 : F .f32) (v739 v749 v759 v769 v779 : F .f32) (v784 : Vec F S1x1x128 .f32) (v785 : BitVec 32)
    (e5 e6 e7 : F .f32) (G5 : BufTy.Contents (Elt F) arg5.view.ty) (G6 : BufTy.Contents (Elt F) arg6.view.ty) :
    LoopInvTy_k0_t2 (F := F) Unit ℕ (UR sig nD τ) ℕ 𝒱 c bd E i arg1 harg1 arg2 harg2 arg3 harg3 arg4 harg4 arg5 harg5 arg6 harg6 cols v555 v557 v559 v561 v563 v565 v567 v569 v739 v749 v759 v769 v779 v784 v785
      (lastWord, lastWord, lastWord, lastWord, lastWord, lastWord, lastWord, lastWord, v739, v749, v759, v769, v779, e5, e6, e7) where
  inv k acc := iprop((∃ f5, (arg5.view.loc (c : Thread nD τ) ↦[arg5.view.set]{fullShare} f5)
      ∗ ⌜arg5.view.read (Elt F) f5 = rowsAt (arg6.view.read (Elt F) G6) ![v555, v557, v559, v561, v563, v565, v567, v569] ![v739, v749, v759, v769, v779, e5, e6, e7] (arg5.view.read (Elt F) G5) k⌝)
    ∗ ⌜acc = packed (walks (arg6.view.read (Elt F) G6) ![v555, v557, v559, v561, v563, v565, v567, v569] ![v739, v749, v759, v769, v779, e5, e6, e7] k)⌝
    ∗ (arg6.view.loc (c : Thread nD τ) ↦[arg6.view.set]{fullShare} G6))
  step k acc := by
    iintro ⟨⟨%f5, H5, %h5⟩, %hacc, H6⟩
    subst hacc
    iapply (wp_wand_r Idealize.ShloMosaic.frame (wpE (defs₀ (F := F)) 𝒱 (c : Thread nD τ) bd) E)
    isplitl [H5 H6]
    · iapply (trip2 𝒱 c bd i arg1 harg1 arg2 harg2 arg3 harg3 arg4 harg4 arg5 harg5 arg6 harg6 ![v555, v557, v559, v561, v563, v565, v567, v569] v739 v749 v759 v769 v779 v784 v785 k E (walks (arg6.view.read (Elt F) G6) ![v555, v557, v559, v561, v563, v565, v567, v569] ![v739, v749, v759, v769, v779, e5, e6, e7] k.val) (fun g => walkAt_lt _ _ _ _) f5 G6)
      isplitl [H5]; · iexact H5
      iexact H6
    · iintro %r ⟨%hr, ⟨%f5', H5, %h5'⟩, H6⟩
      isplitl [H5]
      · iexists f5'; isplitl [H5]; · iexact H5
        ipureintro
        rw [h5', h5]; rfl
      isplitr; · ipureintro; exact hr
      iexact H6

end Cert.KernelIdeal.Hand
-- ==== Proof.Skew.lean ====
/-
  The skewed table: nine conditional rotations move column `i` of a stacked page down by `i` rows, so that row `q` of the
  result holds the cells of diagonal `q`.
-/
module

public import proofs.«01_k».proof.Proof.Gen.KernelIdeal.Skeleton
public import proofs.«01_k».proof.Proof.DpState
public import proofs.«01_k».proof.Proof.Reads
public import Idealize.ShloMosaic.Lib.ValueIdx
public import Idealize.ShloMosaic.Lib.KernelVsHost
public import Idealize.ShloMosaic.Lib.Pipeline.Value
public import Idealize.ShloMosaic.Lib.WritesUnit

@[expose] public section

set_option maxRecDepth 16384

noncomputable section

namespace Cert.KernelIdeal.Hand

open Idealize.ShloMosaic Idealize.ShloMosaic.TcCoe Idealize.ShloMosaic.ValueIdx
open Cert.KernelIdeal Cert.KernelIdeal.Gen Cert.Proof

variable {F : FTy → Type} [FloatOps F]

/-- The column numbers of a stacked page. -/
abbrev laneIx : IVec S1024x512 32 := iota .tc S1024x512 32 [1] iota_S1024x512_d1_w32

/-- One conditional rotation: the columns whose number has bit `b` move down by `b` rows. -/
abbrev stage (b : BitVec 32) (B : FVec F S1024x512 .f32) : FVec F S1024x512 .f32 :=
  select (cmpi .ne (andi laneIx (broadcast S1024x512 b)) (broadcast S1024x512 0#32))
    (dynamicRotate 0 b none B rotates_S1024x512_d0) B

theorem stage_at (t : ℕ) (ht : t < 9) (B : FVec F S1024x512 .f32) (k : Fin 1024) (i : Fin 512) :
    stage (BitVec.ofNat 32 (2 ^ t)) B (ix2 k i)
      = B (ix2 ⟨(k.val + 1024 - (if i.val.testBit t then 2 ^ t else 0)) % 1024, Nat.mod_lt _ (by decide)⟩ i) := by
  have hp : 2 ^ t ≤ 256 := (Nat.pow_le_pow_right (by decide) (show t ≤ 8 by omega)).trans (by decide)
  have hl : laneIx (ix2 k i) = BitVec.ofNat 32 i.val := iota_single_apply .tc S1024x512 32 1 iota_S1024x512_d1_w32 (ix2 k i)
  have hc : Scalar.cmpi .ne (Scalar.andi (laneIx (ix2 k i)) (BitVec.ofNat 32 (2 ^ t))) 0#32 = BitVec.ofBool (i.val.testBit t) := by
    rw [hl]
    show BitVec.ofBool (BitVec.ofNat 32 i.val &&& BitVec.ofNat 32 (2 ^ t) != 0#32) = _
    congr 1
    have h1 : BitVec.ofNat 32 i.val &&& BitVec.ofNat 32 (2 ^ t) = BitVec.ofNat 32 (i.val &&& 2 ^ t) := by
      apply BitVec.eq_of_toNat_eq
      have h2 : i.val &&& 2 ^ t ≤ 2 ^ t := Nat.and_le_right
      rw [BitVec.toNat_and, BitVec.toNat_ofNat, BitVec.toNat_ofNat, BitVec.toNat_ofNat, Nat.mod_eq_of_lt (by omega),
        Nat.mod_eq_of_lt (by omega), Nat.mod_eq_of_lt (by omega)]
    have h3 : i.val &&& 2 ^ t = if i.val.testBit t then 2 ^ t else 0 := by
      apply Nat.eq_of_testBit_eq
      intro j
      rw [Nat.testBit_and, Nat.testBit_two_pow]
      by_cases hj : t = j
      · subst hj; cases hb : i.val.testBit t <;> simp
      · cases hb : i.val.testBit t <;> simp [hj, Nat.testBit_two_pow]
    rw [h1, h3]
    cases hb : i.val.testBit t
    · simp
    · simp only [if_true]
      have : BitVec.ofNat 32 (2 ^ t) ≠ 0#32 := by
        intro h; have := congrArg BitVec.toNat h
        rw [BitVec.toNat_ofNat, Nat.mod_eq_of_lt (by omega)] at this
        have := Nat.two_pow_pos t; simp at *
      simpa using this
  show Scalar.select (Scalar.cmpi .ne (Scalar.andi (laneIx (ix2 k i)) (BitVec.ofNat 32 (2 ^ t))) 0#32)
    (dynamicRotate 0 (BitVec.ofNat 32 (2 ^ t)) none B rotates_S1024x512_d0 (ix2 k i)) (B (ix2 k i)) = _
  rw [hc, select_ofBool]
  cases hb : i.val.testBit t
  · rw [if_neg (by simp), if_neg (by simp)]
    refine congrArg B (congrArg (fun r => ix2 r i) (Fin.ext ?_))
    show k.val = (k.val + 1024 - 0) % 1024
    omega
  · rw [if_pos rfl, if_pos rfl]
    refine dynamicRotate_apply (s := S1024x512) 0 _ B rotates_S1024x512_d0 (ix2 k i) _ ?_
    refine forall_fin2 ?_ rfl
    show (k.val + 1024 - 2 ^ t) % 1024 = if (0 : Fin 2) = 0 then (k.val + 1024 - (BitVec.ofNat 32 (2 ^ t)).toNat % 1024) % 1024 else k.val
    rw [if_pos rfl, BitVec.toNat_ofNat, Nat.mod_eq_of_lt (show 2 ^ t < 2 ^ 32 by omega), Nat.mod_eq_of_lt (show 2 ^ t < 1024 by omega)]

/-- The nine conditional rotations in a row. -/
abbrev roll9 (B : FVec F S1024x512 .f32) : FVec F S1024x512 .f32 :=
  stage 256#32 (stage 128#32 (stage 64#32 (stage 32#32 (stage 16#32 (stage 8#32 (stage 4#32 (stage 2#32 (stage 1#32 B))))))))

theorem bits9 (n : ℕ) (h : n < 512) :
    (if n.testBit 8 then 2 ^ 8 else 0) + (if n.testBit 7 then 2 ^ 7 else 0) + (if n.testBit 6 then 2 ^ 6 else 0) + (if n.testBit 5 then 2 ^ 5 else 0)
      + (if n.testBit 4 then 2 ^ 4 else 0) + (if n.testBit 3 then 2 ^ 3 else 0) + (if n.testBit 2 then 2 ^ 2 else 0)
      + (if n.testBit 1 then 2 ^ 1 else 0) + (if n.testBit 0 then 2 ^ 0 else 0) = n := by
  have key : ∀ m t : ℕ, (if m.testBit t then 2 ^ t else 0) = m / 2 ^ t % 2 * 2 ^ t := by
    intro m t
    rw [Nat.testBit_eq_decide_div_mod_eq]
    rcases Nat.mod_two_eq_zero_or_one (m / 2 ^ t) with h | h <;> simp [h]
  simp only [key]
  norm_num
  omega

theorem roll9_at (B : FVec F S1024x512 .f32) (k : Fin 1024) (i : Fin 512) :
    roll9 B (ix2 k i) = B (ix2 ⟨(k.val + 1024 - i.val) % 1024, Nat.mod_lt _ (by decide)⟩ i) := by
  refine (stage_at 8 (by decide) _ _ _).trans ?_
  refine (stage_at 7 (by decide) _ _ _).trans ?_
  refine (stage_at 6 (by decide) _ _ _).trans ?_
  refine (stage_at 5 (by decide) _ _ _).trans ?_
  refine (stage_at 4 (by decide) _ _ _).trans ?_
  refine (stage_at 3 (by decide) _ _ _).trans ?_
  refine (stage_at 2 (by decide) _ _ _).trans ?_
  refine (stage_at 1 (by decide) _ _ _).trans ?_
  refine (stage_at 0 (by decide) _ _ _).trans ?_
  refine congrArg B (congrArg (fun r => ix2 r i) (Fin.ext ?_))
  have hb := bits9 i.val i.isLt
  dsimp only
  have hle : ∀ t : ℕ, t < 9 → (if i.val.testBit t then 2 ^ t else 0) ≤ 2 ^ t := fun t _ => by split; exacts [le_rfl, Nat.zero_le _]
  have a8 := hle 8 (by decide); have a7 := hle 7 (by decide); have a6 := hle 6 (by decide); have a5 := hle 5 (by decide)
  have a4 := hle 4 (by decide); have a3 := hle 3 (by decide); have a2 := hle 2 (by decide); have a1 := hle 1 (by decide)
  have a0 := hle 0 (by decide)
  generalize (if i.val.testBit 8 then 2 ^ 8 else 0) = b8 at *
  generalize (if i.val.testBit 7 then 2 ^ 7 else 0) = b7 at *
  generalize (if i.val.testBit 6 then 2 ^ 6 else 0) = b6 at *
  generalize (if i.val.testBit 5 then 2 ^ 5 else 0) = b5 at *
  generalize (if i.val.testBit 4 then 2 ^ 4 else 0) = b4 at *
  generalize (if i.val.testBit 3 then 2 ^ 3 else 0) = b3 at *
  generalize (if i.val.testBit 2 then 2 ^ 2 else 0) = b2 at *
  generalize (if i.val.testBit 1 then 2 ^ 1 else 0) = b1 at *
  generalize (if i.val.testBit 0 then 2 ^ 0 else 0) = b0 at *
  have := k.isLt
  omega

/-- A sample's costs over a block of infinities. -/
abbrev stacked (S : FVec F S1x512x512 .f32) : FVec F S1024x512 .f32 :=
  concatenate S1024x512 0 [⟨S512x512, shapeCast S512x512 S shapeCasts_S1x512x512_S512x512⟩,
    ⟨S512x512, broadcast S512x512 (Scalar.ofBits .f32 0x7F800000#32)⟩] concatenates_S512x512_S512x512_S1024x512_d0

theorem stacked_at (S : FVec F S1x512x512 .f32) (k : Fin 1024) (i : Fin 512) :
    stacked S (ix2 k i) = if h : k.val < 512 then S (ix3 0 ⟨k.val, h⟩ i) else infF := by
  by_cases h : k.val < 512
  · rw [dif_pos h]
    refine (concatenate_pair_apply_left (0 : Fin 2) (shapeCast S512x512 S shapeCasts_S1x512x512_S512x512) (broadcast S512x512 (Scalar.ofBits .f32 0x7F800000#32)) concatenates_S512x512_S512x512_S1024x512_d0 (ix2 k i) rfl (ix2 (n0 := 512) ⟨k.val, h⟩ i) (forall_fin2 rfl rfl)).trans ?_
    exact shapeCast_1ab_ab_apply S shapeCasts_S1x512x512_S512x512 ⟨k.val, h⟩ i
  · rw [dif_neg h]
    refine (concatenate_pair_apply_right (0 : Fin 2) (shapeCast S512x512 S shapeCasts_S1x512x512_S512x512) (broadcast S512x512 (Scalar.ofBits .f32 0x7F800000#32)) concatenates_S512x512_S512x512_S1024x512_d0 (ix2 k i) rfl rfl (ix2 ⟨k.val - 512, by omega⟩ i)
      (forall_fin2 (fun hh => absurd rfl hh) (fun _ => rfl)) ?_).trans rfl
    show k.val - 512 + 512 = k.val
    omega

/-- A sample's page of the table. -/
abbrev pageOf (S : FVec F S1x512x512 .f32) : FVec F S1024x4x128 .f32 :=
  shapeCast S1024x4x128 (shapeCast S1024x4x128 (roll9 (stacked S)) shapeCasts_S1024x512_S1024x4x128) shapeCasts_S1024x4x128_S1024x4x128

theorem pageOf_at (S : FVec F S1x512x512 .f32) (q : Fin 1024) (i : Fin 512) :
    pageOf S (ix3 q ⟨i.val / 128, by omega⟩ ⟨i.val % 128, Nat.mod_lt _ (by decide)⟩)
      = skewed (fun j i => S (ix3 0 j i)) q.val i := by
  have e1 : pageOf S (ix3 q ⟨i.val / 128, by omega⟩ ⟨i.val % 128, Nat.mod_lt _ (by decide)⟩) = roll9 (stacked S) (ix2 q i) := by
    refine (shapeCast_apply _ _ _ _ rfl).trans ?_
    refine shapeCast_apply _ _ _ _ ?_
    rw [Shape.rowMajor_val_three, Shape.rowMajor_val_two]
    show q.val * 512 + i.val = (q.val * 4 + i.val / 128) * 128 + i.val % 128
    omega
  rw [e1, roll9_at, stacked_at]
  rfl

end Cert.KernelIdeal.Hand
-- ==== Proof.Table.lean ====
/-
  The skewed table and the start pages as the kernel stores them, read back.
-/
module

public import proofs.«01_k».proof.Proof.Skew
public import proofs.«01_k».proof.Proof.Pay1
public import proofs.«01_k».proof.Proof.Pay2

@[expose] public section

set_option maxRecDepth 16384

noncomputable section

namespace Cert.KernelIdeal.Hand

open Idealize.ShloMosaic Idealize.ShloMosaic.TcCoe Idealize.ShloMosaic.ValueIdx
open Cert.KernelIdeal Cert.KernelIdeal.Gen Cert.Proof

variable {F : FTy → Type} [FloatOps F]

theorem slice_at (n : ℕ) (h : S8x512x512.Slices ![n, 0, 0] S1x512x512) (C : FVec F S8x512x512 .f32) (g : Fin 8) (hg : g.val = n)
    (j i : Fin 512) : extractStridedSlice S1x512x512 ![n, 0, 0] C h (ix3 0 j i) = C (ix3 g j i) :=
  extractStridedSlice_apply _ _ _ (ix3 0 j i) (ix3 g j i)
    (forall_fin3 (by show g.val = n + 0; omega) (Nat.zero_add _).symm (Nat.zero_add _).symm)

/-- The eight samples' costs. -/
abbrev costs (C : FVec F S8x512x512 .f32) : Fin 8 → FVec F S1x512x512 .f32 :=
  ![extractStridedSlice S1x512x512 ![0, 0, 0] C slices_S8x512x512_o0_0_0_S1x512x512, extractStridedSlice S1x512x512 ![1, 0, 0] C slices_S8x512x512_o1_0_0_S1x512x512, extractStridedSlice S1x512x512 ![2, 0, 0] C slices_S8x512x512_o2_0_0_S1x512x512, extractStridedSlice S1x512x512 ![3, 0, 0] C slices_S8x512x512_o3_0_0_S1x512x512, extractStridedSlice S1x512x512 ![4, 0, 0] C slices_S8x512x512_o4_0_0_S1x512x512, extractStridedSlice S1x512x512 ![5, 0, 0] C slices_S8x512x512_o5_0_0_S1x512x512, extractStridedSlice S1x512x512 ![6, 0, 0] C slices_S8x512x512_o6_0_0_S1x512x512, extractStridedSlice S1x512x512 ![7, 0, 0] C slices_S8x512x512_o7_0_0_S1x512x512]

theorem costs_at (C : FVec F S8x512x512 .f32) (g : Fin 8) (j i : Fin 512) : costs C g (ix3 0 j i) = C (ix3 g j i) := by
  obtain ⟨g, hg⟩ := g
  interval_cases g
  · exact slice_at 0 slices_S8x512x512_o0_0_0_S1x512x512 C ⟨0, hg⟩ rfl j i
  · exact slice_at 1 slices_S8x512x512_o1_0_0_S1x512x512 C ⟨1, hg⟩ rfl j i
  · exact slice_at 2 slices_S8x512x512_o2_0_0_S1x512x512 C ⟨2, hg⟩ rfl j i
  · exact slice_at 3 slices_S8x512x512_o3_0_0_S1x512x512 C ⟨3, hg⟩ rfl j i
  · exact slice_at 4 slices_S8x512x512_o4_0_0_S1x512x512 C ⟨4, hg⟩ rfl j i
  · exact slice_at 5 slices_S8x512x512_o5_0_0_S1x512x512 C ⟨5, hg⟩ rfl j i
  · exact slice_at 6 slices_S8x512x512_o6_0_0_S1x512x512 C ⟨6, hg⟩ rfl j i
  · exact slice_at 7 slices_S8x512x512_o7_0_0_S1x512x512 C ⟨7, hg⟩ rfl j i

/-- A sample's skewed cost. -/
abbrev skewG (C : FVec F S8x512x512 .f32) (g : Fin 8) : ℕ → Lane F := skewed fun j i => C (ix3 g j i)

/-- The table the kernel starts from. -/
def table0 (C : FVec F S8x512x512 .f32) : Table F := fun y => skewG C (smp (y 1)) (y 0).val (rowOf (y 1) (y 2))

theorem diagOf_table0 (C : FVec F S8x512x512 .f32) (g : Fin 8) (q : ℕ) (hq : q < 1024) (i : Fin 512) :
    diagOf (table0 C) g q i = skewG C g q i := by
  show skewG C (smp ((adr q g i) 1)) (q % 1024) (rowOf ((adr q g i) 1) ((adr q g i) 2)) = _
  rw [smp_adr, rowOf_adr, Nat.mod_eq_of_lt hq]

section Reads

variable {sig' : RefSig} {κ : Kind} {sp : Space} (arg6 : View sig' κ sp S1024x32x128 .f32) (f6 : arg6.ty.Contents (Elt F))

/-- The eight stores of the table, newest first. -/
abbrev tabL (p : Fin 8 → FVec F S1024x4x128 .f32) : List (View.Piece (Elt F) S1024x32x128 .f32) :=
  [⟨Rect.unit (s := S1024x32x128) ![0, 28, 0] S1024x4x128.size inb_S1024x32x128_S1024x4x128_0_28_0, p 7⟩, ⟨Rect.unit (s := S1024x32x128) ![0, 24, 0] S1024x4x128.size inb_S1024x32x128_S1024x4x128_0_24_0, p 6⟩, ⟨Rect.unit (s := S1024x32x128) ![0, 20, 0] S1024x4x128.size inb_S1024x32x128_S1024x4x128_0_20_0, p 5⟩, ⟨Rect.unit (s := S1024x32x128) ![0, 16, 0] S1024x4x128.size inb_S1024x32x128_S1024x4x128_0_16_0, p 4⟩, ⟨Rect.unit (s := S1024x32x128) ![0, 12, 0] S1024x4x128.size inb_S1024x32x128_S1024x4x128_0_12_0, p 3⟩, ⟨Rect.unit (s := S1024x32x128) ![0, 8, 0] S1024x4x128.size inb_S1024x32x128_S1024x4x128_0_8_0, p 2⟩, ⟨Rect.unit (s := S1024x32x128) ![0, 4, 0] S1024x4x128.size inb_S1024x32x128_S1024x4x128_0_4_0, p 1⟩, ⟨Rect.unit (s := S1024x32x128) ![0, 0, 0] S1024x4x128.size inb_S1024x32x128_S1024x4x128_0_0_0, p 0⟩]

theorem tab_at (p : Fin 8 → FVec F S1024x4x128 .f32) (q : Fin 1024) (r : Fin 32) (l : Fin 128) :
    arg6.read (Elt F) (arg6.writes (Elt F) f6 (tabL p)) (ix3 q r l) = p (smp r) (ix3 q ⟨r.val % 4, Nat.mod_lt _ (by decide)⟩ l) := by
  have miss : ∀ (n : ℕ) (inb : ∀ a, (![0, 4 * n, 0] : Fin 3 → ℕ) a + S1024x4x128.size a ≤ S1024x32x128.size a) (w : FVec F S1024x4x128 .f32)
      (L : List (View.Piece (Elt F) S1024x32x128 .f32)), r.val / 4 ≠ n →
      arg6.read (Elt F) (arg6.writes (Elt F) f6 (⟨Rect.unit (s := S1024x32x128) ![0, 4 * n, 0] S1024x4x128.size inb, w⟩ :: L)) (ix3 q r l)
        = arg6.read (Elt F) (arg6.writes (Elt F) f6 L) (ix3 q r l) := fun n inb w L hn =>
    View.read_writes_cons_unit_of_not_mem arg6 f6 inb _ _ (ix3 q r l) rfl 1 (by show r.val < 4 * n ∨ 4 * n + 4 ≤ r.val; omega)
  have hit : ∀ (n : ℕ) (inb : ∀ a, (![0, 4 * n, 0] : Fin 3 → ℕ) a + S1024x4x128.size a ≤ S1024x32x128.size a) (w : FVec F S1024x4x128 .f32)
      (L : List (View.Piece (Elt F) S1024x32x128 .f32)), r.val / 4 = n →
      arg6.read (Elt F) (arg6.writes (Elt F) f6 (⟨Rect.unit (s := S1024x32x128) ![0, 4 * n, 0] S1024x4x128.size inb, w⟩ :: L)) (ix3 q r l)
        = w (ix3 q ⟨r.val % 4, Nat.mod_lt _ (by decide)⟩ l) := fun n inb w L hn =>
    View.read_writes_cons_unit_of_mem arg6 f6 inb _ _ (ix3 q r l) (ix3 q ⟨r.val % 4, Nat.mod_lt _ (by decide)⟩ l) rfl
      (forall_fin3 (Nat.zero_add _).symm (by show r.val = 4 * n + r.val % 4; omega) (Nat.zero_add _).symm)
  have hs : ∀ n : Fin 8, r.val / 4 = n.val → p n = p (smp r) := fun n hn => congrArg p (Fin.ext hn.symm)
  by_cases h7 : r.val / 4 = 7
  · exact (hit 7 _ _ _ h7).trans (congrFun (hs 7 h7) _)
  refine (miss 7 _ _ _ h7).trans ?_
  by_cases h6 : r.val / 4 = 6
  · exact (hit 6 _ _ _ h6).trans (congrFun (hs 6 h6) _)
  refine (miss 6 _ _ _ h6).trans ?_
  by_cases h5 : r.val / 4 = 5
  · exact (hit 5 _ _ _ h5).trans (congrFun (hs 5 h5) _)
  refine (miss 5 _ _ _ h5).trans ?_
  by_cases h4 : r.val / 4 = 4
  · exact (hit 4 _ _ _ h4).trans (congrFun (hs 4 h4) _)
  refine (miss 4 _ _ _ h4).trans ?_
  by_cases h3 : r.val / 4 = 3
  · exact (hit 3 _ _ _ h3).trans (congrFun (hs 3 h3) _)
  refine (miss 3 _ _ _ h3).trans ?_
  by_cases h2 : r.val / 4 = 2
  · exact (hit 2 _ _ _ h2).trans (congrFun (hs 2 h2) _)
  refine (miss 2 _ _ _ h2).trans ?_
  by_cases h1 : r.val / 4 = 1
  · exact (hit 1 _ _ _ h1).trans (congrFun (hs 1 h1) _)
  refine (miss 1 _ _ _ h1).trans ?_
  have h0 : r.val / 4 = 0 := by omega
  exact (hit 0 _ _ _ h0).trans (congrFun (hs 0 h0) _)

theorem tab_read (C : FVec F S8x512x512 .f32) : arg6.read (Elt F) (arg6.writes (Elt F) f6 (tabL fun g => pageOf (costs C g))) = table0 C := by
  refine ext3 fun q r l => ?_
  rw [tab_at]
  have e : (ix3 q ⟨r.val % 4, Nat.mod_lt _ (by decide)⟩ l : S1024x4x128.Idx)
      = ix3 q ⟨(rowOf r l).val / 128, by omega⟩ ⟨(rowOf r l).val % 128, Nat.mod_lt _ (by decide)⟩ := by
    congr 1
    · apply Fin.ext; show r.val % 4 = (128 * (r.val % 4) + l.val) / 128; omega
    · apply Fin.ext; show l.val = (128 * (r.val % 4) + l.val) % 128; omega
  rw [e, pageOf_at]
  show _ = skewed (fun j i => C (ix3 (smp r) j i)) q.val (rowOf r l)
  refine congrArg (fun c => skewed (F := F) c q.val (rowOf r l)) ?_
  funext j i
  exact costs_at C _ j i

end Reads

theorem pay62_at (v : Vec F S1x32x128 .f32) (g : Fin 8) (i : Fin 512) :
    k0_pay62 v (ix2 g i) = if i.val = 0 then v (ix3 0 ⟨4 * g.val + i.val / 128, by omega⟩ ⟨i.val % 128, Nat.mod_lt _ (by decide)⟩) else infF := by
  have hl : lanes (ix2 g i) = BitVec.ofNat 32 i.val := iota_single_apply .tc S8x512 32 1 iota_S8x512_d1_w32 (ix2 g i)
  unfold k0_pay62
  show Scalar.select (Scalar.cmpi .eq (lanes (ix2 g i)) 0#32) (shapeCast (α := F .f32) S8x512 v shapeCasts_S1x32x128_S8x512 (ix2 g i)) (infF (F := F)) = _
  rw [hl, cmpi_eq_ofNat (by omega) (by omega) (b := 0), select_ofBool]
  simp only [decide_eq_true_eq]
  refine if_congr Iff.rfl ?_ rfl
  refine shapeCast_apply _ _ _ _ ?_
  rw [Shape.rowMajor_val_three, Shape.rowMajor_val_two]
  show (0 * 32 + (4 * g.val + i.val / 128)) * 128 + i.val % 128 = g.val * 512 + i.val
  omega

section Pages

variable {sig' : RefSig} {κ : Kind} {sp : Space} (arg4 : View sig' κ sp S3x8x512 .f32) (f4 : arg4.ty.Contents (Elt F))

/-- The three stores of the pages, newest first. -/
abbrev pagL (v : Vec F S1x32x128 .f32) : List (View.Piece (Elt F) S3x8x512 .f32) :=
  [⟨Rect.unit (s := S3x8x512) ![2, 0, 0] S1x8x512.size inb_S3x8x512_S1x8x512_2_0_0, k0_pay66 k0_pay65⟩, ⟨Rect.unit (s := S3x8x512) ![1, 0, 0] S1x8x512.size inb_S3x8x512_S1x8x512_1_0_0, k0_pay64 v⟩, ⟨Rect.unit (s := S3x8x512) ![0, 0, 0] S1x8x512.size inb_S3x8x512_S1x8x512_0_0_0, k0_pay63 v⟩]

theorem pages_start (v : Vec F S1x32x128 .f32) (T : Table F) (hv : ∀ r l, v (ix3 0 r l) = T (ix3 0 r l)) :
    PagesStart (arg4.read (Elt F) (arg4.writes (Elt F) f4 (pagL v)), T) := by
  have miss : ∀ (n : ℕ) (inb : ∀ a, (![n, 0, 0] : Fin 3 → ℕ) a + S1x8x512.size a ≤ S3x8x512.size a) (w : FVec F S1x8x512 .f32)
      (L : List (View.Piece (Elt F) S3x8x512 .f32)) (p : Fin 3) (g : Fin 8) (i : Fin 512), p.val ≠ n →
      arg4.read (Elt F) (arg4.writes (Elt F) f4 (⟨Rect.unit (s := S3x8x512) ![n, 0, 0] S1x8x512.size inb, w⟩ :: L)) (ix3 p g i)
        = arg4.read (Elt F) (arg4.writes (Elt F) f4 L) (ix3 p g i) := fun n inb w L p g i hn =>
    View.read_writes_cons_unit_of_not_mem arg4 f4 inb _ _ (ix3 p g i) rfl 0 (by show p.val < n ∨ n + 1 ≤ p.val; omega)
  have hit : ∀ (n : ℕ) (inb : ∀ a, (![n, 0, 0] : Fin 3 → ℕ) a + S1x8x512.size a ≤ S3x8x512.size a) (w : FVec F S1x8x512 .f32)
      (L : List (View.Piece (Elt F) S3x8x512 .f32)) (p : Fin 3) (g : Fin 8) (i : Fin 512), p.val = n →
      arg4.read (Elt F) (arg4.writes (Elt F) f4 (⟨Rect.unit (s := S3x8x512) ![n, 0, 0] S1x8x512.size inb, w⟩ :: L)) (ix3 p g i)
        = w (ix3 0 g i) := fun n inb w L p g i hn =>
    View.read_writes_cons_unit_of_mem arg4 f4 inb _ _ (ix3 p g i) (ix3 0 g i) rfl
      (forall_fin3 (by show p.val = n + 0; omega) (Nat.zero_add _).symm (Nat.zero_add _).symm)
  have h62 : ∀ g : Fin 8, (fun i => k0_pay62 v (ix2 g i)) = (dpPair (diagOf T g) 0).1 := fun g => by
    funext i
    rw [pay62_at]
    show _ = if i.val = 0 then T (adr 0 g i) else infF
    rw [hv]
    rfl
  refine ⟨fun g i => ?_, fun g i => ?_, fun g i => ?_⟩
  · show arg4.read (Elt F) (arg4.writes (Elt F) f4 (pagL v)) (ix3 0 g i) = _
    rw [miss 2 _ _ _ _ _ _ (by show (0 : ℕ) ≠ 2; omega), miss 1 _ _ _ _ _ _ (by show (0 : ℕ) ≠ 1; omega), hit 0 _ _ _ _ _ _ rfl, ← h62]
    exact shapeCast_ab_1ab_apply (k0_pay62 v) shapeCasts_S8x512_S1x8x512 0 g i
  · show arg4.read (Elt F) (arg4.writes (Elt F) f4 (pagL v)) (ix3 1 g i) = _
    rw [miss 2 _ _ _ _ _ _ (by show (1 : ℕ) ≠ 2; omega), hit 1 _ _ _ _ _ _ rfl, ← h62]
    exact (shapeCast_ab_1ab_apply (select (cmpi .eq lanes (broadcast S8x512 0#32)) (broadcast S8x512 infF) (dynamicRotate 1 1#32 none (k0_pay62 v) rotates_S8x512_d1)) shapeCasts_S8x512_S1x8x512 0 g i).trans (moved_at (k0_pay62 v) g i)
  · show arg4.read (Elt F) (arg4.writes (Elt F) f4 (pagL v)) (ix3 2 g i) = _
    rw [hit 2 _ _ _ _ _ _ rfl]
    exact shapeCast_ab_1ab_apply k0_pay65 shapeCasts_S8x512_S1x8x512 0 g i

end Pages

end Cert.KernelIdeal.Hand

end
-- ==== Proof.Final.lean ====
/-
  The end of the kernel body: the eight column-sum rows completed, their log-sum-exp, and the eight results stacked.
-/
module

public import proofs.«01_k».proof.Proof.Table

@[expose] public section

set_option maxRecDepth 16384

noncomputable section

namespace Cert.KernelIdeal.Hand

open Idealize.ShloMosaic Idealize.ShloMosaic.TcCoe Idealize.ShloMosaic.ValueIdx
open Cert.KernelIdeal Cert.KernelIdeal.Gen Cert.Proof

variable {F : FTy → Type} [FloatOps F]

/-- A row completed: the first cell's cost `s0` is added in lane 0 when the walk's word `w` is not that of the first cell. -/
abbrev finRow (row : FVec F S1x512 .f32) (w : BitVec 32) (s0 : F .f32) : FVec F S1x512 .f32 :=
  addf row (select (andi (cmpi .eq cols (broadcast S1x512 0#32)) (broadcast S1x512 (Scalar.xori (Scalar.cmpi .eq w 0#32) 1#1)))
    (broadcast S1x512 s0) (broadcast S1x512 (Scalar.ofBits .f32 0x00000000#32)))

/-- The greatest entry of a row. -/
abbrev rowMax (R : FVec F S1x512 .f32) : F .f32 :=
  extractAt ![0, 0, 0] (shapeCast S1x1x1 (multiReduction .maximumf [1, 2] S1 (shapeCast S1x1x512 R shapeCasts_S1x512_S1x1x512) 0xFF800000#32
    reduces_S1x1x512_S1 (.inl rfl) rfl) shapeCasts_S1_S1x1x1) inpos_S1x1x1_p0_0_0

/-- The log-sum-exp of a row. -/
abbrev rowLse (R : FVec F S1x512 .f32) : F .f32 :=
  Scalar.addf (rowMax R) (Scalar.log (extractAt ![0, 0, 0] (shapeCast S1x1x1 (multiReduction .add [1, 2] S1
    (shapeCast S1x1x512 (exp (subf R (broadcast S1x512 (rowMax R)))) shapeCasts_S1x512_S1x1x512) 0x00000000#32
    reduces_S1x1x512_S1 (.inl rfl) rfl) shapeCasts_S1_S1x1x1) inpos_S1x1x1_p0_0_0))

/-- A lane row as a one-row vector. -/
abbrev asRow (r : Lane F) : FVec F S1x512 .f32 := fun y => r (y 1)

theorem cellW_eq_zero {i j : ℕ} (hi : i < 512) (hj : j < 512) :
    Scalar.cmpi .eq (cellW i j) 0#32 = BitVec.ofBool (decide (i = 0 ∧ j = 0)) := by
  have e : cellW i j = BitVec.ofNat 32 (1024 * i + j) := rfl
  rw [e, cmpi_eq_ofNat (by omega) (by omega) (b := 0)]
  congr 1
  exact decide_eq_decide.mpr (by omega)

theorem finRow_at (row : FVec F S1x512 .f32) (R : Lane F) (hrow : ∀ l, row (ix2 0 l) = R l) (s : Walk F) (hs : Inside s) (s0 : F .f32) :
    finRow row (Wd s) s0 = asRow fun l => FloatOps.addf (R l) (if l.val = 0 ∧ ¬(s.i = 0 ∧ s.j = 0) then s0 else zeroF) := by
  refine ext2 fun u l => ?_
  obtain rfl : u = 0 := Subsingleton.elim _ _
  have hl : cols (ix2 0 l) = BitVec.ofNat 32 l.val := iota_single_apply .tc S1x512 32 1 iota_S1x512_d1_w32 (ix2 0 l)
  show FloatOps.addf (row (ix2 0 l)) (Scalar.select (Scalar.andi (Scalar.cmpi .eq (cols (ix2 0 l)) 0#32)
    (Scalar.xori (Scalar.cmpi .eq (Wd s) 0#32) 1#1)) s0 zeroF) = FloatOps.addf (R l) _
  rw [hrow, hl, cmpi_eq_ofNat (by omega) (by omega) (b := 0), cellW_eq_zero hs.1 hs.2]
  congr 1
  have e : Scalar.andi (BitVec.ofBool (decide (l.val = 0))) (Scalar.xori (BitVec.ofBool (decide (s.i = 0 ∧ s.j = 0))) 1#1)
      = BitVec.ofBool (decide (l.val = 0 ∧ ¬(s.i = 0 ∧ s.j = 0))) := by
    by_cases h1 : l.val = 0 <;> by_cases h2 : s.i = 0 ∧ s.j = 0 <;> simp only [h1, h2] <;> rfl
  rw [e, select_ofBool]
  simp only [decide_eq_true_eq]

/-- A row before the walk: one value in the last lane. -/
abbrev initRow (e : F .f32) : FVec F S1x512 .f32 :=
  shapeCast S1x512 (select (cmpi .eq cols (broadcast S1x512 511#32)) (broadcast S1x512 e) (broadcast S1x512 (Scalar.ofBits .f32 0x00000000#32)))
    shapeCasts_S1x512_S1x512

theorem initRow_at (e : F .f32) (l : Fin 512) : initRow e (ix2 0 l) = if l.val = 511 then e else zeroF := by
  have hl : cols (ix2 0 l) = BitVec.ofNat 32 l.val := iota_single_apply .tc S1x512 32 1 iota_S1x512_d1_w32 (ix2 0 l)
  refine (shapeCast_apply _ _ _ (ix2 0 l) rfl).trans ?_
  show Scalar.select (Scalar.cmpi .eq (cols (ix2 0 l)) 511#32) e zeroF = _
  rw [hl, cmpi_eq_ofNat (by omega) (by omega) (b := 511), select_ofBool]
  simp only [decide_eq_true_eq]

/-- The last lane of a row, as the kernel picks it: the row turned by one, and its first lane. -/
abbrev lastLane (v : Vec F S1x1x128 .f32) : F .f32 :=
  extractAt ![0, 0, 0] (extractStridedSlice S1x1x1 ![0, 0, 0] (dynamicRotate 2 1#32 none v rotates_S1x1x128_d2)
    slices_S1x1x128_o0_0_0_S1x1x1) inpos_S1x1x1_p0_0_0

theorem lastLane_eq (v : Vec F S1x1x128 .f32) : lastLane v = v (ix3 0 0 127) := by
  refine (extractStridedSlice_apply _ _ _ _ (ix3 0 0 0) (forall_fin3 rfl rfl rfl)).trans ?_
  exact dynamicRotate_apply (s := S1x1x128) 2 1#32 v rotates_S1x1x128_d2 (ix3 0 0 0) (ix3 0 0 127) (forall_fin3 rfl rfl rfl)

/-- The eight results as pieces. -/
abbrev rowPieces (p : Fin 8 → FVec F S1x128 .f32) : List ((s : Shape) × (s.Idx → F .f32)) :=
  [⟨S1x128, p 0⟩, ⟨S1x128, p 1⟩, ⟨S1x128, p 2⟩, ⟨S1x128, p 3⟩, ⟨S1x128, p 4⟩, ⟨S1x128, p 5⟩, ⟨S1x128, p 6⟩, ⟨S1x128, p 7⟩]

/-- The eight results stacked. -/
abbrev stackRows (p : Fin 8 → FVec F S1x128 .f32) : FVec F S1x8x128 .f32 :=
  shapeCast S1x8x128 (concatenate S8x128 0 [⟨S1x128, p 0⟩, ⟨S1x128, p 1⟩, ⟨S1x128, p 2⟩, ⟨S1x128, p 3⟩, ⟨S1x128, p 4⟩, ⟨S1x128, p 5⟩, ⟨S1x128, p 6⟩, ⟨S1x128, p 7⟩]
    concatenates_S1x128_S1x128_S1x128_S1x128_S1x128_S1x128_S1x128_S1x128_S8x128_d0) shapeCasts_S8x128_S1x8x128

theorem stackRows_at (p : Fin 8 → FVec F S1x128 .f32) (g : Fin 8) (l : Fin 128) : stackRows p (ix3 0 g l) = p g (ix2 0 l) := by
  refine (shapeCast_ab_1ab_apply _ shapeCasts_S8x128_S1x8x128 0 g l).trans ?_
  refine (concatenate_apply_piece (t := S8x128) (0 : Fin 2) (rowPieces p) concatenates_S1x128_S1x128_S1x128_S1x128_S1x128_S1x128_S1x128_S1x128_S8x128_d0 (ix2 g l) g.val g.isLt S1x128 (p g) ?_ rfl g.val ?_ (ix2 0 l) (forall_fin2 (fun h => absurd rfl h) fun _ => rfl) rfl)
  · obtain ⟨g, hg⟩ := g
    interval_cases g <;> rfl
  · obtain ⟨g, hg⟩ := g
    interval_cases g <;> rfl

/-- One sample's result from its completed row and the samples' log-sum-exps of all costs. -/
abbrev score (R : FVec F S1x512 .f32) (n : F .f32) : FVec F S1x128 .f32 := broadcast S1x128 (Scalar.subf (rowLse R) n)

theorem neg_at (n : ℕ) (h : S8x1.Slices ![n, 0] S1x1) (v : FVec F S8x1 .f32) (g : Fin 8) (hg : g.val = n) :
    extractAt ![0, 0] (extractStridedSlice S1x1 ![n, 0] v h) inpos_S1x1_p0_0 = v (ix2 g 0) :=
  extractStridedSlice_apply _ _ _ _ (ix2 g 0) (forall_fin2 (by show g.val = n + 0; omega) rfl)

/-- What the kernel stores in its output block, from the costs and their log-sum-exps. -/
def outOf (C : FVec F S8x512x512 .f32) (N : FVec F S8x1 .f32) : FVec F S1x8x128 .f32 := fun y =>
  Scalar.subf (rowLse (asRow (endRow (coded (skewG C (y 1)))))) (N (ix2 (y 1) 0))

end Cert.KernelIdeal.Hand

end
-- ==== Proof.End.lean ====
/-
  The results the kernel stores, from what its two loops leave behind.
-/
module

public import proofs.«01_k».proof.Proof.Final
public import proofs.«01_k».proof.Proof.Loop2

@[expose] public section

set_option maxRecDepth 16384

noncomputable section

namespace Cert.KernelIdeal.Hand

open Idealize.ShloMosaic Idealize.ShloMosaic.TcCoe Idealize.ShloMosaic.ValueIdx
open Cert.KernelIdeal Cert.KernelIdeal.Gen Cert.Proof

variable {F : FTy → Type} [FloatOps F]

theorem cellInb (q r l : ℕ) (hq : q < 1024) (hr : r < 32) (hl : l < 128) :
    ∀ a, (![q, r, l] : Fin 3 → ℕ) a + S1x1x1.size a ≤ S1024x32x128.size a := forall_fin3 hq hr hl
theorem laneInb (q r : ℕ) (hq : q < 1024) (hr : r < 32) :
    ∀ a, (![q, r, 0] : Fin 3 → ℕ) a + S1x1x128.size a ≤ S1024x32x128.size a := forall_fin3 hq hr (by show 0 + 128 ≤ 128; omega)

section Reads

variable (arg5 : Memref sig .tc .vmem S8x512 .f32) (arg6 : Memref sig .tc .vmem S1024x32x128 .f32)
  (f5 : BufTy.Contents (Elt F) arg5.view.ty) (f6 : BufTy.Contents (Elt F) arg6.view.ty)

/-- Each sample's first cell. -/
abbrev firstCell : Fin 8 → F .f32 :=
  ![extractAt ![0, 0, 0] (arg6.view.readAt (Elt F) (Rect.unit (s := S1024x32x128) ![0, 0, 0] S1x1x1.size (cellInb 0 0 0 (by decide) (by decide) (by decide))).toLoadRect f6) inpos_S1x1x1_p0_0_0,
    extractAt ![0, 0, 0] (arg6.view.readAt (Elt F) (Rect.unit (s := S1024x32x128) ![0, 4, 0] S1x1x1.size (cellInb 0 4 0 (by decide) (by decide) (by decide))).toLoadRect f6) inpos_S1x1x1_p0_0_0,
    extractAt ![0, 0, 0] (arg6.view.readAt (Elt F) (Rect.unit (s := S1024x32x128) ![0, 8, 0] S1x1x1.size (cellInb 0 8 0 (by decide) (by decide) (by decide))).toLoadRect f6) inpos_S1x1x1_p0_0_0,
    extractAt ![0, 0, 0] (arg6.view.readAt (Elt F) (Rect.unit (s := S1024x32x128) ![0, 12, 0] S1x1x1.size (cellInb 0 12 0 (by decide) (by decide) (by decide))).toLoadRect f6) inpos_S1x1x1_p0_0_0,
    extractAt ![0, 0, 0] (arg6.view.readAt (Elt F) (Rect.unit (s := S1024x32x128) ![0, 16, 0] S1x1x1.size (cellInb 0 16 0 (by decide) (by decide) (by decide))).toLoadRect f6) inpos_S1x1x1_p0_0_0,
    extractAt ![0, 0, 0] (arg6.view.readAt (Elt F) (Rect.unit (s := S1024x32x128) ![0, 20, 0] S1x1x1.size (cellInb 0 20 0 (by decide) (by decide) (by decide))).toLoadRect f6) inpos_S1x1x1_p0_0_0,
    extractAt ![0, 0, 0] (arg6.view.readAt (Elt F) (Rect.unit (s := S1024x32x128) ![0, 24, 0] S1x1x1.size (cellInb 0 24 0 (by decide) (by decide) (by decide))).toLoadRect f6) inpos_S1x1x1_p0_0_0,
    extractAt ![0, 0, 0] (arg6.view.readAt (Elt F) (Rect.unit (s := S1024x32x128) ![0, 28, 0] S1x1x1.size (cellInb 0 28 0 (by decide) (by decide) (by decide))).toLoadRect f6) inpos_S1x1x1_p0_0_0]

/-- Each sample's last cell, read as a lane of its row. -/
abbrev lastCode : Fin 8 → F .f32 :=
  ![lastLane (arg6.view.readAt (Elt F) (Rect.unit (s := S1024x32x128) ![1022, 3, 0] S1x1x128.size (laneInb 1022 3 (by decide) (by decide))).toLoadRect f6),
    lastLane (arg6.view.readAt (Elt F) (Rect.unit (s := S1024x32x128) ![1022, 7, 0] S1x1x128.size (laneInb 1022 7 (by decide) (by decide))).toLoadRect f6),
    lastLane (arg6.view.readAt (Elt F) (Rect.unit (s := S1024x32x128) ![1022, 11, 0] S1x1x128.size (laneInb 1022 11 (by decide) (by decide))).toLoadRect f6),
    lastLane (arg6.view.readAt (Elt F) (Rect.unit (s := S1024x32x128) ![1022, 15, 0] S1x1x128.size (laneInb 1022 15 (by decide) (by decide))).toLoadRect f6),
    lastLane (arg6.view.readAt (Elt F) (Rect.unit (s := S1024x32x128) ![1022, 19, 0] S1x1x128.size (laneInb 1022 19 (by decide) (by decide))).toLoadRect f6),
    lastLane (arg6.view.readAt (Elt F) (Rect.unit (s := S1024x32x128) ![1022, 23, 0] S1x1x128.size (laneInb 1022 23 (by decide) (by decide))).toLoadRect f6),
    lastLane (arg6.view.readAt (Elt F) (Rect.unit (s := S1024x32x128) ![1022, 27, 0] S1x1x128.size (laneInb 1022 27 (by decide) (by decide))).toLoadRect f6),
    lastLane (arg6.view.readAt (Elt F) (Rect.unit (s := S1024x32x128) ![1022, 31, 0] S1x1x128.size (laneInb 1022 31 (by decide) (by decide))).toLoadRect f6)]

/-- Each sample's last cell, read alone. -/
abbrev lastCell : Fin 8 → F .f32 :=
  ![extractAt ![0, 0, 0] (arg6.view.readAt (Elt F) (Rect.unit (s := S1024x32x128) ![1022, 3, 127] S1x1x1.size (cellInb 1022 3 127 (by decide) (by decide) (by decide))).toLoadRect f6) inpos_S1x1x1_p0_0_0,
    extractAt ![0, 0, 0] (arg6.view.readAt (Elt F) (Rect.unit (s := S1024x32x128) ![1022, 7, 127] S1x1x1.size (cellInb 1022 7 127 (by decide) (by decide) (by decide))).toLoadRect f6) inpos_S1x1x1_p0_0_0,
    extractAt ![0, 0, 0] (arg6.view.readAt (Elt F) (Rect.unit (s := S1024x32x128) ![1022, 11, 127] S1x1x1.size (cellInb 1022 11 127 (by decide) (by decide) (by decide))).toLoadRect f6) inpos_S1x1x1_p0_0_0,
    extractAt ![0, 0, 0] (arg6.view.readAt (Elt F) (Rect.unit (s := S1024x32x128) ![1022, 15, 127] S1x1x1.size (cellInb 1022 15 127 (by decide) (by decide) (by decide))).toLoadRect f6) inpos_S1x1x1_p0_0_0,
    extractAt ![0, 0, 0] (arg6.view.readAt (Elt F) (Rect.unit (s := S1024x32x128) ![1022, 19, 127] S1x1x1.size (cellInb 1022 19 127 (by decide) (by decide) (by decide))).toLoadRect f6) inpos_S1x1x1_p0_0_0,
    extractAt ![0, 0, 0] (arg6.view.readAt (Elt F) (Rect.unit (s := S1024x32x128) ![1022, 23, 127] S1x1x1.size (cellInb 1022 23 127 (by decide) (by decide) (by decide))).toLoadRect f6) inpos_S1x1x1_p0_0_0,
    extractAt ![0, 0, 0] (arg6.view.readAt (Elt F) (Rect.unit (s := S1024x32x128) ![1022, 27, 127] S1x1x1.size (cellInb 1022 27 127 (by decide) (by decide) (by decide))).toLoadRect f6) inpos_S1x1x1_p0_0_0,
    extractAt ![0, 0, 0] (arg6.view.readAt (Elt F) (Rect.unit (s := S1024x32x128) ![1022, 31, 127] S1x1x1.size (cellInb 1022 31 127 (by decide) (by decide) (by decide))).toLoadRect f6) inpos_S1x1x1_p0_0_0]

/-- The column sums, one row per sample. -/
abbrev rowRd : Fin 8 → FVec F S1x512 .f32 :=
  ![arg5.view.readAt (Elt F) (Rect.unit (s := S8x512) ![0, 0] S1x512.size inb_S8x512_S1x512_0_0).toLoadRect f5,
    arg5.view.readAt (Elt F) (Rect.unit (s := S8x512) ![1, 0] S1x512.size inb_S8x512_S1x512_1_0).toLoadRect f5,
    arg5.view.readAt (Elt F) (Rect.unit (s := S8x512) ![2, 0] S1x512.size inb_S8x512_S1x512_2_0).toLoadRect f5,
    arg5.view.readAt (Elt F) (Rect.unit (s := S8x512) ![3, 0] S1x512.size inb_S8x512_S1x512_3_0).toLoadRect f5,
    arg5.view.readAt (Elt F) (Rect.unit (s := S8x512) ![4, 0] S1x512.size inb_S8x512_S1x512_4_0).toLoadRect f5,
    arg5.view.readAt (Elt F) (Rect.unit (s := S8x512) ![5, 0] S1x512.size inb_S8x512_S1x512_5_0).toLoadRect f5,
    arg5.view.readAt (Elt F) (Rect.unit (s := S8x512) ![6, 0] S1x512.size inb_S8x512_S1x512_6_0).toLoadRect f5,
    arg5.view.readAt (Elt F) (Rect.unit (s := S8x512) ![7, 0] S1x512.size inb_S8x512_S1x512_7_0).toLoadRect f5]

/-- Each sample's log-sum-exp of all costs. -/
abbrev negV (N : FVec F S8x1 .f32) : Fin 8 → F .f32 :=
  ![extractAt ![0, 0] (extractStridedSlice S1x1 ![0, 0] N slices_S8x1_o0_0_S1x1) inpos_S1x1_p0_0,
    extractAt ![0, 0] (extractStridedSlice S1x1 ![1, 0] N slices_S8x1_o1_0_S1x1) inpos_S1x1_p0_0,
    extractAt ![0, 0] (extractStridedSlice S1x1 ![2, 0] N slices_S8x1_o2_0_S1x1) inpos_S1x1_p0_0,
    extractAt ![0, 0] (extractStridedSlice S1x1 ![3, 0] N slices_S8x1_o3_0_S1x1) inpos_S1x1_p0_0,
    extractAt ![0, 0] (extractStridedSlice S1x1 ![4, 0] N slices_S8x1_o4_0_S1x1) inpos_S1x1_p0_0,
    extractAt ![0, 0] (extractStridedSlice S1x1 ![5, 0] N slices_S8x1_o5_0_S1x1) inpos_S1x1_p0_0,
    extractAt ![0, 0] (extractStridedSlice S1x1 ![6, 0] N slices_S8x1_o6_0_S1x1) inpos_S1x1_p0_0,
    extractAt ![0, 0] (extractStridedSlice S1x1 ![7, 0] N slices_S8x1_o7_0_S1x1) inpos_S1x1_p0_0]

/-- The rows stored before the walk, newest first. -/
abbrev initL : List (View.Piece (Elt F) S8x512 .f32) :=
  [⟨Rect.unit (s := S8x512) ![7, 0] S1x512.size inb_S8x512_S1x512_7_0, initRow (uncode (lastCell arg6 f6 7))⟩, ⟨Rect.unit (s := S8x512) ![6, 0] S1x512.size inb_S8x512_S1x512_6_0, initRow (uncode (lastCell arg6 f6 6))⟩, ⟨Rect.unit (s := S8x512) ![5, 0] S1x512.size inb_S8x512_S1x512_5_0, initRow (uncode (lastCell arg6 f6 5))⟩, ⟨Rect.unit (s := S8x512) ![4, 0] S1x512.size inb_S8x512_S1x512_4_0, initRow (uncode (lastCell arg6 f6 4))⟩, ⟨Rect.unit (s := S8x512) ![3, 0] S1x512.size inb_S8x512_S1x512_3_0, initRow (uncode (lastCell arg6 f6 3))⟩, ⟨Rect.unit (s := S8x512) ![2, 0] S1x512.size inb_S8x512_S1x512_2_0, initRow (uncode (lastCell arg6 f6 2))⟩, ⟨Rect.unit (s := S8x512) ![1, 0] S1x512.size inb_S8x512_S1x512_1_0, initRow (uncode (lastCell arg6 f6 1))⟩, ⟨Rect.unit (s := S8x512) ![0, 0] S1x512.size inb_S8x512_S1x512_0_0, initRow (uncode (lastCell arg6 f6 0))⟩]

theorem cell_at (q r l : ℕ) (hq : q < 1024) (hr : r < 32) (hl : l < 128) :
    extractAt ![0, 0, 0] (arg6.view.readAt (Elt F) (Rect.unit (s := S1024x32x128) ![q, r, l] S1x1x1.size (cellInb q r l hq hr hl)).toLoadRect f6) inpos_S1x1x1_p0_0_0
      = arg6.view.read (Elt F) f6 (ix3 ⟨q, hq⟩ ⟨r, hr⟩ ⟨l, hl⟩) :=
  readAt_unit_at arg6.view f6 (cellInb q r l hq hr hl) rfl (fun a => ⟨(![0, 0, 0] : Fin 3 → ℕ) a, inpos_S1x1x1_p0_0_0 a⟩) (ix3 ⟨q, hq⟩ ⟨r, hr⟩ ⟨l, hl⟩) (forall_fin3 rfl rfl rfl)

theorem lane_at (q r : ℕ) (hq : q < 1024) (hr : r < 32) :
    lastLane (arg6.view.readAt (Elt F) (Rect.unit (s := S1024x32x128) ![q, r, 0] S1x1x128.size (laneInb q r hq hr)).toLoadRect f6)
      = arg6.view.read (Elt F) f6 (ix3 ⟨q, hq⟩ ⟨r, hr⟩ 127) :=
  (lastLane_eq _).trans
    (readAt_unit_at arg6.view f6 (laneInb q r hq hr) rfl (ix3 0 0 127) (ix3 ⟨q, hq⟩ ⟨r, hr⟩ 127) (forall_fin3 rfl rfl rfl))

theorem firstCell_eq (g : Fin 8) : firstCell arg6 f6 g = diagOf (arg6.view.read (Elt F) f6) g 0 0 := by
  obtain ⟨g, hg⟩ := g
  interval_cases g
  · exact (cell_at arg6 f6 0 0 0 (by decide) (by decide) (by decide)).trans rfl
  · exact (cell_at arg6 f6 0 4 0 (by decide) (by decide) (by decide)).trans rfl
  · exact (cell_at arg6 f6 0 8 0 (by decide) (by decide) (by decide)).trans rfl
  · exact (cell_at arg6 f6 0 12 0 (by decide) (by decide) (by decide)).trans rfl
  · exact (cell_at arg6 f6 0 16 0 (by decide) (by decide) (by decide)).trans rfl
  · exact (cell_at arg6 f6 0 20 0 (by decide) (by decide) (by decide)).trans rfl
  · exact (cell_at arg6 f6 0 24 0 (by decide) (by decide) (by decide)).trans rfl
  · exact (cell_at arg6 f6 0 28 0 (by decide) (by decide) (by decide)).trans rfl

theorem lastCode_eq (g : Fin 8) : lastCode arg6 f6 g = diagOf (arg6.view.read (Elt F) f6) g 1022 511 := by
  obtain ⟨g, hg⟩ := g
  interval_cases g
  · exact (lane_at arg6 f6 1022 3 (by decide) (by decide)).trans rfl
  · exact (lane_at arg6 f6 1022 7 (by decide) (by decide)).trans rfl
  · exact (lane_at arg6 f6 1022 11 (by decide) (by decide)).trans rfl
  · exact (lane_at arg6 f6 1022 15 (by decide) (by decide)).trans rfl
  · exact (lane_at arg6 f6 1022 19 (by decide) (by decide)).trans rfl
  · exact (lane_at arg6 f6 1022 23 (by decide) (by decide)).trans rfl
  · exact (lane_at arg6 f6 1022 27 (by decide) (by decide)).trans rfl
  · exact (lane_at arg6 f6 1022 31 (by decide) (by decide)).trans rfl

theorem lastCell_eq (g : Fin 8) : lastCell arg6 f6 g = diagOf (arg6.view.read (Elt F) f6) g 1022 511 := by
  obtain ⟨g, hg⟩ := g
  interval_cases g
  · exact (cell_at arg6 f6 1022 3 127 (by decide) (by decide) (by decide)).trans rfl
  · exact (cell_at arg6 f6 1022 7 127 (by decide) (by decide) (by decide)).trans rfl
  · exact (cell_at arg6 f6 1022 11 127 (by decide) (by decide) (by decide)).trans rfl
  · exact (cell_at arg6 f6 1022 15 127 (by decide) (by decide) (by decide)).trans rfl
  · exact (cell_at arg6 f6 1022 19 127 (by decide) (by decide) (by decide)).trans rfl
  · exact (cell_at arg6 f6 1022 23 127 (by decide) (by decide) (by decide)).trans rfl
  · exact (cell_at arg6 f6 1022 27 127 (by decide) (by decide) (by decide)).trans rfl
  · exact (cell_at arg6 f6 1022 31 127 (by decide) (by decide) (by decide)).trans rfl

theorem rowRd_at (g : Fin 8) (l : Fin 512) : rowRd arg5 f5 g (ix2 0 l) = arg5.view.read (Elt F) f5 (ix2 g l) := by
  obtain ⟨g, hg⟩ := g
  interval_cases g
  · exact row_ld arg5 f5 0 inb_S8x512_S1x512_0_0 ⟨0, hg⟩ rfl l
  · exact row_ld arg5 f5 1 inb_S8x512_S1x512_1_0 ⟨1, hg⟩ rfl l
  · exact row_ld arg5 f5 2 inb_S8x512_S1x512_2_0 ⟨2, hg⟩ rfl l
  · exact row_ld arg5 f5 3 inb_S8x512_S1x512_3_0 ⟨3, hg⟩ rfl l
  · exact row_ld arg5 f5 4 inb_S8x512_S1x512_4_0 ⟨4, hg⟩ rfl l
  · exact row_ld arg5 f5 5 inb_S8x512_S1x512_5_0 ⟨5, hg⟩ rfl l
  · exact row_ld arg5 f5 6 inb_S8x512_S1x512_6_0 ⟨6, hg⟩ rfl l
  · exact row_ld arg5 f5 7 inb_S8x512_S1x512_7_0 ⟨7, hg⟩ rfl l

theorem negV_eq (N : FVec F S8x1 .f32) (g : Fin 8) : negV N g = N (ix2 g 0) := by
  obtain ⟨g, hg⟩ := g
  interval_cases g
  · exact neg_at 0 slices_S8x1_o0_0_S1x1 N ⟨0, hg⟩ rfl
  · exact neg_at 1 slices_S8x1_o1_0_S1x1 N ⟨1, hg⟩ rfl
  · exact neg_at 2 slices_S8x1_o2_0_S1x1 N ⟨2, hg⟩ rfl
  · exact neg_at 3 slices_S8x1_o3_0_S1x1 N ⟨3, hg⟩ rfl
  · exact neg_at 4 slices_S8x1_o4_0_S1x1 N ⟨4, hg⟩ rfl
  · exact neg_at 5 slices_S8x1_o5_0_S1x1 N ⟨5, hg⟩ rfl
  · exact neg_at 6 slices_S8x1_o6_0_S1x1 N ⟨6, hg⟩ rfl
  · exact neg_at 7 slices_S8x1_o7_0_S1x1 N ⟨7, hg⟩ rfl

theorem init_at (g : Fin 8) (l : Fin 512) (fi : BufTy.Contents (Elt F) arg5.view.ty) :
    arg5.view.read (Elt F) (arg5.view.writes (Elt F) fi (initL arg6 f6)) (ix2 g l) = rowStart (diagOf (arg6.view.read (Elt F) f6) g) l := by
  refine (rows_at arg5 fi (fun g => initRow (uncode (lastCell arg6 f6 g))) g l).trans ?_
  rw [initRow_at, lastCell_eq]
  rfl

/-- What the body stores, once its loops have run. -/
theorem body_end (fi : BufTy.Contents (Elt F) arg5.view.ty) (s : Pages F × Table F) (C : FVec F S8x512x512 .f32) (N : FVec F S8x1 .f32)
    (hs : PagesStart s) (hC : s.2 = table0 C) (h6 : arg6.view.read (Elt F) f6 = (dpState s 1022).2)
    (h5 : arg5.view.read (Elt F) f5 = rowsAt (arg6.view.read (Elt F) f6) (firstCell arg6 f6) (lastCode arg6 f6)
      (arg5.view.read (Elt F) (arg5.view.writes (Elt F) fi (initL arg6 f6))) 1022) :
    stackRows (fun g => score (finRow (rowRd arg5 f5 g) (Wd (walks (arg6.view.read (Elt F) f6) (firstCell arg6 f6) (lastCode arg6 f6) 1022 g)) (firstCell arg6 f6 g)) (negV N g))
      = outOf C N := by
  refine ext3 fun u g l => ?_
  obtain rfl : u = 0 := Subsingleton.elim _ _
  rw [stackRows_at]
  have hX : ∀ q, q ≤ 1022 → diagOf (arg6.view.read (Elt F) f6) g q = coded (skewG C g) q := fun q hq => by
    funext i
    have := (dpState_spec s hs 1022 le_rfl).2.2.2 q g i (by omega)
    rw [h6, this, if_pos hq, hC]
    exact congrFun (coded_congr (fun q hq => funext fun i => diagOf_table0 C g q (by omega) i) q hq) i
  have hR : finRow (rowRd arg5 f5 g) (Wd (walks (arg6.view.read (Elt F) f6) (firstCell arg6 f6) (lastCode arg6 f6) 1022 g)) (firstCell arg6 f6 g)
      = asRow (endRow (coded (skewG C g))) := by
    rw [← endRow_congr hX]
    have hrow : ∀ l, rowRd arg5 f5 g (ix2 0 l) = rowAt (diagOf (arg6.view.read (Elt F) f6) g) (diagOf (arg6.view.read (Elt F) f6) g 0 0)
        (diagOf (arg6.view.read (Elt F) f6) g 1022 511) (rowStart (diagOf (arg6.view.read (Elt F) f6) g)) 1022 l := fun l => by
      rw [rowRd_at, h5, rowsAt_at, firstCell_eq, lastCode_eq]
      congr 1
      funext l
      exact init_at arg5 arg6 f6 g l fi
    refine (finRow_at _ _ hrow (walks (arg6.view.read (Elt F) f6) (firstCell arg6 f6) (lastCode arg6 f6) 1022 g) (walkAt_lt _ _ _ _) _).trans ?_
    show asRow _ = asRow (endRow _)
    rw [firstCell_eq]
    unfold endRow
    simp only [walks, firstCell_eq, lastCode_eq]
  show Scalar.subf (rowLse _) (negV N g) = Scalar.subf (rowLse (asRow (endRow (coded (skewG C g))))) (N (ix2 g 0))
  rw [hR, negV_eq]

end Reads

end Cert.KernelIdeal.Hand

end
-- ==== Proof.BodyRun.lean ====
/-
  The kernel body run once, through both of its loops.
-/
module

public import proofs.«01_k».proof.Proof.Loop1
public import proofs.«01_k».proof.Proof.Loop2
public import proofs.«01_k».proof.Proof.End
public import Idealize.ShloMosaic.Lib.VecWindow

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

local notation "𝕄G" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄G :=
  M.view.loc (c : Thread nD τ) ↦[M.view.set]{fullShare} f

/-- The kernel body stores `outOf` of its two blocks' costs. -/
theorem body_run (c : Dev nD) (i : grid0.Coords) (arg1 : Memref sig .tc .vmem S1x8x512x256 .f32) (harg1 : arg1.IsWhole) (arg2 : Memref sig .tc .vmem S1x8x512x256 .f32) (harg2 : arg2.IsWhole) (arg3 : Memref sig .tc .vmem S1x8x128 .f32) (harg3 : arg3.IsWhole) (arg4 : Memref sig .tc .vmem S3x8x512 .f32) (harg4 : arg4.IsWhole) (arg5 : Memref sig .tc .vmem S8x512 .f32) (harg5 : arg5.IsWhole) (arg6 : Memref sig .tc .vmem S1024x32x128 .f32) (harg6 : arg6.IsWhole)
    (f1 : Bf (F := F) c arg1) (f2 : Bf (F := F) c arg2) (f3 : Bf (F := F) c arg3) (f4 : Bf (F := F) c arg4) (f5 : Bf (F := F) c arg5) (f6 : Bf (F := F) c arg6)
    (E : Set ℕ) (Q : PUnit → sProp 𝕄G) :
    iprop(pt c arg1 f1 ∗ pt c arg2 f2 ∗ pt c arg3 f3 ∗ pt c arg4 f4 ∗ pt c arg5 f5 ∗ pt c arg6 f6
      ∗ (iprop(pt c arg1 f1 ∗ pt c arg2 f2 ∗ (∃ f, pt c arg3 f ∗ ⌜arg3.view.read (Elt F) f = outOf (k0_pay30 (arg1.view.read (Elt F) f1) (arg2.view.read (Elt F) f2)) (k0_pay31 (arg1.view.read (Elt F) f1) (arg2.view.read (Elt F) f2))⌝) ∗ (∃ f, pt c arg4 f) ∗ (∃ f, pt c arg5 f) ∗ (∃ f, pt c arg6 f)) -∗ Q ⟨⟩))
    ⊢ wp frame (wpE (defs₀ (F := F)) Variants.none c none) E
        (cc0__dtw_body i arg1 harg1 arg2 harg2 arg3 harg3 arg4 harg4 arg5 harg5 arg6 harg6) Q := by
  iintro ⟨H1, H2, H3, H4, H5, H6, Hk⟩
  sl_unfold [cc0__dtw_body]
  sl_exec
  sl_step
  iapply Hk
  isplitl [H1]
  · iexact H1
  isplitl [H2]
  · iexact H2
  isplitl [H3]
  · iexists _
    isplitl [H3]
    · iexact H3
    · ipureintro
      refine (View.read_writes_full arg3.view f3 _ _ _).trans ?_
      have hX : arg1.view.readAt (Elt F) (Rect.unit (s := S1x8x512x256) ![0, 0, 0, 0] S1x8x512x256.size inb_S1x8x512x256_S1x8x512x256_0_0_0_0).toLoadRect f1
          = arg1.view.read (Elt F) f1 := View.readAt_full _ _ _
      have hY : arg2.view.readAt (Elt F) (Rect.unit (s := S1x8x512x256) ![0, 0, 0, 0] S1x8x512x256.size inb_S1x8x512x256_S1x8x512x256_0_0_0_0).toLoadRect f2
          = arg2.view.read (Elt F) f2 := View.readAt_full _ _ _
      rw [← hX, ← hY]
      have hT := tab_read arg6.view arg6.view.junk (body_run.sl.r c arg1 arg2 f1 f2)
      have hs := pages_start arg4.view arg4.view.junk (body_run.sl.v531 c arg1 arg2 arg6 f1 f2) _ (fun r l =>
        (readAt_unit_at arg6.view (arg6.view.writes (Elt F) arg6.view.junk (body_run.sl.H6_8 c arg1 arg2 f1 f2)) inb_S1024x32x128_S1x32x128_0_0_0 rfl (ix3 0 r l) (ix3 0 r l)
          (forall_fin3 (Nat.zero_add _).symm (Nat.zero_add _).symm (Nat.zero_add _).symm)))
      exact body_end arg5 arg6 f5L2 f6L1 arg5.view.junk _ (body_run.sl.r c arg1 arg2 f1 f2) (body_run.sl.r_1 c arg1 arg2 f1 f2) hs hT hL3 hL5
  isplitl [H4]
  · iexists _; iexact H4
  isplitl [H5]
  · iexists _; iexact H5
  · iexists _; iexact H6

end Cert.KernelIdeal.Hand

end
-- ==== Proof.Run.lean ====
/-
  The kernel's run: the pipeline's proof data, the body obligation at every grid point, the launch, and the frame.
-/
module

public import proofs.«01_k».proof.Proof.Gen.KernelIdeal.Frame
public import proofs.«01_k».proof.Proof.BodyRun
public import Idealize.ShloMosaic.Lib.Pipeline.Quiescent
public import Idealize.ShloMosaic.Lib.Claim

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Proof

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What one grid point stores, from its two blocks. -/
def blockOut (X Y : Vec F S1x8x512x256 .f32) : FVec F S1x8x128 .f32 := outOf (k0_pay30 X Y) (k0_pay31 X Y)

/-- The proof data: the arrays as the region finds them; after a point the inputs' buffers hold their blocks and the
    result's what the body computes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A whole buffer held is held through its whole view. -/
theorem pt_whole (c : Dev nD) (b : Ref sig .tc) (f : Buf (Elt F) ((c : Thread nD τ).loc b)) :
    (pt c (Memref.whole b) f : sProp 𝕄G) = ((c : Thread nD τ).loc b ↦{fullShare} f) := by
  unfold pt
  rw [show (Memref.whole b).view.set = Finset.univ from View.set_whole b]

/-- The body on held memrefs, the three scratch buffers at anything. -/
theorem body_owns (c : Dev nD) (i : grid0.Coords) (arg1 : Memref sig .tc .vmem S1x8x512x256 .f32) (harg1 : arg1.IsWhole) (arg2 : Memref sig .tc .vmem S1x8x512x256 .f32) (harg2 : arg2.IsWhole) (arg3 : Memref sig .tc .vmem S1x8x128 .f32) (harg3 : arg3.IsWhole)
    (X Y : Vec F S1x8x512x256 .f32) (E : Set ℕ) (Q : PUnit → sProp 𝕄G) :
    iprop(Pipeline.ΦA spec0 c ∗ owns (c : Thread nD τ) arg1 fullShare X ∗ owns (c : Thread nD τ) arg2 fullShare Y ∗ (∃ d, owns (c : Thread nD τ) arg3 fullShare d)
      ∗ (iprop(Pipeline.ΦA spec0 c ∗ owns (c : Thread nD τ) arg1 fullShare X ∗ owns (c : Thread nD τ) arg2 fullShare Y ∗ owns (c : Thread nD τ) arg3 fullShare (blockOut X Y)) -∗ Q ⟨⟩))
    ⊢ wp frame (wpE (defs₀ (F := F)) Variants.none c none) E
        (cc0__dtw_body i arg1 harg1 arg2 harg2 arg3 harg3 (Memref.whole cc0_scratch0) (Memref.isWhole_whole _) (Memref.whole cc0_scratch1) (Memref.isWhole_whole _) (Memref.whole cc0_scratch2) (Memref.isWhole_whole _)) Q := by
  unfold Pipeline.ΦA owns
  rw [scopedRest0_eq]
  simp only [← pt_whole]
  iintro ⟨⟨⟨⟨%f4, H4⟩, ⟨%f5, H5⟩, ⟨%f6, H6⟩⟩, Hr⟩, ⟨%f1, %h1, H1⟩, ⟨%f2, %h2, H2⟩, ⟨%d, %f3, -, H3⟩, Hk⟩
  subst h1 h2
  iapply (body_run c i arg1 harg1 arg2 harg2 arg3 harg3 (Memref.whole cc0_scratch0) (Memref.isWhole_whole _) (Memref.whole cc0_scratch1) (Memref.isWhole_whole _) (Memref.whole cc0_scratch2) (Memref.isWhole_whole _) f1 f2 f3 f4 f5 f6 E Q)
  isplitl [H1]; · iexact H1
  isplitl [H2]; · iexact H2
  isplitl [H3]; · iexact H3
  isplitl [H4]; · iexact H4
  isplitl [H5]; · iexact H5
  isplitl [H6]; · iexact H6
  iintro ⟨H1, H2, ⟨%f3', H3, %h3⟩, H4, H5, H6⟩
  iapply Hk
  isplitl [H4 H5 H6 Hr]
  · isplitl [H4 H5 H6]
    · isplitl [H4]; · iexact H4
      isplitl [H5]; · iexact H5
      iexact H6
    · iexact Hr
  isplitl [H1]
  · iexists f1; isplitr; · ipureintro; rfl
    iexact H1
  isplitl [H2]
  · iexists f2; isplitr; · ipureintro; rfl
    iexact H2
  iexists f3'; isplitr; · ipureintro; exact h3
  iexact H3

/-- The library's body obligation at every point. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2]
  iintro ⟨HΦ, Ho, ⟨%d0, H0⟩, ⟨%d1, H1⟩, ⟨%d2, H2⟩⟩
  iapply (body_owns c _ _ _ _ _ _ _ (iblk m c 0 t) (iblk m c 1 t) Set.univ _)
  isplitl [HΦ]; · iexact HΦ
  isplitl [H0]; · iexact H0
  isplitl [H1]; · iexact H1
  isplitl [H2]; · iexists _; iexact H2
  iintro ⟨HΦ, H0, H1, H2⟩
  isplitl [HΦ]; · iexact HΦ
  isplitl [Ho]; · iexact Ho
  isplitl [H0]; · iexact H0
  isplitl [H1]; · iexact H1
  iexact H2

set_option backward.isDefEq.respectTransparency.types false in
/-- The launch: every run ends, with every array at what the proof data say and every counter at zero. -/
theorem run_main_q : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_q m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_q m ρ))

end Cert.KernelIdeal.Hand

end
-- ==== Proof.RefOps.lean ====
/-
  The reference's operations, as lists: its two loops cut @main into three stretches, and each loop has a condition and a body.
-/
module

public import proofs.«01_k».proof.Proof.Gen.ReferenceIdeal
public import Idealize.ShloMosaic.Lib.StableHlo.RunLoop
public import Idealize.ShloMosaic.Lib.StableHlo.RunRead

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-- The operations before the first loop: the cosine costs, and the values the loop carries. -/
abbrev preOps : List (HloOp τ sig (Elt F)) := [
  StableHlo.binary main_arg0 main_arg0 main_call0_v0 (mulf : (⟨S64x512x256, .f32⟩ : BufTy).Contents (Elt F) → (⟨S64x512x256, .f32⟩ : BufTy).Contents (Elt F) → (⟨S64x512x256, .f32⟩ : BufTy).Contents (Elt F)),
  StableHlo.nullary main_call0_cst ((constant S_ .f32 0x00000000#32) : (⟨S_, .f32⟩ : BufTy).Contents (Elt F)),
  StableHlo.binary main_call0_v0 main_call0_cst main_call0_v1 ((fun x v => Host.reduceAdd x v reducesTo_S64x512x256_S64x512_d2 h_S_) : (⟨S64x512x256, .f32⟩ : BufTy).Contents (Elt F) → (⟨S_, .f32⟩ : BufTy).Contents (Elt F) → (⟨S64x512, .f32⟩ : BufTy).Contents (Elt F)),
  StableHlo.unary main_call0_v1 main_call0_v2 ((broadcastInDim S64x512x1 ![0, 1] bcast_S64x512_S64x512x1_0_1) : (⟨S64x512, .f32⟩ : BufTy).Contents (Elt F) → (⟨S64x512x1, .f32⟩ : BufTy).Contents (Elt F)),
  StableHlo.unary main_call0_v2 main_v0 (Host.sqrt : (⟨S64x512x1, .f32⟩ : BufTy).Contents (Elt F) → (⟨S64x512x1, .f32⟩ : BufTy).Contents (Elt F)),
  StableHlo.nullary main_cst (constant S_ .f32 0x322BCC77#32),
  StableHlo.unary main_cst main_call1_v0 (id : (⟨S_, .f32⟩ : BufTy).Contents (Elt F) → (⟨S_, .f32⟩ : BufTy).Contents (Elt F)),
  StableHlo.unary main_call1_v0 main_call1_v1 ((broadcastInDim S64x512x1 ![] bcast_S_S64x512x1) : (⟨S_, .f32⟩ : BufTy).Contents (Elt F) → (⟨S64x512x1, .f32⟩ : BufTy).Contents (Elt F)),
  StableHlo.binary main_call1_v1 main_v0 main_v1 (maximumf : (⟨S64x512x1, .f32⟩ : BufTy).Contents (Elt F) → (⟨S64x512x1, .f32⟩ : BufTy).Contents (Elt F) → (⟨S64x512x1, .f32⟩ : BufTy).Contents (Elt F)),
  StableHlo.unary main_v1 main_v2 (broadcastInDim S64x512x256 ![0, 1, 2] bcast_S64x512x1_S64x512x256_0_1_2 : (⟨S64x512x1, .f32⟩ : BufTy).Contents (Elt F) → (⟨S64x512x256, .f32⟩ : BufTy).Contents (Elt F)),
  StableHlo.binary main_arg0 main_v2 main_v3 (Host.divf : (⟨S64x512x256, .f32⟩ : BufTy).Contents (Elt F) → (⟨S64x512x256, .f32⟩ : BufTy).Contents (Elt F) → (⟨S64x512x256, .f32⟩ : BufTy).Contents (Elt F)),
  StableHlo.binary main_arg1 main_arg1 main_call2_v0 (mulf : (⟨S64x512x256, .f32⟩ : BufTy).Contents (Elt F) → (⟨S64x512x256, .f32⟩ : BufTy).Contents (Elt F) → (⟨S64x512x256, .f32⟩ : BufTy).Contents (Elt F)),
  StableHlo.nullary main_call2_cst ((constant S_ .f32 0x00000000#32) : (⟨S_, .f32⟩ : BufTy).Contents (Elt F)),
  StableHlo.binary main_call2_v0 main_call2_cst main_call2_v1 ((fun x v => Host.reduceAdd x v reducesTo_S64x512x256_S64x512_d2 h_S_) : (⟨S64x512x256, .f32⟩ : BufTy).Contents (Elt F) → (⟨S_, .f32⟩ : BufTy).Contents (Elt F) → (⟨S64x512, .f32⟩ : BufTy).Contents (Elt F)),
  StableHlo.unary main_call2_v1 main_call2_v2 ((broadcastInDim S64x512x1 ![0, 1] bcast_S64x512_S64x512x1_0_1) : (⟨S64x512, .f32⟩ : BufTy).Contents (Elt F) → (⟨S64x512x1, .f32⟩ : BufTy).Contents (Elt F)),
  StableHlo.unary main_call2_v2 main_v4 (Host.sqrt : (⟨S64x512x1, .f32⟩ : BufTy).Contents (Elt F) → (⟨S64x512x1, .f32⟩ : BufTy).Contents (Elt F)),
  StableHlo.nullary main_cst_0 (constant S_ .f32 0x322BCC77#32),
  StableHlo.unary main_cst_0 main_call3_v0 (id : (⟨S_, .f32⟩ : BufTy).Contents (Elt F) → (⟨S_, .f32⟩ : BufTy).Contents (Elt F)),
  StableHlo.unary main_call3_v0 main_call3_v1 ((broadcastInDim S64x512x1 ![] bcast_S_S64x512x1) : (⟨S_, .f32⟩ : BufTy).Contents (Elt F) → (⟨S64x512x1, .f32⟩ : BufTy).Contents (Elt F)),
  StableHlo.binary main_call3_v1 main_v4 main_v5 (maximumf : (⟨S64x512x1, .f32⟩ : BufTy).Contents (Elt F) → (⟨S64x512x1, .f32⟩ : BufTy).Contents (Elt F) → (⟨S64x512x1, .f32⟩ : BufTy).Contents (Elt F)),
  StableHlo.unary main_v5 main_v6 (broadcastInDim S64x512x256 ![0, 1, 2] bcast_S64x512x1_S64x512x256_0_1_2 : (⟨S64x512x1, .f32⟩ : BufTy).Contents (Elt F) → (⟨S64x512x256, .f32⟩ : BufTy).Contents (Elt F)),
  StableHlo.binary main_arg1 main_v6 main_v7 (Host.divf : (⟨S64x512x256, .f32⟩ : BufTy).Contents (Elt F) → (⟨S64x512x256, .f32⟩ : BufTy).Contents (Elt F) → (⟨S64x512x256, .f32⟩ : BufTy).Contents (Elt F)),
  StableHlo.binary main_v3 main_v7 main_v8 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
  StableHlo.nullary main_cst_1 (constant S_ .f32 0x3F800000#32),
  StableHlo.unary main_cst_1 main_v9 (broadcastInDim S64x512x512 ![] bcast_S_S64x512x512 : (⟨S_, .f32⟩ : BufTy).Contents (Elt F) → (⟨S64x512x512, .f32⟩ : BufTy).Contents (Elt F)),
  StableHlo.binary main_v9 main_v8 main_v10 (subf : (⟨S64x512x512, .f32⟩ : BufTy).Contents (Elt F) → (⟨S64x512x512, .f32⟩ : BufTy).Contents (Elt F) → (⟨S64x512x512, .f32⟩ : BufTy).Contents (Elt F)),
  StableHlo.nullary main_c (constantI S_ 32 1#32),
  StableHlo.nullary main_c_2 (constantI S_ 32 0#32),
  StableHlo.unary main_v10 main_v11_0 id,
  StableHlo.unary main_c_2 main_v11_1 id,
  StableHlo.unary main_c main_v11_2 id,
  StableHlo.unary main_v10 main_v11_3 id]

/-- Between the loops: the index grids, the path holding its last cell, and the values the walk carries. -/
abbrev midOps : List (HloOp τ sig (Elt F)) := [
  StableHlo.nullary main_v12 (iotaInDim S512x512 32 0),
  StableHlo.nullary main_v13 (iotaInDim S512x512 32 1),
  StableHlo.nullary main_cst_3 (constant S_ .f32 0x00000000#32),
  StableHlo.unary main_cst_3 main_v14 (broadcastInDim S512x512 ![] bcast_S_S512x512 : (⟨S_, .f32⟩ : BufTy).Contents (Elt F) → (⟨S512x512, .f32⟩ : BufTy).Contents (Elt F)),
  StableHlo.nullary main_c_4 (constantI S_ 32 511#32),
  StableHlo.unary main_c_4 main_v15 (broadcastInDim S512x512 ![] bcast_S_S512x512 : (⟨S_, .i32⟩ : BufTy).Contents (Elt F) → (⟨S512x512, .i32⟩ : BufTy).Contents (Elt F)),
  StableHlo.binary main_v12 main_v15 main_v16 (cmpi .eq : (⟨S512x512, .i32⟩ : BufTy).Contents (Elt F) → (⟨S512x512, .i32⟩ : BufTy).Contents (Elt F) → (⟨S512x512, .i1⟩ : BufTy).Contents (Elt F)),
  StableHlo.nullary main_c_5 (constantI S_ 32 511#32),
  StableHlo.unary main_c_5 main_v17 (broadcastInDim S512x512 ![] bcast_S_S512x512 : (⟨S_, .i32⟩ : BufTy).Contents (Elt F) → (⟨S512x512, .i32⟩ : BufTy).Contents (Elt F)),
  StableHlo.binary main_v13 main_v17 main_v18 (cmpi .eq : (⟨S512x512, .i32⟩ : BufTy).Contents (Elt F) → (⟨S512x512, .i32⟩ : BufTy).Contents (Elt F) → (⟨S512x512, .i1⟩ : BufTy).Contents (Elt F)),
  StableHlo.binary main_v16 main_v18 main_v19 (andi : (⟨S512x512, .i1⟩ : BufTy).Contents (Elt F) → (⟨S512x512, .i1⟩ : BufTy).Contents (Elt F) → (⟨S512x512, .i1⟩ : BufTy).Contents (Elt F)),
  StableHlo.nullary main_cst_6 (constant S_ .f32 0x3F800000#32),
  StableHlo.unary main_cst_6 main_call6_v0 (id : (⟨S_, .f32⟩ : BufTy).Contents (Elt F) → (⟨S_, .f32⟩ : BufTy).Contents (Elt F)),
  StableHlo.unary main_call6_v0 main_call6_v1 ((broadcastInDim S512x512 ![] bcast_S_S512x512) : (⟨S_, .f32⟩ : BufTy).Contents (Elt F) → (⟨S512x512, .f32⟩ : BufTy).Contents (Elt F)),
  StableHlo.ternary main_v19 main_call6_v1 main_v14 main_v20 (select : (⟨S512x512, .i1⟩ : BufTy).Contents (Elt F) → (⟨S512x512, .f32⟩ : BufTy).Contents (Elt F) → (⟨S512x512, .f32⟩ : BufTy).Contents (Elt F) → (⟨S512x512, .f32⟩ : BufTy).Contents (Elt F)),
  StableHlo.nullary main_c_7 (constantI S_ 32 511#32),
  StableHlo.unary main_c_7 main_v21 (broadcastInDim S64 ![] bcast_S_S64 : (⟨S_, .i32⟩ : BufTy).Contents (Elt F) → (⟨S64, .i32⟩ : BufTy).Contents (Elt F)),
  StableHlo.nullary main_c_8 (constantI S_ 32 511#32),
  StableHlo.unary main_c_8 main_v22 (broadcastInDim S64 ![] bcast_S_S64 : (⟨S_, .i32⟩ : BufTy).Contents (Elt F) → (⟨S64, .i32⟩ : BufTy).Contents (Elt F)),
  StableHlo.unary main_v20 main_v23 (broadcastInDim S64x512x512 ![1, 2] bcast_S512x512_S64x512x512_1_2 : (⟨S512x512, .f32⟩ : BufTy).Contents (Elt F) → (⟨S64x512x512, .f32⟩ : BufTy).Contents (Elt F)),
  StableHlo.unary main_v12 main_v24_0 id,
  StableHlo.unary main_v13 main_v24_1 id,
  StableHlo.unary main_v11_3 main_v24_2 id,
  StableHlo.unary main_v21 main_v24_3 id,
  StableHlo.unary main_v22 main_v24_4 id,
  StableHlo.unary main_v23 main_v24_5 id]

/-- After the walk: the first cell marked, the column sums and the two log-sum-exps. -/
abbrev postOps : List (HloOp τ sig (Elt F)) := [
  StableHlo.nullary main_c_9 (constantI S_ 32 0#32),
  StableHlo.unary main_c_9 main_v25 (broadcastInDim S512x512 ![] bcast_S_S512x512 : (⟨S_, .i32⟩ : BufTy).Contents (Elt F) → (⟨S512x512, .i32⟩ : BufTy).Contents (Elt F)),
  StableHlo.binary main_v12 main_v25 main_v26 (cmpi .eq : (⟨S512x512, .i32⟩ : BufTy).Contents (Elt F) → (⟨S512x512, .i32⟩ : BufTy).Contents (Elt F) → (⟨S512x512, .i1⟩ : BufTy).Contents (Elt F)),
  StableHlo.nullary main_c_10 (constantI S_ 32 0#32),
  StableHlo.unary main_c_10 main_v27 (broadcastInDim S512x512 ![] bcast_S_S512x512 : (⟨S_, .i32⟩ : BufTy).Contents (Elt F) → (⟨S512x512, .i32⟩ : BufTy).Contents (Elt F)),
  StableHlo.binary main_v13 main_v27 main_v28 (cmpi .eq : (⟨S512x512, .i32⟩ : BufTy).Contents (Elt F) → (⟨S512x512, .i32⟩ : BufTy).Contents (Elt F) → (⟨S512x512, .i1⟩ : BufTy).Contents (Elt F)),
  StableHlo.binary main_v26 main_v28 main_v29 (andi : (⟨S512x512, .i1⟩ : BufTy).Contents (Elt F) → (⟨S512x512, .i1⟩ : BufTy).Contents (Elt F) → (⟨S512x512, .i1⟩ : BufTy).Contents (Elt F)),
  StableHlo.nullary main_cst_11 (constant S_ .f32 0x3F800000#32),
  StableHlo.unary main_cst_11 main_call13_v0 (id : (⟨S_, .f32⟩ : BufTy).Contents (Elt F) → (⟨S_, .f32⟩ : BufTy).Contents (Elt F)),
  StableHlo.unary main_call13_v0 main_call13_v1 ((broadcastInDim S512x512 ![] bcast_S_S512x512) : (⟨S_, .f32⟩ : BufTy).Contents (Elt F) → (⟨S512x512, .f32⟩ : BufTy).Contents (Elt F)),
  StableHlo.unary main_v29 main_call13_v2 ((broadcastInDim S64x512x512 ![1, 2] bcast_S512x512_S64x512x512_1_2) : (⟨S512x512, .i1⟩ : BufTy).Contents (Elt F) → (⟨S64x512x512, .i1⟩ : BufTy).Contents (Elt F)),
  StableHlo.unary main_call13_v1 main_call13_v3 ((broadcastInDim S64x512x512 ![1, 2] bcast_S512x512_S64x512x512_1_2) : (⟨S512x512, .f32⟩ : BufTy).Contents (Elt F) → (⟨S64x512x512, .f32⟩ : BufTy).Contents (Elt F)),
  StableHlo.ternary main_call13_v2 main_call13_v3 main_v24_5 main_v30 (select : (⟨S64x512x512, .i1⟩ : BufTy).Contents (Elt F) → (⟨S64x512x512, .f32⟩ : BufTy).Contents (Elt F) → (⟨S64x512x512, .f32⟩ : BufTy).Contents (Elt F) → (⟨S64x512x512, .f32⟩ : BufTy).Contents (Elt F)),
  StableHlo.binary main_v10 main_v30 main_v31 (mulf : (⟨S64x512x512, .f32⟩ : BufTy).Contents (Elt F) → (⟨S64x512x512, .f32⟩ : BufTy).Contents (Elt F) → (⟨S64x512x512, .f32⟩ : BufTy).Contents (Elt F)),
  StableHlo.nullary main_cst_12 (constant S_ .f32 0x00000000#32),
  StableHlo.binary main_v31 main_cst_12 main_v32 ((fun x v => Host.reduceAdd x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
  StableHlo.nullary main_cst_13 (constant S_ .f32 0xFF800000#32),
  StableHlo.binary main_v32 main_cst_13 main_v33 ((fun x v => Host.reduce FloatOps.maximumf x v reducesTo_S64x512_S64_d1 h_S_) : (⟨S64x512, .f32⟩ : BufTy).Contents (Elt F) → (⟨S_, .f32⟩ : BufTy).Contents (Elt F) → (⟨S64, .f32⟩ : BufTy).Contents (Elt F)),
  StableHlo.unary main_v33 main_v34 (Host.absf : (⟨S64, .f32⟩ : BufTy).Contents (Elt F) → (⟨S64, .f32⟩ : BufTy).Contents (Elt F)),
  StableHlo.nullary main_cst_14 (constant S_ .f32 0x7F800000#32),
  StableHlo.unary main_cst_14 main_v35 (broadcastInDim S64 ![] bcast_S_S64 : (⟨S_, .f32⟩ : BufTy).Contents (Elt F) → (⟨S64, .f32⟩ : BufTy).Contents (Elt F)),
  StableHlo.binary main_v34 main_v35 main_v36 (cmpf .olt : (⟨S64, .f32⟩ : BufTy).Contents (Elt F) → (⟨S64, .f32⟩ : BufTy).Contents (Elt F) → (⟨S64, .i1⟩ : BufTy).Contents (Elt F)),
  StableHlo.nullary main_cst_15 (constant S_ .f32 0x00000000#32),
  StableHlo.unary main_cst_15 main_call14_v0 (id : (⟨S_, .f32⟩ : BufTy).Contents (Elt F) → (⟨S_, .f32⟩ : BufTy).Contents (Elt F)),
  StableHlo.unary main_call14_v0 main_call14_v1 ((broadcastInDim S64 ![] bcast_S_S64) : (⟨S_, .f32⟩ : BufTy).Contents (Elt F) → (⟨S64, .f32⟩ : BufTy).Contents (Elt F)),
  StableHlo.ternary main_v36 main_v33 main_call14_v1 main_v37 (select : (⟨S64, .i1⟩ : BufTy).Contents (Elt F) → (⟨S64, .f32⟩ : BufTy).Contents (Elt F) → (⟨S64, .f32⟩ : BufTy).Contents (Elt F) → (⟨S64, .f32⟩ : BufTy).Contents (Elt F)),
  StableHlo.unary main_v37 main_v38 (broadcastInDim S64x1 ![0] bcast_S64_S64x1_0 : (⟨S64, .f32⟩ : BufTy).Contents (Elt F) → (⟨S64x1, .f32⟩ : BufTy).Contents (Elt F)),
  StableHlo.unary main_v38 main_v39 (broadcastInDim S64x512 ![0, 1] bcast_S64x1_S64x512_0_1 : (⟨S64x1, .f32⟩ : BufTy).Contents (Elt F) → (⟨S64x512, .f32⟩ : BufTy).Contents (Elt F)),
  StableHlo.binary main_v32 main_v39 main_v40 (subf : (⟨S64x512, .f32⟩ : BufTy).Contents (Elt F) → (⟨S64x512, .f32⟩ : BufTy).Contents (Elt F) → (⟨S64x512, .f32⟩ : BufTy).Contents (Elt F)),
  StableHlo.unary main_v40 main_v41 (Host.exp : (⟨S64x512, .f32⟩ : BufTy).Contents (Elt F) → (⟨S64x512, .f32⟩ : BufTy).Contents (Elt F)),
  StableHlo.nullary main_cst_16 (constant S_ .f32 0x00000000#32),
  StableHlo.binary main_v41 main_cst_16 main_v42 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
  StableHlo.unary main_v42 main_v43 (Host.log : (⟨S64, .f32⟩ : BufTy).Contents (Elt F) → (⟨S64, .f32⟩ : BufTy).Contents (Elt F)),
  StableHlo.binary main_v43 main_v37 main_v44 (addf : (⟨S64, .f32⟩ : BufTy).Contents (Elt F) → (⟨S64, .f32⟩ : BufTy).Contents (Elt F) → (⟨S64, .f32⟩ : BufTy).Contents (Elt F)),
  StableHlo.nullary main_cst_17 (constant S_ .f32 0x00000000#32),
  StableHlo.binary main_v10 main_cst_17 main_v45 ((fun x v => Host.reduceAdd x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
  StableHlo.nullary main_cst_18 (constant S_ .f32 0xFF800000#32),
  StableHlo.binary main_v45 main_cst_18 main_v46 ((fun x v => Host.reduce FloatOps.maximumf x v reducesTo_S64x512_S64_d1 h_S_) : (⟨S64x512, .f32⟩ : BufTy).Contents (Elt F) → (⟨S_, .f32⟩ : BufTy).Contents (Elt F) → (⟨S64, .f32⟩ : BufTy).Contents (Elt F)),
  StableHlo.unary main_v46 main_v47 (Host.absf : (⟨S64, .f32⟩ : BufTy).Contents (Elt F) → (⟨S64, .f32⟩ : BufTy).Contents (Elt F)),
  StableHlo.nullary main_cst_19 (constant S_ .f32 0x7F800000#32),
  StableHlo.unary main_cst_19 main_v48 (broadcastInDim S64 ![] bcast_S_S64 : (⟨S_, .f32⟩ : BufTy).Contents (Elt F) → (⟨S64, .f32⟩ : BufTy).Contents (Elt F)),
  StableHlo.binary main_v47 main_v48 main_v49 (cmpf .olt : (⟨S64, .f32⟩ : BufTy).Contents (Elt F) → (⟨S64, .f32⟩ : BufTy).Contents (Elt F) → (⟨S64, .i1⟩ : BufTy).Contents (Elt F)),
  StableHlo.nullary main_cst_20 (constant S_ .f32 0x00000000#32),
  StableHlo.unary main_cst_20 main_call15_v0 (id : (⟨S_, .f32⟩ : BufTy).Contents (Elt F) → (⟨S_, .f32⟩ : BufTy).Contents (Elt F)),
  StableHlo.unary main_call15_v0 main_call15_v1 ((broadcastInDim S64 ![] bcast_S_S64) : (⟨S_, .f32⟩ : BufTy).Contents (Elt F) → (⟨S64, .f32⟩ : BufTy).Contents (Elt F)),
  StableHlo.ternary main_v49 main_v46 main_call15_v1 main_v50 (select : (⟨S64, .i1⟩ : BufTy).Contents (Elt F) → (⟨S64, .f32⟩ : BufTy).Contents (Elt F) → (⟨S64, .f32⟩ : BufTy).Contents (Elt F) → (⟨S64, .f32⟩ : BufTy).Contents (Elt F)),
  StableHlo.unary main_v50 main_v51 (broadcastInDim S64x1 ![0] bcast_S64_S64x1_0 : (⟨S64, .f32⟩ : BufTy).Contents (Elt F) → (⟨S64x1, .f32⟩ : BufTy).Contents (Elt F)),
  StableHlo.unary main_v51 main_v52 (broadcastInDim S64x512 ![0, 1] bcast_S64x1_S64x512_0_1 : (⟨S64x1, .f32⟩ : BufTy).Contents (Elt F) → (⟨S64x512, .f32⟩ : BufTy).Contents (Elt F)),
  StableHlo.binary main_v45 main_v52 main_v53 (subf : (⟨S64x512, .f32⟩ : BufTy).Contents (Elt F) → (⟨S64x512, .f32⟩ : BufTy).Contents (Elt F) → (⟨S64x512, .f32⟩ : BufTy).Contents (Elt F)),
  StableHlo.unary main_v53 main_v54 (Host.exp : (⟨S64x512, .f32⟩ : BufTy).Contents (Elt F) → (⟨S64x512, .f32⟩ : BufTy).Contents (Elt F)),
  StableHlo.nullary main_cst_21 (constant S_ .f32 0x00000000#32),
  StableHlo.binary main_v54 main_cst_21 main_v55 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
  StableHlo.unary main_v55 main_v56 (Host.log : (⟨S64, .f32⟩ : BufTy).Contents (Elt F) → (⟨S64, .f32⟩ : BufTy).Contents (Elt F)),
  StableHlo.binary main_v56 main_v50 main_v57 (addf : (⟨S64, .f32⟩ : BufTy).Contents (Elt F) → (⟨S64, .f32⟩ : BufTy).Contents (Elt F) → (⟨S64, .f32⟩ : BufTy).Contents (Elt F)),
  StableHlo.binary main_v44 main_v57 main_v58 (subf : (⟨S64, .f32⟩ : BufTy).Contents (Elt F) → (⟨S64, .f32⟩ : BufTy).Contents (Elt F) → (⟨S64, .f32⟩ : BufTy).Contents (Elt F))]

/-- The table loop's condition. -/
abbrev cond0Ops : List (HloOp τ sig (Elt F)) := [
  StableHlo.nullary main_while0c_c_25 (constantI S_ 32 262143#32),
  StableHlo.binary main_v11_1 main_while0c_c_25 main_while0c_v59 (cmpi .slt : (⟨S_, .i32⟩ : BufTy).Contents (Elt F) → (⟨S_, .i32⟩ : BufTy).Contents (Elt F) → (⟨S_, .i1⟩ : BufTy).Contents (Elt F))]

/-- One cell of the table. -/
abbrev body0Ops : List (HloOp τ sig (Elt F)) := [
  StableHlo.nullary main_while0b_c_25 (constantI S_ 32 1#32),
  StableHlo.binary main_v11_2 main_while0b_c_25 main_while0b_v59 (addi : (⟨S_, .i32⟩ : BufTy).Contents (Elt F) → (⟨S_, .i32⟩ : BufTy).Contents (Elt F) → (⟨S_, .i32⟩ : BufTy).Contents (Elt F)),
  StableHlo.nullary main_while0b_c_26 (constantI S_ 32 512#32),
  StableHlo.binary main_v11_2 main_while0b_c_26 main_while0b_v60 (Host.divsi : (⟨S_, .i32⟩ : BufTy).Contents (Elt F) → (⟨S_, .i32⟩ : BufTy).Contents (Elt F) → (⟨S_, .i32⟩ : BufTy).Contents (Elt F)),
  StableHlo.nullary main_while0b_c_27 (constantI S_ 32 512#32),
  StableHlo.binary main_v11_2 main_while0b_c_27 main_while0b_v61 (Host.remsi : (⟨S_, .i32⟩ : BufTy).Contents (Elt F) → (⟨S_, .i32⟩ : BufTy).Contents (Elt F) → (⟨S_, .i32⟩ : BufTy).Contents (Elt F)),
  StableHlo.nullary main_while0b_c_28 (constantI S_ 32 0#32),
  StableHlo.unaryIndexed main_v11_0 ![main_while0b_c_28, main_while0b_v60, main_while0b_v61] ⟨S_, .i32⟩ main_while0b_v62 ((fun x i => Host.dynamicSlice S64x1x1 x (fun k => (i k (Shape.Idx.first h_S_)).toInt) sliceFits_S64x512x512_S64x1x1) : (⟨S64x512x512, .f32⟩ : BufTy).Contents (Elt F) → (Fin 3 → (⟨S_, .i32⟩ : BufTy).Contents (Elt F)) → (⟨S64x1x1, .f32⟩ : BufTy).Contents (Elt F)),
  StableHlo.nullary main_while0b_c_29 (constantI S_ 32 1#32),
  StableHlo.binary main_while0b_v60 main_while0b_c_29 main_while0b_v63 (subi : (⟨S_, .i32⟩ : BufTy).Contents (Elt F) → (⟨S_, .i32⟩ : BufTy).Contents (Elt F) → (⟨S_, .i32⟩ : BufTy).Contents (Elt F)),
  StableHlo.nullary main_while0b_c_30 (constantI S_ 32 1#32),
  StableHlo.binary main_while0b_v61 main_while0b_c_30 main_while0b_v64 (subi : (⟨S_, .i32⟩ : BufTy).Contents (Elt F) → (⟨S_, .i32⟩ : BufTy).Contents (Elt F) → (⟨S_, .i32⟩ : BufTy).Contents (Elt F)),
  StableHlo.nullary main_while0b_c_31 (constantI S_ 32 0#32),
  StableHlo.unaryIndexed main_v11_3 ![main_while0b_c_31, main_while0b_v63, main_while0b_v64] ⟨S_, .i32⟩ main_while0b_v65 ((fun x i => Host.dynamicSlice S64x1x1 x (fun k => (i k (Shape.Idx.first h_S_)).toInt) sliceFits_S64x512x512_S64x1x1) : (⟨S64x512x512, .f32⟩ : BufTy).Contents (Elt F) → (Fin 3 → (⟨S_, .i32⟩ : BufTy).Contents (Elt F)) → (⟨S64x1x1, .f32⟩ : BufTy).Contents (Elt F)),
  StableHlo.nullary main_while0b_c_32 (constantI S_ 32 1#32),
  StableHlo.binary main_while0b_v60 main_while0b_c_32 main_while0b_v66 (subi : (⟨S_, .i32⟩ : BufTy).Contents (Elt F) → (⟨S_, .i32⟩ : BufTy).Contents (Elt F) → (⟨S_, .i32⟩ : BufTy).Contents (Elt F)),
  StableHlo.nullary main_while0b_c_33 (constantI S_ 32 0#32),
  StableHlo.unaryIndexed main_v11_3 ![main_while0b_c_33, main_while0b_v66, main_while0b_v61] ⟨S_, .i32⟩ main_while0b_v67 ((fun x i => Host.dynamicSlice S64x1x1 x (fun k => (i k (Shape.Idx.first h_S_)).toInt) sliceFits_S64x512x512_S64x1x1) : (⟨S64x512x512, .f32⟩ : BufTy).Contents (Elt F) → (Fin 3 → (⟨S_, .i32⟩ : BufTy).Contents (Elt F)) → (⟨S64x1x1, .f32⟩ : BufTy).Contents (Elt F)),
  StableHlo.nullary main_while0b_c_34 (constantI S_ 32 1#32),
  StableHlo.binary main_while0b_v61 main_while0b_c_34 main_while0b_v68 (subi : (⟨S_, .i32⟩ : BufTy).Contents (Elt F) → (⟨S_, .i32⟩ : BufTy).Contents (Elt F) → (⟨S_, .i32⟩ : BufTy).Contents (Elt F)),
  StableHlo.nullary main_while0b_c_35 (constantI S_ 32 0#32),
  StableHlo.unaryIndexed main_v11_3 ![main_while0b_c_35, main_while0b_v60, main_while0b_v68] ⟨S_, .i32⟩ main_while0b_v69 ((fun x i => Host.dynamicSlice S64x1x1 x (fun k => (i k (Shape.Idx.first h_S_)).toInt) sliceFits_S64x512x512_S64x1x1) : (⟨S64x512x512, .f32⟩ : BufTy).Contents (Elt F) → (Fin 3 → (⟨S_, .i32⟩ : BufTy).Contents (Elt F)) → (⟨S64x1x1, .f32⟩ : BufTy).Contents (Elt F)),
  StableHlo.nullary main_while0b_c_36 (constantI S_ 32 0#32),
  StableHlo.binary main_while0b_v60 main_while0b_c_36 main_while0b_v70 (cmpi .eq : (⟨S_, .i32⟩ : BufTy).Contents (Elt F) → (⟨S_, .i32⟩ : BufTy).Contents (Elt F) → (⟨S_, .i1⟩ : BufTy).Contents (Elt F)),
  StableHlo.binary main_while0b_v69 main_while0b_v62 main_while0b_v71 (addf : (⟨S64x1x1, .f32⟩ : BufTy).Contents (Elt F) → (⟨S64x1x1, .f32⟩ : BufTy).Contents (Elt F) → (⟨S64x1x1, .f32⟩ : BufTy).Contents (Elt F)),
  StableHlo.nullary main_while0b_c_37 (constantI S_ 32 0#32),
  StableHlo.binary main_while0b_v61 main_while0b_c_37 main_while0b_v72 (cmpi .eq : (⟨S_, .i32⟩ : BufTy).Contents (Elt F) → (⟨S_, .i32⟩ : BufTy).Contents (Elt F) → (⟨S_, .i1⟩ : BufTy).Contents (Elt F)),
  StableHlo.binary main_while0b_v67 main_while0b_v62 main_while0b_v73 (addf : (⟨S64x1x1, .f32⟩ : BufTy).Contents (Elt F) → (⟨S64x1x1, .f32⟩ : BufTy).Contents (Elt F) → (⟨S64x1x1, .f32⟩ : BufTy).Contents (Elt F)),
  StableHlo.binary main_while0b_v65 main_while0b_v67 main_while0b_v74 (minimumf : (⟨S64x1x1, .f32⟩ : BufTy).Contents (Elt F) → (⟨S64x1x1, .f32⟩ : BufTy).Contents (Elt F) → (⟨S64x1x1, .f32⟩ : BufTy).Contents (Elt F)),
  StableHlo.binary main_while0b_v74 main_while0b_v69 main_while0b_v75 (minimumf : (⟨S64x1x1, .f32⟩ : BufTy).Contents (Elt F) → (⟨S64x1x1, .f32⟩ : BufTy).Contents (Elt F) → (⟨S64x1x1, .f32⟩ : BufTy).Contents (Elt F)),
  StableHlo.binary main_while0b_v62 main_while0b_v75 main_while0b_v76 (addf : (⟨S64x1x1, .f32⟩ : BufTy).Contents (Elt F) → (⟨S64x1x1, .f32⟩ : BufTy).Contents (Elt F) → (⟨S64x1x1, .f32⟩ : BufTy).Contents (Elt F)),
  StableHlo.ternary main_while0b_v72 main_while0b_v73 main_while0b_v76 main_while0b_v77 ((fun p a b => select (broadcastInDim S64x1x1 ![] bcast_S_S64x1x1 p) a b) : (⟨S_, .i1⟩ : BufTy).Contents (Elt F) → (⟨S64x1x1, .f32⟩ : BufTy).Contents (Elt F) → (⟨S64x1x1, .f32⟩ : BufTy).Contents (Elt F) → (⟨S64x1x1, .f32⟩ : BufTy).Contents (Elt F)),
  StableHlo.ternary main_while0b_v70 main_while0b_v71 main_while0b_v77 main_while0b_v78 ((fun p a b => select (broadcastInDim S64x1x1 ![] bcast_S_S64x1x1 p) a b) : (⟨S_, .i1⟩ : BufTy).Contents (Elt F) → (⟨S64x1x1, .f32⟩ : BufTy).Contents (Elt F) → (⟨S64x1x1, .f32⟩ : BufTy).Contents (Elt F) → (⟨S64x1x1, .f32⟩ : BufTy).Contents (Elt F)),
  StableHlo.nullary main_while0b_c_38 (constantI S_ 32 0#32),
  StableHlo.binaryIndexed main_v11_3 main_while0b_v78 ![main_while0b_c_38, main_while0b_v60, main_while0b_v61] ⟨S_, .i32⟩ main_while0b_v79 ((fun x u i => Host.dynamicUpdateSlice x u (fun k => (i k (Shape.Idx.first h_S_)).toInt) updateFits_S64x512x512_S64x1x1) : (⟨S64x512x512, .f32⟩ : BufTy).Contents (Elt F) → (⟨S64x1x1, .f32⟩ : BufTy).Contents (Elt F) → (Fin 3 → (⟨S_, .i32⟩ : BufTy).Contents (Elt F)) → (⟨S64x512x512, .f32⟩ : BufTy).Contents (Elt F)),
  StableHlo.nullary main_while0b_c_39 (constantI S_ 32 1#32),
  StableHlo.binary main_v11_1 main_while0b_c_39 main_while0b_v80 (addi : (⟨S_, .i32⟩ : BufTy).Contents (Elt F) → (⟨S_, .i32⟩ : BufTy).Contents (Elt F) → (⟨S_, .i32⟩ : BufTy).Contents (Elt F)),
  StableHlo.unary main_while0b_v80 main_v11_1 id,
  StableHlo.unary main_while0b_v59 main_v11_2 id,
  StableHlo.unary main_while0b_v79 main_v11_3 id]

/-- The walk's condition. -/
abbrev cond1Ops : List (HloOp τ sig (Elt F)) := [
  StableHlo.nullary main_while1c_c_27 (constantI S_ 32 0#32),
  StableHlo.unary main_while1c_c_27 main_while1c_v59 (broadcastInDim S64 ![] bcast_S_S64 : (⟨S_, .i32⟩ : BufTy).Contents (Elt F) → (⟨S64, .i32⟩ : BufTy).Contents (Elt F)),
  StableHlo.binary main_v24_3 main_while1c_v59 main_while1c_v60 (cmpi .sgt : (⟨S64, .i32⟩ : BufTy).Contents (Elt F) → (⟨S64, .i32⟩ : BufTy).Contents (Elt F) → (⟨S64, .i1⟩ : BufTy).Contents (Elt F)),
  StableHlo.nullary main_while1c_c_28 (constantI S_ 32 0#32),
  StableHlo.unary main_while1c_c_28 main_while1c_v61 (broadcastInDim S64 ![] bcast_S_S64 : (⟨S_, .i32⟩ : BufTy).Contents (Elt F) → (⟨S64, .i32⟩ : BufTy).Contents (Elt F)),
  StableHlo.binary main_v24_4 main_while1c_v61 main_while1c_v62 (cmpi .sgt : (⟨S64, .i32⟩ : BufTy).Contents (Elt F) → (⟨S64, .i32⟩ : BufTy).Contents (Elt F) → (⟨S64, .i1⟩ : BufTy).Contents (Elt F)),
  StableHlo.binary main_while1c_v60 main_while1c_v62 main_while1c_v63 (andi : (⟨S64, .i1⟩ : BufTy).Contents (Elt F) → (⟨S64, .i1⟩ : BufTy).Contents (Elt F) → (⟨S64, .i1⟩ : BufTy).Contents (Elt F)),
  StableHlo.nullary main_while1c_c_29 (constantI S_ 1 0#1),
  StableHlo.binary main_while1c_v63 main_while1c_c_29 main_while1c_v64 ((fun x v => Host.reduce IntOp.ori x v reducesTo_S64_S_d0 h_S_) : (⟨S64, .i1⟩ : BufTy).Contents (Elt F) → (⟨S_, .i1⟩ : BufTy).Contents (Elt F) → (⟨S_, .i1⟩ : BufTy).Contents (Elt F))]

/-- One step of every walk. -/
abbrev body1Ops : List (HloOp τ sig (Elt F)) := [
  StableHlo.nullary main_while1b_c_27 (constantI S_ 32 1#32),
  StableHlo.unary main_while1b_c_27 main_while1b_v59 (broadcastInDim S64 ![] bcast_S_S64 : (⟨S_, .i32⟩ : BufTy).Contents (Elt F) → (⟨S64, .i32⟩ : BufTy).Contents (Elt F)),
  StableHlo.binary main_v24_3 main_while1b_v59 main_while1b_v60 (subi : (⟨S64, .i32⟩ : BufTy).Contents (Elt F) → (⟨S64, .i32⟩ : BufTy).Contents (Elt F) → (⟨S64, .i32⟩ : BufTy).Contents (Elt F)),
  StableHlo.nullary main_while1b_c_28 (constantI S_ 32 1#32),
  StableHlo.unary main_while1b_c_28 main_while1b_v61 (broadcastInDim S64 ![] bcast_S_S64 : (⟨S_, .i32⟩ : BufTy).Contents (Elt F) → (⟨S64, .i32⟩ : BufTy).Contents (Elt F)),
  StableHlo.binary main_v24_4 main_while1b_v61 main_while1b_v62 (subi : (⟨S64, .i32⟩ : BufTy).Contents (Elt F) → (⟨S64, .i32⟩ : BufTy).Contents (Elt F) → (⟨S64, .i32⟩ : BufTy).Contents (Elt F)),
  StableHlo.unary main_v24_0 main_while1b_v63 (broadcastInDim S1x512x512 ![1, 2] bcast_S512x512_S1x512x512_1_2 : (⟨S512x512, .i32⟩ : BufTy).Contents (Elt F) → (⟨S1x512x512, .i32⟩ : BufTy).Contents (Elt F)),
  StableHlo.unary main_while1b_v60 main_while1b_v64 (broadcastInDim S64x1x1 ![0] bcast_S64_S64x1x1_0 : (⟨S64, .i32⟩ : BufTy).Contents (Elt F) → (⟨S64x1x1, .i32⟩ : BufTy).Contents (Elt F)),
  StableHlo.unary main_while1b_v63 main_while1b_v65 (broadcastInDim S64x512x512 ![0, 1, 2] bcast_S1x512x512_S64x512x512_0_1_2 : (⟨S1x512x512, .i32⟩ : BufTy).Contents (Elt F) → (⟨S64x512x512, .i32⟩ : BufTy).Contents (Elt F)),
  StableHlo.unary main_while1b_v64 main_while1b_v66 (broadcastInDim S64x512x512 ![0, 1, 2] bcast_S64x1x1_S64x512x512_0_1_2 : (⟨S64x1x1, .i32⟩ : BufTy).Contents (Elt F) → (⟨S64x512x512, .i32⟩ : BufTy).Contents (Elt F)),
  StableHlo.binary main_while1b_v65 main_while1b_v66 main_while1b_v67 (cmpi .eq : (⟨S64x512x512, .i32⟩ : BufTy).Contents (Elt F) → (⟨S64x512x512, .i32⟩ : BufTy).Contents (Elt F) → (⟨S64x512x512, .i1⟩ : BufTy).Contents (Elt F)),
  StableHlo.unary main_v24_1 main_while1b_v68 (broadcastInDim S1x512x512 ![1, 2] bcast_S512x512_S1x512x512_1_2 : (⟨S512x512, .i32⟩ : BufTy).Contents (Elt F) → (⟨S1x512x512, .i32⟩ : BufTy).Contents (Elt F)),
  StableHlo.unary main_while1b_v62 main_while1b_v69 (broadcastInDim S64x1x1 ![0] bcast_S64_S64x1x1_0 : (⟨S64, .i32⟩ : BufTy).Contents (Elt F) → (⟨S64x1x1, .i32⟩ : BufTy).Contents (Elt F)),
  StableHlo.unary main_while1b_v68 main_while1b_v70 (broadcastInDim S64x512x512 ![0, 1, 2] bcast_S1x512x512_S64x512x512_0_1_2 : (⟨S1x512x512, .i32⟩ : BufTy).Contents (Elt F) → (⟨S64x512x512, .i32⟩ : BufTy).Contents (Elt F)),
  StableHlo.unary main_while1b_v69 main_while1b_v71 (broadcastInDim S64x512x512 ![0, 1, 2] bcast_S64x1x1_S64x512x512_0_1_2 : (⟨S64x1x1, .i32⟩ : BufTy).Contents (Elt F) → (⟨S64x512x512, .i32⟩ : BufTy).Contents (Elt F)),
  StableHlo.binary main_while1b_v70 main_while1b_v71 main_while1b_v72 (cmpi .eq : (⟨S64x512x512, .i32⟩ : BufTy).Contents (Elt F) → (⟨S64x512x512, .i32⟩ : BufTy).Contents (Elt F) → (⟨S64x512x512, .i1⟩ : BufTy).Contents (Elt F)),
  StableHlo.binary main_while1b_v67 main_while1b_v72 main_while1b_v73 (andi : (⟨S64x512x512, .i1⟩ : BufTy).Contents (Elt F) → (⟨S64x512x512, .i1⟩ : BufTy).Contents (Elt F) → (⟨S64x512x512, .i1⟩ : BufTy).Contents (Elt F)),
  StableHlo.nullary main_while1b_cst_29 (constant S_ .f32 0x00000000#32),
  StableHlo.unary main_while1b_cst_29 main_while1b_call7_v0 (id : (⟨S_, .f32⟩ : BufTy).Contents (Elt F) → (⟨S_, .f32⟩ : BufTy).Contents (Elt F)),
  StableHlo.unary main_while1b_call7_v0 main_while1b_call7_v1 ((broadcastInDim S512x512 ![] bcast_S_S512x512) : (⟨S_, .f32⟩ : BufTy).Contents (Elt F) → (⟨S512x512, .f32⟩ : BufTy).Contents (Elt F)),
  StableHlo.unary main_while1b_call7_v1 main_while1b_call7_v2 ((broadcastInDim S64x512x512 ![1, 2] bcast_S512x512_S64x512x512_1_2) : (⟨S512x512, .f32⟩ : BufTy).Contents (Elt F) → (⟨S64x512x512, .f32⟩ : BufTy).Contents (Elt F)),
  StableHlo.ternary main_while1b_v73 main_v24_2 main_while1b_call7_v2 main_while1b_v74 (select : (⟨S64x512x512, .i1⟩ : BufTy).Contents (Elt F) → (⟨S64x512x512, .f32⟩ : BufTy).Contents (Elt F) → (⟨S64x512x512, .f32⟩ : BufTy).Contents (Elt F) → (⟨S64x512x512, .f32⟩ : BufTy).Contents (Elt F)),
  StableHlo.nullary main_while1b_cst_30 (constant S_ .f32 0x00000000#32),
  StableHlo.binary main_while1b_v74 main_while1b_cst_30 main_while1b_v75 ((fun x v => Host.reduceAdd x v reducesTo_S64x512x512_S64_d1_2 h_S_) : (⟨S64x512x512, .f32⟩ : BufTy).Contents (Elt F) → (⟨S_, .f32⟩ : BufTy).Contents (Elt F) → (⟨S64, .f32⟩ : BufTy).Contents (Elt F)),
  StableHlo.nullary main_while1b_c_31 (constantI S_ 32 1#32),
  StableHlo.unary main_while1b_c_31 main_while1b_v76 (broadcastInDim S64 ![] bcast_S_S64 : (⟨S_, .i32⟩ : BufTy).Contents (Elt F) → (⟨S64, .i32⟩ : BufTy).Contents (Elt F)),
  StableHlo.binary main_v24_3 main_while1b_v76 main_while1b_v77 (subi : (⟨S64, .i32⟩ : BufTy).Contents (Elt F) → (⟨S64, .i32⟩ : BufTy).Contents (Elt F) → (⟨S64, .i32⟩ : BufTy).Contents (Elt F)),
  StableHlo.unary main_v24_0 main_while1b_v78 (broadcastInDim S1x512x512 ![1, 2] bcast_S512x512_S1x512x512_1_2 : (⟨S512x512, .i32⟩ : BufTy).Contents (Elt F) → (⟨S1x512x512, .i32⟩ : BufTy).Contents (Elt F)),
  StableHlo.unary main_while1b_v77 main_while1b_v79 (broadcastInDim S64x1x1 ![0] bcast_S64_S64x1x1_0 : (⟨S64, .i32⟩ : BufTy).Contents (Elt F) → (⟨S64x1x1, .i32⟩ : BufTy).Contents (Elt F)),
  StableHlo.unary main_while1b_v78 main_while1b_v80 (broadcastInDim S64x512x512 ![0, 1, 2] bcast_S1x512x512_S64x512x512_0_1_2 : (⟨S1x512x512, .i32⟩ : BufTy).Contents (Elt F) → (⟨S64x512x512, .i32⟩ : BufTy).Contents (Elt F)),
  StableHlo.unary main_while1b_v79 main_while1b_v81 (broadcastInDim S64x512x512 ![0, 1, 2] bcast_S64x1x1_S64x512x512_0_1_2 : (⟨S64x1x1, .i32⟩ : BufTy).Contents (Elt F) → (⟨S64x512x512, .i32⟩ : BufTy).Contents (Elt F)),
  StableHlo.binary main_while1b_v80 main_while1b_v81 main_while1b_v82 (cmpi .eq : (⟨S64x512x512, .i32⟩ : BufTy).Contents (Elt F) → (⟨S64x512x512, .i32⟩ : BufTy).Contents (Elt F) → (⟨S64x512x512, .i1⟩ : BufTy).Contents (Elt F)),
  StableHlo.unary main_v24_1 main_while1b_v83 (broadcastInDim S1x512x512 ![1, 2] bcast_S512x512_S1x512x512_1_2 : (⟨S512x512, .i32⟩ : BufTy).Contents (Elt F) → (⟨S1x512x512, .i32⟩ : BufTy).Contents (Elt F)),
  StableHlo.unary main_v24_4 main_while1b_v84 (broadcastInDim S64x1x1 ![0] bcast_S64_S64x1x1_0 : (⟨S64, .i32⟩ : BufTy).Contents (Elt F) → (⟨S64x1x1, .i32⟩ : BufTy).Contents (Elt F)),
  StableHlo.unary main_while1b_v83 main_while1b_v85 (broadcastInDim S64x512x512 ![0, 1, 2] bcast_S1x512x512_S64x512x512_0_1_2 : (⟨S1x512x512, .i32⟩ : BufTy).Contents (Elt F) → (⟨S64x512x512, .i32⟩ : BufTy).Contents (Elt F)),
  StableHlo.unary main_while1b_v84 main_while1b_v86 (broadcastInDim S64x512x512 ![0, 1, 2] bcast_S64x1x1_S64x512x512_0_1_2 : (⟨S64x1x1, .i32⟩ : BufTy).Contents (Elt F) → (⟨S64x512x512, .i32⟩ : BufTy).Contents (Elt F)),
  StableHlo.binary main_while1b_v85 main_while1b_v86 main_while1b_v87 (cmpi .eq : (⟨S64x512x512, .i32⟩ : BufTy).Contents (Elt F) → (⟨S64x512x512, .i32⟩ : BufTy).Contents (Elt F) → (⟨S64x512x512, .i1⟩ : BufTy).Contents (Elt F)),
  StableHlo.binary main_while1b_v82 main_while1b_v87 main_while1b_v88 (andi : (⟨S64x512x512, .i1⟩ : BufTy).Contents (Elt F) → (⟨S64x512x512, .i1⟩ : BufTy).Contents (Elt F) → (⟨S64x512x512, .i1⟩ : BufTy).Contents (Elt F)),
  StableHlo.nullary main_while1b_cst_32 (constant S_ .f32 0x00000000#32),
  StableHlo.unary main_while1b_cst_32 main_while1b_call8_v0 (id : (⟨S_, .f32⟩ : BufTy).Contents (Elt F) → (⟨S_, .f32⟩ : BufTy).Contents (Elt F)),
  StableHlo.unary main_while1b_call8_v0 main_while1b_call8_v1 ((broadcastInDim S512x512 ![] bcast_S_S512x512) : (⟨S_, .f32⟩ : BufTy).Contents (Elt F) → (⟨S512x512, .f32⟩ : BufTy).Contents (Elt F)),
  StableHlo.unary main_while1b_call8_v1 main_while1b_call8_v2 ((broadcastInDim S64x512x512 ![1, 2] bcast_S512x512_S64x512x512_1_2) : (⟨S512x512, .f32⟩ : BufTy).Contents (Elt F) → (⟨S64x512x512, .f32⟩ : BufTy).Contents (Elt F)),
  StableHlo.ternary main_while1b_v88 main_v24_2 main_while1b_call8_v2 main_while1b_v89 (select : (⟨S64x512x512, .i1⟩ : BufTy).Contents (Elt F) → (⟨S64x512x512, .f32⟩ : BufTy).Contents (Elt F) → (⟨S64x512x512, .f32⟩ : BufTy).Contents (Elt F) → (⟨S64x512x512, .f32⟩ : BufTy).Contents (Elt F)),
  StableHlo.nullary main_while1b_cst_33 (constant S_ .f32 0x00000000#32),
  StableHlo.binary main_while1b_v89 main_while1b_cst_33 main_while1b_v90 ((fun x v => Host.reduceAdd x v reducesTo_S64x512x512_S64_d1_2 h_S_) : (⟨S64x512x512, .f32⟩ : BufTy).Contents (Elt F) → (⟨S_, .f32⟩ : BufTy).Contents (Elt F) → (⟨S64, .f32⟩ : BufTy).Contents (Elt F)),
  StableHlo.nullary main_while1b_c_34 (constantI S_ 32 1#32),
  StableHlo.unary main_while1b_c_34 main_while1b_v91 (broadcastInDim S64 ![] bcast_S_S64 : (⟨S_, .i32⟩ : BufTy).Contents (Elt F) → (⟨S64, .i32⟩ : BufTy).Contents (Elt F)),
  StableHlo.binary main_v24_4 main_while1b_v91 main_while1b_v92 (subi : (⟨S64, .i32⟩ : BufTy).Contents (Elt F) → (⟨S64, .i32⟩ : BufTy).Contents (Elt F) → (⟨S64, .i32⟩ : BufTy).Contents (Elt F)),
  StableHlo.unary main_v24_0 main_while1b_v93 (broadcastInDim S1x512x512 ![1, 2] bcast_S512x512_S1x512x512_1_2 : (⟨S512x512, .i32⟩ : BufTy).Contents (Elt F) → (⟨S1x512x512, .i32⟩ : BufTy).Contents (Elt F)),
  StableHlo.unary main_v24_3 main_while1b_v94 (broadcastInDim S64x1x1 ![0] bcast_S64_S64x1x1_0 : (⟨S64, .i32⟩ : BufTy).Contents (Elt F) → (⟨S64x1x1, .i32⟩ : BufTy).Contents (Elt F)),
  StableHlo.unary main_while1b_v93 main_while1b_v95 (broadcastInDim S64x512x512 ![0, 1, 2] bcast_S1x512x512_S64x512x512_0_1_2 : (⟨S1x512x512, .i32⟩ : BufTy).Contents (Elt F) → (⟨S64x512x512, .i32⟩ : BufTy).Contents (Elt F)),
  StableHlo.unary main_while1b_v94 main_while1b_v96 (broadcastInDim S64x512x512 ![0, 1, 2] bcast_S64x1x1_S64x512x512_0_1_2 : (⟨S64x1x1, .i32⟩ : BufTy).Contents (Elt F) → (⟨S64x512x512, .i32⟩ : BufTy).Contents (Elt F)),
  StableHlo.binary main_while1b_v95 main_while1b_v96 main_while1b_v97 (cmpi .eq : (⟨S64x512x512, .i32⟩ : BufTy).Contents (Elt F) → (⟨S64x512x512, .i32⟩ : BufTy).Contents (Elt F) → (⟨S64x512x512, .i1⟩ : BufTy).Contents (Elt F)),
  StableHlo.unary main_v24_1 main_while1b_v98 (broadcastInDim S1x512x512 ![1, 2] bcast_S512x512_S1x512x512_1_2 : (⟨S512x512, .i32⟩ : BufTy).Contents (Elt F) → (⟨S1x512x512, .i32⟩ : BufTy).Contents (Elt F)),
  StableHlo.unary main_while1b_v92 main_while1b_v99 (broadcastInDim S64x1x1 ![0] bcast_S64_S64x1x1_0 : (⟨S64, .i32⟩ : BufTy).Contents (Elt F) → (⟨S64x1x1, .i32⟩ : BufTy).Contents (Elt F)),
  StableHlo.unary main_while1b_v98 main_while1b_v100 (broadcastInDim S64x512x512 ![0, 1, 2] bcast_S1x512x512_S64x512x512_0_1_2 : (⟨S1x512x512, .i32⟩ : BufTy).Contents (Elt F) → (⟨S64x512x512, .i32⟩ : BufTy).Contents (Elt F)),
  StableHlo.unary main_while1b_v99 main_while1b_v101 (broadcastInDim S64x512x512 ![0, 1, 2] bcast_S64x1x1_S64x512x512_0_1_2 : (⟨S64x1x1, .i32⟩ : BufTy).Contents (Elt F) → (⟨S64x512x512, .i32⟩ : BufTy).Contents (Elt F)),
  StableHlo.binary main_while1b_v100 main_while1b_v101 main_while1b_v102 (cmpi .eq : (⟨S64x512x512, .i32⟩ : BufTy).Contents (Elt F) → (⟨S64x512x512, .i32⟩ : BufTy).Contents (Elt F) → (⟨S64x512x512, .i1⟩ : BufTy).Contents (Elt F)),
  StableHlo.binary main_while1b_v97 main_while1b_v102 main_while1b_v103 (andi : (⟨S64x512x512, .i1⟩ : BufTy).Contents (Elt F) → (⟨S64x512x512, .i1⟩ : BufTy).Contents (Elt F) → (⟨S64x512x512, .i1⟩ : BufTy).Contents (Elt F)),
  StableHlo.nullary main_while1b_cst_35 (constant S_ .f32 0x00000000#32),
  StableHlo.unary main_while1b_cst_35 main_while1b_call9_v0 (id : (⟨S_, .f32⟩ : BufTy).Contents (Elt F) → (⟨S_, .f32⟩ : BufTy).Contents (Elt F)),
  StableHlo.unary main_while1b_call9_v0 main_while1b_call9_v1 ((broadcastInDim S512x512 ![] bcast_S_S512x512) : (⟨S_, .f32⟩ : BufTy).Contents (Elt F) → (⟨S512x512, .f32⟩ : BufTy).Contents (Elt F)),
  StableHlo.unary main_while1b_call9_v1 main_while1b_call9_v2 ((broadcastInDim S64x512x512 ![1, 2] bcast_S512x512_S64x512x512_1_2) : (⟨S512x512, .f32⟩ : BufTy).Contents (Elt F) → (⟨S64x512x512, .f32⟩ : BufTy).Contents (Elt F)),
  StableHlo.ternary main_while1b_v103 main_v24_2 main_while1b_call9_v2 main_while1b_v104 (select : (⟨S64x512x512, .i1⟩ : BufTy).Contents (Elt F) → (⟨S64x512x512, .f32⟩ : BufTy).Contents (Elt F) → (⟨S64x512x512, .f32⟩ : BufTy).Contents (Elt F) → (⟨S64x512x512, .f32⟩ : BufTy).Contents (Elt F)),
  StableHlo.nullary main_while1b_cst_36 (constant S_ .f32 0x00000000#32),
  StableHlo.binary main_while1b_v104 main_while1b_cst_36 main_while1b_v105 ((fun x v => Host.reduceAdd x v reducesTo_S64x512x512_S64_d1_2 h_S_) : (⟨S64x512x512, .f32⟩ : BufTy).Contents (Elt F) → (⟨S_, .f32⟩ : BufTy).Contents (Elt F) → (⟨S64, .f32⟩ : BufTy).Contents (Elt F)),
  StableHlo.binary main_while1b_v75 main_while1b_v90 main_while1b_v106 (cmpf .ole : (⟨S64, .f32⟩ : BufTy).Contents (Elt F) → (⟨S64, .f32⟩ : BufTy).Contents (Elt F) → (⟨S64, .i1⟩ : BufTy).Contents (Elt F)),
  StableHlo.binary main_while1b_v75 main_while1b_v105 main_while1b_v107 (cmpf .ole : (⟨S64, .f32⟩ : BufTy).Contents (Elt F) → (⟨S64, .f32⟩ : BufTy).Contents (Elt F) → (⟨S64, .i1⟩ : BufTy).Contents (Elt F)),
  StableHlo.binary main_while1b_v106 main_while1b_v107 main_while1b_v108 (andi : (⟨S64, .i1⟩ : BufTy).Contents (Elt F) → (⟨S64, .i1⟩ : BufTy).Contents (Elt F) → (⟨S64, .i1⟩ : BufTy).Contents (Elt F)),
  StableHlo.unary main_while1b_v108 main_while1b_v109 (noti : (⟨S64, .i1⟩ : BufTy).Contents (Elt F) → (⟨S64, .i1⟩ : BufTy).Contents (Elt F)),
  StableHlo.binary main_while1b_v90 main_while1b_v105 main_while1b_v110 (cmpf .ole : (⟨S64, .f32⟩ : BufTy).Contents (Elt F) → (⟨S64, .f32⟩ : BufTy).Contents (Elt F) → (⟨S64, .i1⟩ : BufTy).Contents (Elt F)),
  StableHlo.binary main_while1b_v109 main_while1b_v110 main_while1b_v111 (andi : (⟨S64, .i1⟩ : BufTy).Contents (Elt F) → (⟨S64, .i1⟩ : BufTy).Contents (Elt F) → (⟨S64, .i1⟩ : BufTy).Contents (Elt F)),
  StableHlo.binary main_while1b_v108 main_while1b_v111 main_while1b_v112 (ori : (⟨S64, .i1⟩ : BufTy).Contents (Elt F) → (⟨S64, .i1⟩ : BufTy).Contents (Elt F) → (⟨S64, .i1⟩ : BufTy).Contents (Elt F)),
  StableHlo.nullary main_while1b_c_37 (constantI S_ 32 1#32),
  StableHlo.unary main_while1b_c_37 main_while1b_v113 (broadcastInDim S64 ![] bcast_S_S64 : (⟨S_, .i32⟩ : BufTy).Contents (Elt F) → (⟨S64, .i32⟩ : BufTy).Contents (Elt F)),
  StableHlo.binary main_v24_3 main_while1b_v113 main_while1b_v114 (subi : (⟨S64, .i32⟩ : BufTy).Contents (Elt F) → (⟨S64, .i32⟩ : BufTy).Contents (Elt F) → (⟨S64, .i32⟩ : BufTy).Contents (Elt F)),
  StableHlo.ternary main_while1b_v112 main_while1b_v114 main_v24_3 main_while1b_v115 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
  StableHlo.unary main_while1b_v111 main_while1b_v116 (noti : (⟨S64, .i1⟩ : BufTy).Contents (Elt F) → (⟨S64, .i1⟩ : BufTy).Contents (Elt F)),
  StableHlo.binary main_while1b_v108 main_while1b_v116 main_while1b_v117 (ori : (⟨S64, .i1⟩ : BufTy).Contents (Elt F) → (⟨S64, .i1⟩ : BufTy).Contents (Elt F) → (⟨S64, .i1⟩ : BufTy).Contents (Elt F)),
  StableHlo.nullary main_while1b_c_38 (constantI S_ 32 1#32),
  StableHlo.unary main_while1b_c_38 main_while1b_v118 (broadcastInDim S64 ![] bcast_S_S64 : (⟨S_, .i32⟩ : BufTy).Contents (Elt F) → (⟨S64, .i32⟩ : BufTy).Contents (Elt F)),
  StableHlo.binary main_v24_4 main_while1b_v118 main_while1b_v119 (subi : (⟨S64, .i32⟩ : BufTy).Contents (Elt F) → (⟨S64, .i32⟩ : BufTy).Contents (Elt F) → (⟨S64, .i32⟩ : BufTy).Contents (Elt F)),
  StableHlo.ternary main_while1b_v117 main_while1b_v119 main_v24_4 main_while1b_v120 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
  StableHlo.unary main_v24_0 main_while1b_v121 (broadcastInDim S1x512x512 ![1, 2] bcast_S512x512_S1x512x512_1_2 : (⟨S512x512, .i32⟩ : BufTy).Contents (Elt F) → (⟨S1x512x512, .i32⟩ : BufTy).Contents (Elt F)),
  StableHlo.unary main_while1b_v115 main_while1b_v122 (broadcastInDim S64x1x1 ![0] bcast_S64_S64x1x1_0 : (⟨S64, .i32⟩ : BufTy).Contents (Elt F) → (⟨S64x1x1, .i32⟩ : BufTy).Contents (Elt F)),
  StableHlo.unary main_while1b_v121 main_while1b_v123 (broadcastInDim S64x512x512 ![0, 1, 2] bcast_S1x512x512_S64x512x512_0_1_2 : (⟨S1x512x512, .i32⟩ : BufTy).Contents (Elt F) → (⟨S64x512x512, .i32⟩ : BufTy).Contents (Elt F)),
  StableHlo.unary main_while1b_v122 main_while1b_v124 (broadcastInDim S64x512x512 ![0, 1, 2] bcast_S64x1x1_S64x512x512_0_1_2 : (⟨S64x1x1, .i32⟩ : BufTy).Contents (Elt F) → (⟨S64x512x512, .i32⟩ : BufTy).Contents (Elt F)),
  StableHlo.binary main_while1b_v123 main_while1b_v124 main_while1b_v125 (cmpi .eq : (⟨S64x512x512, .i32⟩ : BufTy).Contents (Elt F) → (⟨S64x512x512, .i32⟩ : BufTy).Contents (Elt F) → (⟨S64x512x512, .i1⟩ : BufTy).Contents (Elt F)),
  StableHlo.unary main_v24_1 main_while1b_v126 (broadcastInDim S1x512x512 ![1, 2] bcast_S512x512_S1x512x512_1_2 : (⟨S512x512, .i32⟩ : BufTy).Contents (Elt F) → (⟨S1x512x512, .i32⟩ : BufTy).Contents (Elt F)),
  StableHlo.unary main_while1b_v120 main_while1b_v127 (broadcastInDim S64x1x1 ![0] bcast_S64_S64x1x1_0 : (⟨S64, .i32⟩ : BufTy).Contents (Elt F) → (⟨S64x1x1, .i32⟩ : BufTy).Contents (Elt F)),
  StableHlo.unary main_while1b_v126 main_while1b_v128 (broadcastInDim S64x512x512 ![0, 1, 2] bcast_S1x512x512_S64x512x512_0_1_2 : (⟨S1x512x512, .i32⟩ : BufTy).Contents (Elt F) → (⟨S64x512x512, .i32⟩ : BufTy).Contents (Elt F)),
  StableHlo.unary main_while1b_v127 main_while1b_v129 (broadcastInDim S64x512x512 ![0, 1, 2] bcast_S64x1x1_S64x512x512_0_1_2 : (⟨S64x1x1, .i32⟩ : BufTy).Contents (Elt F) → (⟨S64x512x512, .i32⟩ : BufTy).Contents (Elt F)),
  StableHlo.binary main_while1b_v128 main_while1b_v129 main_while1b_v130 (cmpi .eq : (⟨S64x512x512, .i32⟩ : BufTy).Contents (Elt F) → (⟨S64x512x512, .i32⟩ : BufTy).Contents (Elt F) → (⟨S64x512x512, .i1⟩ : BufTy).Contents (Elt F)),
  StableHlo.binary main_while1b_v125 main_while1b_v130 main_while1b_v131 (andi : (⟨S64x512x512, .i1⟩ : BufTy).Contents (Elt F) → (⟨S64x512x512, .i1⟩ : BufTy).Contents (Elt F) → (⟨S64x512x512, .i1⟩ : BufTy).Contents (Elt F)),
  StableHlo.nullary main_while1b_cst_39 (constant S_ .f32 0x3F800000#32),
  StableHlo.unary main_while1b_cst_39 main_while1b_call12_v0 (id : (⟨S_, .f32⟩ : BufTy).Contents (Elt F) → (⟨S_, .f32⟩ : BufTy).Contents (Elt F)),
  StableHlo.unary main_while1b_call12_v0 main_while1b_call12_v1 ((broadcastInDim S512x512 ![] bcast_S_S512x512) : (⟨S_, .f32⟩ : BufTy).Contents (Elt F) → (⟨S512x512, .f32⟩ : BufTy).Contents (Elt F)),
  StableHlo.unary main_while1b_call12_v1 main_while1b_call12_v2 ((broadcastInDim S64x512x512 ![1, 2] bcast_S512x512_S64x512x512_1_2) : (⟨S512x512, .f32⟩ : BufTy).Contents (Elt F) → (⟨S64x512x512, .f32⟩ : BufTy).Contents (Elt F)),
  StableHlo.ternary main_while1b_v131 main_while1b_call12_v2 main_v24_5 main_while1b_v132 (select : (⟨S64x512x512, .i1⟩ : BufTy).Contents (Elt F) → (⟨S64x512x512, .f32⟩ : BufTy).Contents (Elt F) → (⟨S64x512x512, .f32⟩ : BufTy).Contents (Elt F) → (⟨S64x512x512, .f32⟩ : BufTy).Contents (Elt F)),
  StableHlo.nullary main_while1b_c_40 (constantI S_ 32 0#32),
  StableHlo.unary main_while1b_c_40 main_while1b_v133 (broadcastInDim S64 ![] bcast_S_S64 : (⟨S_, .i32⟩ : BufTy).Contents (Elt F) → (⟨S64, .i32⟩ : BufTy).Contents (Elt F)),
  StableHlo.binary main_v24_3 main_while1b_v133 main_while1b_v134 (cmpi .sgt : (⟨S64, .i32⟩ : BufTy).Contents (Elt F) → (⟨S64, .i32⟩ : BufTy).Contents (Elt F) → (⟨S64, .i1⟩ : BufTy).Contents (Elt F)),
  StableHlo.nullary main_while1b_c_41 (constantI S_ 32 0#32),
  StableHlo.unary main_while1b_c_41 main_while1b_v135 (broadcastInDim S64 ![] bcast_S_S64 : (⟨S_, .i32⟩ : BufTy).Contents (Elt F) → (⟨S64, .i32⟩ : BufTy).Contents (Elt F)),
  StableHlo.binary main_v24_4 main_while1b_v135 main_while1b_v136 (cmpi .sgt : (⟨S64, .i32⟩ : BufTy).Contents (Elt F) → (⟨S64, .i32⟩ : BufTy).Contents (Elt F) → (⟨S64, .i1⟩ : BufTy).Contents (Elt F)),
  StableHlo.binary main_while1b_v134 main_while1b_v136 main_while1b_v137 (andi : (⟨S64, .i1⟩ : BufTy).Contents (Elt F) → (⟨S64, .i1⟩ : BufTy).Contents (Elt F) → (⟨S64, .i1⟩ : BufTy).Contents (Elt F)),
  StableHlo.unary main_while1b_v137 main_while1b_v138 (broadcastInDim S64 ![0] bcast_S64_S64_0 : (⟨S64, .i1⟩ : BufTy).Contents (Elt F) → (⟨S64, .i1⟩ : BufTy).Contents (Elt F)),
  StableHlo.ternary main_while1b_v138 main_while1b_v115 main_v24_3 main_while1b_v139 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
  StableHlo.unary main_while1b_v137 main_while1b_v140 (broadcastInDim S64 ![0] bcast_S64_S64_0 : (⟨S64, .i1⟩ : BufTy).Contents (Elt F) → (⟨S64, .i1⟩ : BufTy).Contents (Elt F)),
  StableHlo.ternary main_while1b_v140 main_while1b_v120 main_v24_4 main_while1b_v141 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
  StableHlo.unary main_while1b_v137 main_while1b_v142 (broadcastInDim S64x512x512 ![0] bcast_S64_S64x512x512_0 : (⟨S64, .i1⟩ : BufTy).Contents (Elt F) → (⟨S64x512x512, .i1⟩ : BufTy).Contents (Elt F)),
  StableHlo.ternary main_while1b_v142 main_while1b_v132 main_v24_5 main_while1b_v143 (select : (⟨S64x512x512, .i1⟩ : BufTy).Contents (Elt F) → (⟨S64x512x512, .f32⟩ : BufTy).Contents (Elt F) → (⟨S64x512x512, .f32⟩ : BufTy).Contents (Elt F) → (⟨S64x512x512, .f32⟩ : BufTy).Contents (Elt F)),
  StableHlo.unary main_while1b_v139 main_v24_3 id,
  StableHlo.unary main_while1b_v141 main_v24_4 id,
  StableHlo.unary main_while1b_v143 main_v24_5 id]

end Cert.ReferenceIdeal.Hand

end
-- ==== Proof.RefProg.lean ====
/-
  The reference's program is the chain of its stretches and its two loops; each loop's body is one stretch.
-/
module

public import proofs.«01_k».proof.Proof.RefOps

@[expose] public section

set_option maxRecDepth 16384
set_option maxHeartbeats 4000000

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

theorem body0_chain : main_while0_body (F := F) = Pipeline.chain ([body0Ops (F := F)].map fun ops => (seq ops : Prog _ PUnit)) := by
  show _ = Pipeline.chain [seq body0Ops]
  rewrite [StableHlo.chain_seq_cons, Pipeline.chain_nil]
  chain_rfl

theorem body1_chain : main_while1_body (F := F) = Pipeline.chain ([body1Ops (F := F)].map fun ops => (seq ops : Prog _ PUnit)) := by
  show _ = Pipeline.chain [seq body1Ops]
  rewrite [StableHlo.chain_seq_cons, Pipeline.chain_nil]
  chain_rfl

theorem main_chain (c : Dev nD) : main (F := F) c = Pipeline.chain [seq preOps, HostLoop.enter 0, seq midOps, HostLoop.enter 1, seq postOps] := by
  rewrite [StableHlo.chain_seq_cons, Pipeline.chain_cons, StableHlo.chain_seq_cons, Pipeline.chain_cons, StableHlo.chain_seq_cons, Pipeline.chain_nil]
  chain_rfl

end Cert.ReferenceIdeal.Hand

end
-- ==== Proof.RefRun.lean ====
/-
  The reference's run: a stretch, a counted loop, a stretch, a second loop and a last stretch, one after the other. What
  each condition returns is read off the buffers after the condition's own operations.
-/
module

public import proofs.«01_k».proof.Proof.RefProg
public import Idealize.ShloMosaic.Lib.Pipeline.Quiescent
public import Idealize.ShloMosaic.Lib.Quiescent
public import Idealize.ShloMosaic.Lib.Claim

@[expose] public section

set_option maxRecDepth 16384
set_option maxHeartbeats 4000000

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg sub_ucRefs)
open Cert.ReferenceIdeal Cert.ReferenceIdeal.Gen

variable {F : FTy → Type} [FloatOps F]

/-- What rides beside the buffers: the core owes nothing. -/
abbrev Rw (c : Dev nD) : sProp (MT nD τ sig Unit (Elt F) ℕ (Option PUnit) ℕ) := iprop(∃ W, owes (c : Thread nD τ) (0 : CellTallies nD τ sig Unit) W)

abbrev adm : (p : Fin 0) → ((pcfgs (F := F)) p).Adm := fun p => p.elim0
abbrev tk : Fin 0 → Pipeline.Ticket (Ix := Unit) (Name := ℕ) (U := Option PUnit) (Lvl := ℕ) (nD := nD) (τ := τ) (pcfgs (F := F)) adm := fun j => j.elim0
abbrev Lz : GSem nD τ sig → Finset Unit := fun _ => ∅
abbrev lvz : GSem nD τ sig → Unit → ℕ := fun _ _ => 0

/-- The first condition returns whether the counter is below the bound. -/
theorem loopCond0 (W : Dev nD → Valuation τ sig (Elt F)) (n : ℕ)
    (hv : ∀ k ≤ n, ∀ c : Dev nD, (after cond0Ops (atTrip cond0Ops [body0Ops] W k c) main_while0c_v59 : (⟨S_, .i1⟩ : BufTy).Contents (Elt F)) HostLoop.idx0 = 1#1 ↔ k < n) :
    LoopCond (Ix := Unit) (Name := ℕ) (U := Option PUnit) (Lvl := ℕ) (pcfgs (F := F)) defs₀ Variants.none loops Rw main_while0_cond cond0Ops [body0Ops] W n := fun k hk c bd => by
  have hk' := hv k hk c
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    exact hk'
  isplitl [Hb]; · iexact Hb
  isplitl [Hh]; · iexact Hh
  iexact HR

/-- The second condition returns whether some walk goes on. -/
theorem loopCond1 (W : Dev nD → Valuation τ sig (Elt F)) (n : ℕ)
    (hv : ∀ k ≤ n, ∀ c : Dev nD, (after cond1Ops (atTrip cond1Ops [body1Ops] W k c) main_while1c_v64 : (⟨S_, .i1⟩ : BufTy).Contents (Elt F)) HostLoop.idx0 = 1#1 ↔ k < n) :
    LoopCond (Ix := Unit) (Name := ℕ) (U := Option PUnit) (Lvl := ℕ) (pcfgs (F := F)) defs₀ Variants.none loops Rw main_while1_cond cond1Ops [body1Ops] W n := fun k hk c bd => by
  have hk' := hv k hk c
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) (c : Thread nD τ) bd Set.univ (sub_ucRefs _ (StableHlo.unary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) (c : Thread nD τ) bd Set.univ (sub_ucRefs _ (StableHlo.unary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    exact hk'
  isplitl [Hb]; · iexact Hb
  isplitl [Hh]; · iexact Hh
  iexact HR

variable (m : (ℓ : Loc nD τ sig) → Buf (Elt F) ℓ) (ρ : Dev nD → PrngReg)

/-- The buffers where the first loop is entered. -/
def W0 : Dev nD → Valuation τ sig (Elt F) := fun c => after preOps (launchContents m c)
/-- The buffers where the second loop is entered. -/
def W1 : Dev nD → Valuation τ sig (Elt F) := fun c => after midOps (after cond0Ops (atTrip cond0Ops [body0Ops] (W0 m) 262143 c))
/-- The buffers at the end, the second loop having made `n` trips. -/
def Wend (n : ℕ) : Dev nD → Valuation τ sig (Elt F) := fun c => after postOps (after cond1Ops (atTrip cond1Ops [body1Ops] (W1 m) n c))

theorem plain_pre : Plain [preOps (F := F)] := Plain.cons
  ⟨binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., nullary_bufs_sub .., unary_bufs_sub .., binary_bufs_sub .., nullary_bufs_sub .., nullary_bufs_sub .., unary_bufs_sub .., unary_bufs_sub .., unary_bufs_sub .., unary_bufs_sub ..⟩ Plain.nil

theorem plain_mid : Plain [midOps (F := F)] := Plain.cons
  ⟨nullary_bufs_sub .., nullary_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩ Plain.nil

theorem plain_post : Plain [postOps (F := F)] := Plain.cons
  ⟨nullary_bufs_sub .., unary_bufs_sub .., binary_bufs_sub .., nullary_bufs_sub .., unary_bufs_sub .., binary_bufs_sub .., binary_bufs_sub .., nullary_bufs_sub .., unary_bufs_sub .., unary_bufs_sub .., unary_bufs_sub .., unary_bufs_sub .., ternary_bufs_sub .., binary_bufs_sub .., nullary_bufs_sub .., binary_bufs_sub .., nullary_bufs_sub .., binary_bufs_sub .., unary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., nullary_bufs_sub .., binary_bufs_sub .., unary_bufs_sub .., binary_bufs_sub .., nullary_bufs_sub .., binary_bufs_sub .., nullary_bufs_sub .., binary_bufs_sub .., unary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., nullary_bufs_sub .., binary_bufs_sub .., unary_bufs_sub .., binary_bufs_sub .., binary_bufs_sub ..⟩ Plain.nil

theorem plain_body0 : Plain [body0Ops (F := F)] := Plain.cons
  ⟨nullary_bufs_sub .., binary_bufs_sub .., nullary_bufs_sub .., binary_bufs_sub .., nullary_bufs_sub .., binary_bufs_sub .., nullary_bufs_sub .., unaryIndexed_bufs_sub .., nullary_bufs_sub .., binary_bufs_sub .., nullary_bufs_sub .., binary_bufs_sub .., nullary_bufs_sub .., unaryIndexed_bufs_sub .., nullary_bufs_sub .., binary_bufs_sub .., nullary_bufs_sub .., unaryIndexed_bufs_sub .., nullary_bufs_sub .., binary_bufs_sub .., nullary_bufs_sub .., unaryIndexed_bufs_sub .., nullary_bufs_sub .., binary_bufs_sub .., binary_bufs_sub .., nullary_bufs_sub .., binary_bufs_sub .., binary_bufs_sub .., binary_bufs_sub .., binary_bufs_sub .., binary_bufs_sub .., ternary_bufs_sub .., ternary_bufs_sub .., nullary_bufs_sub .., binaryIndexed_bufs_sub .., nullary_bufs_sub .., binary_bufs_sub .., unary_bufs_sub .., unary_bufs_sub .., unary_bufs_sub ..⟩ Plain.nil

theorem plain_body1 : Plain [body1Ops (F := F)] := Plain.cons
  ⟨nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., unary_bufs_sub .., ternary_bufs_sub .., nullary_bufs_sub .., binary_bufs_sub .., binary_bufs_sub .., binary_bufs_sub .., binary_bufs_sub .., unary_bufs_sub .., binary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., ternary_bufs_sub .., unary_bufs_sub .., ternary_bufs_sub .., unary_bufs_sub .., ternary_bufs_sub .., unary_bufs_sub .., unary_bufs_sub .., unary_bufs_sub ..⟩ Plain.nil

/-- The program's segments. -/
def segsR (n : ℕ)
    (h0 : LoopCond (Ix := Unit) (Name := ℕ) (U := Option PUnit) (Lvl := ℕ) (pcfgs (F := F)) defs₀ Variants.none loops Rw main_while0_cond cond0Ops [body0Ops] (W0 m) 262143)
    (h1 : LoopCond (Ix := Unit) (Name := ℕ) (U := Option PUnit) (Lvl := ℕ) (pcfgs (F := F)) defs₀ Variants.none loops Rw main_while1_cond cond1Ops [body1Ops] (W1 m) n) :
    List (CSeg (pcfgs (F := F)) adm defs₀ Variants.none Lz lvz loops tk) :=
  segsOf _ _ _ _ _ _ _ _ Rw [preOps] plain_pre (launchContents m)
    ++ loopSeg _ _ _ _ _ _ _ _ 0 main_while0_cond main_while0_body rfl cond0Ops [body0Ops] plain_body0 body0_chain 262143 (W0 m) Rw h0
      :: (segsOf _ _ _ _ _ _ _ _ Rw [midOps] plain_mid (fun c => after cond0Ops (atTrip cond0Ops [body0Ops] (W0 m) 262143 c))
    ++ loopSeg _ _ _ _ _ _ _ _ 1 main_while1_cond main_while1_body rfl cond1Ops [body1Ops] plain_body1 body1_chain n (W1 m) Rw h1
      :: segsOf _ _ _ _ _ _ _ _ Rw [postOps] plain_post (fun c => after cond1Ops (atTrip cond1Ops [body1Ops] (W1 m) n c)))

theorem segsR_prog (n : ℕ) (h0) (h1) : (segsR (F := F) m n h0 h1).map CSeg.prog = [seq preOps, HostLoop.enter 0, seq midOps, HostLoop.enter 1, seq postOps] := by
  unfold segsR
  rw [List.map_append, List.map_cons, List.map_append, List.map_cons, segsOf_prog, segsOf_prog, segsOf_prog]
  rfl

theorem segsR_chains (n : ℕ) (h0) (h1) :
    CSeg.Chains (fun c => iprop(held (c : Thread nD τ) (Pipeline.ucRefs τ sig) (launchContents m c) ∗ Rw c)) (segsR (F := F) m n h0 h1)
      (fun c => iprop(iprop(held (c : Thread nD τ) (Pipeline.ucRefs τ sig) (Wend m n c)) ∗ ∃ W, owes (c : Thread nD τ) (0 : CellTallies nD τ sig Unit) W)) := by
  unfold segsR
  exact CSeg.Chains.append (segsOf_chains _ _ _ _ _ _ _ _ Rw [preOps] plain_pre _) ⟨fun _ => .rfl,
    CSeg.Chains.append (segsOf_chains _ _ _ _ _ _ _ _ Rw [midOps] plain_mid _) ⟨fun _ => .rfl, segsOf_chains _ _ _ _ _ _ _ _ Rw [postOps] plain_post _⟩⟩

theorem cellOf_inj : Function.Injective (Pipeline.cellOf (nD := nD) (τ := τ) (Pipeline.pin (pcfgs (F := F)) adm)) := fun k => k.1.elim0

/-- THE RUN: with the first loop's condition true for exactly 262143 trips and the second's for `n`, every buffer of the
    program ends at `Wend` and every counter at zero. -/
theorem run_ref [∀ e, Nonempty (Elt F e)] (n : ℕ)
    (h0 : LoopCond (Ix := Unit) (Name := ℕ) (U := Option PUnit) (Lvl := ℕ) (pcfgs (F := F)) defs₀ Variants.none loops Rw main_while0_cond cond0Ops [body0Ops] (W0 m) 262143)
    (h1 : LoopCond (Ix := Unit) (Name := ℕ) (U := Option PUnit) (Lvl := ℕ) (pcfgs (F := F)) defs₀ Variants.none loops Rw main_while1_cond cond1Ops [body1Ops] (W1 m) n) :
    θ_run defs (onTc (τ := τ) (main (F := F))) ⟨m, fun _ => 0, ρ⟩ (fun r => (∀ (c : Dev nD) (b : Ref sig .tc), (Proc.devRef .tc b : DevRef τ sig).isScoped = false →
        r.2.mem ((c.tc : Thread nD τ).loc b) = Wend m n c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    (pcfgs (F := F)) adm cellOf_inj defs₀ Variants.none Lz lvz loops tk m ρ main (segsR m n h0 h1)
    (fun c Q => by
      rw [main_chain c]
      show wp _ _ _ (Pipeline.chain ((segsR m n h0 h1).map CSeg.prog)) Q ⊢ _
      rw [segsR_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (Pipeline.ucRefs τ sig) (launchContents m c) ∗ Rw c))
    (Tₙ := fun c => iprop(held (c : Thread nD τ) (Pipeline.ucRefs τ sig) (Wend m n c)))
    (hch := segsR_chains m n h0 h1)
    (hinit := by
      refine Pipeline.initEach Lz lvz fun c => ?_
      rw [show unscopedBufs c (fun b => m ((c : Thread nD τ).loc b)) = held (c : Thread nD τ) (Pipeline.ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Wend m n c b)
    (hfin := fun c s' => by
      unfold held
      iintro ⟨Hh, HSI⟩
      ihave Hr := (pointsTo_read_all (Pipeline.ucRefs τ sig) (fun b => ((c : Dev nD), b)) (fun b => Wend m n c b) s') $$ [Hh HSI]
      · isplitl [Hh] <;> iassumption
      icases Hr with ⟨%h, HSI⟩
      imodintro
      isplitr; · ipureintro; exact h
      iexact HSI)
    (hQ := fun s h => ⟨fun c b hb => h c _ (devRef_mem_ucRefs b hb), sem_eq_zero_of_no_sems rfl s⟩)

end Cert.ReferenceIdeal.Hand

end
-- ==== Proof.RefCell.lean ====
/-
  What one trip of the reference's first loop leaves: the counters one further, and one cell of the table written.
-/
module

public import proofs.«01_k».proof.Proof.RefOps
public import Idealize.ShloMosaic.Lib.StableHlo.RunRead

@[expose] public section

set_option maxRecDepth 16384
set_option maxHeartbeats 4000000

noncomputable section

namespace Cert.ReferenceIdeal.Hand

open Idealize.ShloMosaic Idealize.ShloMosaic.TcCoe Idealize.ShloMosaic.StableHlo
open Cert.ReferenceIdeal Cert.ReferenceIdeal.Gen

variable {F : FTy → Type} [FloatOps F]

/-- A scalar of the program. -/
abbrev SI := (⟨S_, .i32⟩ : BufTy).Contents (Elt F)
/-- A table of every sample. -/
abbrev TabT (F : FTy → Type) := (⟨S64x512x512, .f32⟩ : BufTy).Contents (Elt F)
/-- One cell of every sample. -/
abbrev CellT (F : FTy → Type) := (⟨S64x1x1, .f32⟩ : BufTy).Contents (Elt F)

/-- The cell `(a, b)` of every sample. -/
def cellAt (x : TabT F) (a b : (⟨S_, .i32⟩ : BufTy).Contents (Elt F)) : CellT F :=
  Host.dynamicSlice S64x1x1 x (fun k => ((![constantI S_ 32 0#32, a, b] : Fin 3 → (⟨S_, .i32⟩ : BufTy).Contents (Elt F)) k (Shape.Idx.first h_S_)).toInt) sliceFits_S64x512x512_S64x1x1

/-- The table with the cell `(a, b)` of every sample replaced. -/
def cellPut (x : TabT F) (u : CellT F) (a b : (⟨S_, .i32⟩ : BufTy).Contents (Elt F)) : TabT F :=
  Host.dynamicUpdateSlice x u (fun k => ((![constantI S_ 32 0#32, a, b] : Fin 3 → (⟨S_, .i32⟩ : BufTy).Contents (Elt F)) k (Shape.Idx.first h_S_)).toInt) updateFits_S64x512x512_S64x1x1

/-- The new value of the cell `(a, b)`, from the cost `c` and the table `t`. -/
def cellNew (c t : TabT F) (a b : (⟨S_, .i32⟩ : BufTy).Contents (Elt F)) : CellT F :=
  select (broadcastInDim S64x1x1 ![] bcast_S_S64x1x1 (cmpi .eq a (constantI S_ 32 0#32)))
    (addf (cellAt t a (subi b (constantI S_ 32 1#32))) (cellAt c a b))
    (select (broadcastInDim S64x1x1 ![] bcast_S_S64x1x1 (cmpi .eq b (constantI S_ 32 0#32)))
      (addf (cellAt t (subi a (constantI S_ 32 1#32)) b) (cellAt c a b))
      (addf (cellAt c a b) (minimumf (minimumf (cellAt t (subi a (constantI S_ 32 1#32)) (subi b (constantI S_ 32 1#32)))
        (cellAt t (subi a (constantI S_ 32 1#32)) b)) (cellAt t a (subi b (constantI S_ 32 1#32))))))

variable (X : Valuation τ sig (Elt F))

theorem body0_ctr : after body0Ops X main_v11_1 = addi (X main_v11_1) (constantI S_ 32 1#32) := by
  after_reads_simp [unaryIndexed_result_read, binaryIndexed_result_read, indexContents_cons, indexContents_empty]
  rfl
theorem body0_k : after body0Ops X main_v11_2 = addi (X main_v11_2) (constantI S_ 32 1#32) := by
  after_reads_simp [unaryIndexed_result_read, binaryIndexed_result_read, indexContents_cons, indexContents_empty]
  rfl
theorem body0_cost : after body0Ops X main_v11_0 = X main_v11_0 := by
  after_reads_simp [unaryIndexed_result_read, binaryIndexed_result_read, indexContents_cons, indexContents_empty]
theorem body0_tab : after body0Ops X main_v11_3 = cellPut (X main_v11_3)
    (cellNew (X main_v11_0) (X main_v11_3) (Host.divsi (X main_v11_2) (constantI S_ 32 512#32)) (Host.remsi (X main_v11_2) (constantI S_ 32 512#32)))
    (Host.divsi (X main_v11_2) (constantI S_ 32 512#32)) (Host.remsi (X main_v11_2) (constantI S_ 32 512#32)) := by
  after_reads_simp [unaryIndexed_result_read, binaryIndexed_result_read, indexContents_cons, indexContents_empty]
  rfl

end Cert.ReferenceIdeal.Hand

end
-- ==== Proof.RefWalk.lean ====
/-
  What one trip of the reference's second loop leaves: every sample that is not at an edge goes one cell back, by the three
  neighbours in the table, and marks the cell it comes to.
-/
module

public import proofs.«01_k».proof.Proof.RefOps
public import proofs.«01_k».proof.Proof.RefCell

@[expose] public section

set_option maxRecDepth 16384
set_option maxHeartbeats 4000000

noncomputable section

namespace Cert.ReferenceIdeal.Hand

open Idealize.ShloMosaic Idealize.ShloMosaic.TcCoe Idealize.ShloMosaic.StableHlo
open Cert.ReferenceIdeal Cert.ReferenceIdeal.Gen

variable {F : FTy → Type} [FloatOps F]

/-- A number for every sample. -/
abbrev PosT (F : FTy → Type) := (⟨S64, .i32⟩ : BufTy).Contents (Elt F)
/-- A truth value for every sample. -/
abbrev BitT (F : FTy → Type) := (⟨S64, .i1⟩ : BufTy).Contents (Elt F)
/-- The rows', or columns', numbers. -/
abbrev GridT (F : FTy → Type) := (⟨S512x512, .i32⟩ : BufTy).Contents (Elt F)

/-- One, for every sample. -/
def onesT : PosT F := broadcastInDim S64 ![] bcast_S_S64 ((constantI S_ 32 1#32 : (⟨S_, .i32⟩ : BufTy).Contents (Elt F)))

/-- Where the cell is `(a, b)`. -/
def hitT (rows cols : GridT F) (a b : PosT F) : (⟨S64x512x512, .i1⟩ : BufTy).Contents (Elt F) :=
  andi
    (cmpi .eq (broadcastInDim S64x512x512 ![0, 1, 2] bcast_S1x512x512_S64x512x512_0_1_2 (broadcastInDim S1x512x512 ![1, 2] bcast_S512x512_S1x512x512_1_2 rows))
      (broadcastInDim S64x512x512 ![0, 1, 2] bcast_S64x1x1_S64x512x512_0_1_2 (broadcastInDim S64x1x1 ![0] bcast_S64_S64x1x1_0 a)))
    (cmpi .eq (broadcastInDim S64x512x512 ![0, 1, 2] bcast_S1x512x512_S64x512x512_0_1_2 (broadcastInDim S1x512x512 ![1, 2] bcast_S512x512_S1x512x512_1_2 cols))
      (broadcastInDim S64x512x512 ![0, 1, 2] bcast_S64x1x1_S64x512x512_0_1_2 (broadcastInDim S64x1x1 ![0] bcast_S64_S64x1x1_0 b)))

/-- A number in every cell. -/
def fillT (v : BitVec 32) : TabT F :=
  broadcastInDim S64x512x512 ![1, 2] bcast_S512x512_S64x512x512_1_2 (broadcastInDim S512x512 ![] bcast_S_S512x512 ((constant S_ .f32 v : (⟨S_, .f32⟩ : BufTy).Contents (Elt F))))

/-- The table's value in the cell `(a, b)`, summed out of the table. -/
def pickT (rows cols : GridT F) (t : TabT F) (a b : PosT F) : (⟨S64, .f32⟩ : BufTy).Contents (Elt F) :=
  Host.reduceAdd (select (hitT (F := F) rows cols a b) t (fillT 0x00000000#32)) (constant S_ .f32 0x00000000#32) reducesTo_S64x512x512_S64_d1_2 h_S_

/-- Whether the diagonal neighbour is the least, of the three. -/
def diagT (rows cols : GridT F) (t : TabT F) (i j : PosT F) : BitT F :=
  andi (cmpf .ole (pickT rows cols t (subi i (onesT (F := F))) (subi j (onesT (F := F)))) (pickT rows cols t (subi i (onesT (F := F))) j))
    (cmpf .ole (pickT rows cols t (subi i (onesT (F := F))) (subi j (onesT (F := F)))) (pickT rows cols t i (subi j (onesT (F := F)))))
/-- Whether, the diagonal not being the least, the upper neighbour is at most the left one. -/
def upT (rows cols : GridT F) (t : TabT F) (i j : PosT F) : BitT F :=
  andi (noti (diagT rows cols t i j)) (cmpf .ole (pickT rows cols t (subi i (onesT (F := F))) j) (pickT rows cols t i (subi j (onesT (F := F)))))
/-- The row after a step. -/
def rowT (rows cols : GridT F) (t : TabT F) (i j : PosT F) : PosT F :=
  select (ori (diagT rows cols t i j) (upT rows cols t i j)) (subi i (onesT (F := F))) i
/-- The column after a step. -/
def colT (rows cols : GridT F) (t : TabT F) (i j : PosT F) : PosT F :=
  select (ori (diagT rows cols t i j) (noti (upT rows cols t i j))) (subi j (onesT (F := F))) j

/-- Whether a sample's walk goes on. -/
def goT (i j : PosT F) : BitT F :=
  andi (cmpi .sgt i (broadcastInDim S64 ![] bcast_S_S64 ((constantI S_ 32 0#32 : (⟨S_, .i32⟩ : BufTy).Contents (Elt F)))))
    (cmpi .sgt j (broadcastInDim S64 ![] bcast_S_S64 ((constantI S_ 32 0#32 : (⟨S_, .i32⟩ : BufTy).Contents (Elt F)))))

variable (X : Valuation τ sig (Elt F))

theorem body1_row : after body1Ops X main_v24_3 = select (broadcastInDim S64 ![0] bcast_S64_S64_0 (goT (F := F) (X main_v24_3) (X main_v24_4)))
    (rowT (X main_v24_0) (X main_v24_1) (X main_v24_2) (X main_v24_3) (X main_v24_4)) (X main_v24_3) := by
  after_reads_simp
  rfl
theorem body1_col : after body1Ops X main_v24_4 = select (broadcastInDim S64 ![0] bcast_S64_S64_0 (goT (F := F) (X main_v24_3) (X main_v24_4)))
    (colT (X main_v24_0) (X main_v24_1) (X main_v24_2) (X main_v24_3) (X main_v24_4)) (X main_v24_4) := by
  after_reads_simp
  rfl
theorem body1_path : after body1Ops X main_v24_5 = select (broadcastInDim S64x512x512 ![0] bcast_S64_S64x512x512_0 (goT (F := F) (X main_v24_3) (X main_v24_4)))
    (select (hitT (F := F) (X main_v24_0) (X main_v24_1)
        (rowT (X main_v24_0) (X main_v24_1) (X main_v24_2) (X main_v24_3) (X main_v24_4))
        (colT (X main_v24_0) (X main_v24_1) (X main_v24_2) (X main_v24_3) (X main_v24_4)))
      (fillT 0x3F800000#32) (X main_v24_5)) (X main_v24_5) := by
  after_reads_simp
  rfl
theorem body1_rows : after body1Ops X main_v24_0 = X main_v24_0 := by after_reads_simp
theorem body1_cols : after body1Ops X main_v24_1 = X main_v24_1 := by after_reads_simp
theorem body1_tab : after body1Ops X main_v24_2 = X main_v24_2 := by after_reads_simp

theorem cond1_pred : after cond1Ops X main_while1c_v64
    = Host.reduce IntOp.ori (goT (F := F) (X main_v24_3) (X main_v24_4)) (constantI S_ 1 0#1) reducesTo_S64_S_d0 h_S_ := by
  after_reads_simp
  rfl
theorem cond0_pred : after cond0Ops X main_while0c_v59 = cmpi .slt (X main_v11_1) (constantI S_ 32 262143#32) := by
  after_reads_simp

end Cert.ReferenceIdeal.Hand

end
-- ==== Proof.RefEnds.lean ====
/-
  What the reference's three straight stretches leave, as functions of what they find: the cost table, where the walks
  start, and the result from the cost table and the marked cells.
-/
module

public import proofs.«01_k».proof.Proof.RefWalk

@[expose] public section

set_option maxRecDepth 16384
set_option maxHeartbeats 4000000

noncomputable section

namespace Cert.ReferenceIdeal.Hand

open Idealize.ShloMosaic Idealize.ShloMosaic.TcCoe Idealize.ShloMosaic.StableHlo
open Cert.ReferenceIdeal Cert.ReferenceIdeal.Gen

variable {F : FTy → Type} [FloatOps F]

/-- An argument. -/
abbrev ArgT (F : FTy → Type) := (⟨S64x512x256, .f32⟩ : BufTy).Contents (Elt F)
/-- A row of values for every sample. -/
abbrev LineT (F : FTy → Type) := (⟨S64x512, .f32⟩ : BufTy).Contents (Elt F)
/-- A value for every sample. -/
abbrev OneT (F : FTy → Type) := (⟨S64, .f32⟩ : BufTy).Contents (Elt F)

/-- A scalar constant. -/
def scT (v : BitVec 32) : (⟨S_, .f32⟩ : BufTy).Contents (Elt F) := constant S_ .f32 v

/-- The rows of an argument, each divided by its Euclidean norm. -/
def normT (x : ArgT F) : ArgT F :=
  Host.divf x (broadcastInDim S64x512x256 ![0, 1, 2] bcast_S64x512x1_S64x512x256_0_1_2
    (maximumf (broadcastInDim S64x512x1 ![] bcast_S_S64x512x1 (scT (F := F) 0x322BCC77#32))
      (Host.sqrt (broadcastInDim S64x512x1 ![0, 1] bcast_S64x512_S64x512x1_0_1
        (Host.reduceAdd (mulf x x) (scT (F := F) 0x00000000#32) reducesTo_S64x512x256_S64x512_d2 h_S_)))))

/-- The cost table. -/
def costT (x y : ArgT F) : TabT F :=
  subf (broadcastInDim S64x512x512 ![] bcast_S_S64x512x512 (scT (F := F) 0x3F800000#32))
    (Host.dotGeneral dot_S64x512x256_S64x512x256_S64x512x512_2_2_1_1_0_0 none (normT x) (normT y))

/-- The logarithm of the sum of the exponentials of a row. -/
def lseT (a : LineT F) : OneT F :=
  let m : OneT F := Host.reduce FloatOps.maximumf a (scT (F := F) 0xFF800000#32) reducesTo_S64x512_S64_d1 h_S_
  let m' : OneT F := select (cmpf .olt (Host.absf m) (broadcastInDim S64 ![] bcast_S_S64 (scT (F := F) 0x7F800000#32))) m (broadcastInDim S64 ![] bcast_S_S64 (scT (F := F) 0x00000000#32))
  addf (Host.log (Host.reduceAdd (Host.exp (subf a (broadcastInDim S64x512 ![0, 1] bcast_S64x1_S64x512_0_1 (broadcastInDim S64x1 ![0] bcast_S64_S64x1_0 m'))))
    (scT (F := F) 0x00000000#32) reducesTo_S64x512_S64_d1 h_S_)) m'

/-- Which cell of a grid is `(v, v)`. -/
def cornerT (rows cols : GridT F) (v : BitVec 32) : (⟨S512x512, .i1⟩ : BufTy).Contents (Elt F) :=
  andi (cmpi .eq rows (broadcastInDim S512x512 ![] bcast_S_S512x512 (constantI S_ 32 v : (⟨S_, .i32⟩ : BufTy).Contents (Elt F))))
    (cmpi .eq cols (broadcastInDim S512x512 ![] bcast_S_S512x512 (constantI S_ 32 v : (⟨S_, .i32⟩ : BufTy).Contents (Elt F))))

/-- The marks before the walks: the last cell. -/
def path0T : TabT F := broadcastInDim S64x512x512 ![1, 2] bcast_S512x512_S64x512x512_1_2
  (select (cornerT (F := F) (iotaInDim S512x512 32 0) (iotaInDim S512x512 32 1) 511#32)
    (broadcastInDim S512x512 ![] bcast_S_S512x512 (scT (F := F) 0x3F800000#32)) (broadcastInDim S512x512 ![] bcast_S_S512x512 (scT (F := F) 0x00000000#32)))

/-- The marks with the first cell added. -/
def pathEndT (rows cols : GridT F) (p : TabT F) : TabT F :=
  select (broadcastInDim S64x512x512 ![1, 2] bcast_S512x512_S64x512x512_1_2 (cornerT (F := F) rows cols 0#32)) (fillT 0x3F800000#32) p

/-- The result, from the cost and the marks. -/
def resT (rows cols : GridT F) (c p : TabT F) : OneT F :=
  subf (lseT (Host.reduceAdd (mulf c (pathEndT rows cols p)) (scT (F := F) 0x00000000#32) reducesTo_S64x512x512_S64x512_d1 h_S_))
    (lseT (Host.reduceAdd c (scT (F := F) 0x00000000#32) reducesTo_S64x512x512_S64x512_d1 h_S_))

variable (X : Valuation τ sig (Elt F))

theorem pre_cost : after preOps X main_v11_0 = costT (X main_arg0) (X main_arg1) := by after_reads_simp; rfl
theorem pre_tab : after preOps X main_v11_3 = costT (X main_arg0) (X main_arg1) := by after_reads_simp; rfl
theorem pre_v10 : after preOps X main_v10 = costT (X main_arg0) (X main_arg1) := by after_reads_simp; rfl
theorem pre_ctr : after preOps X main_v11_1 = constantI S_ 32 0#32 := by after_reads_simp; rfl
theorem pre_k : after preOps X main_v11_2 = constantI S_ 32 1#32 := by after_reads_simp; rfl
theorem pre_arg0 : after preOps X main_arg0 = X main_arg0 := by after_reads_simp
theorem pre_arg1 : after preOps X main_arg1 = X main_arg1 := by after_reads_simp

theorem mid_rows : after midOps X main_v24_0 = iotaInDim S512x512 32 0 := by after_reads_simp; rfl
theorem mid_cols : after midOps X main_v24_1 = iotaInDim S512x512 32 1 := by after_reads_simp; rfl
theorem mid_v12 : after midOps X main_v12 = iotaInDim S512x512 32 0 := by after_reads_simp
theorem mid_v13 : after midOps X main_v13 = iotaInDim S512x512 32 1 := by after_reads_simp
theorem mid_tab : after midOps X main_v24_2 = X main_v11_3 := by after_reads_simp; rfl
theorem mid_row : after midOps X main_v24_3 = broadcastInDim S64 ![] bcast_S_S64 (constantI S_ 32 511#32 : (⟨S_, .i32⟩ : BufTy).Contents (Elt F)) := by after_reads_simp; rfl
theorem mid_col : after midOps X main_v24_4 = broadcastInDim S64 ![] bcast_S_S64 (constantI S_ 32 511#32 : (⟨S_, .i32⟩ : BufTy).Contents (Elt F)) := by after_reads_simp; rfl
theorem mid_path : after midOps X main_v24_5 = path0T := by after_reads_simp; rfl
theorem mid_v10 : after midOps X main_v10 = X main_v10 := by after_reads_simp
theorem mid_arg0 : after midOps X main_arg0 = X main_arg0 := by after_reads_simp
theorem mid_arg1 : after midOps X main_arg1 = X main_arg1 := by after_reads_simp

theorem post_res : after postOps X main_v58 = resT (X main_v12) (X main_v13) (X main_v10) (X main_v24_5) := by after_reads_simp; rfl
theorem post_arg0 : after postOps X main_arg0 = X main_arg0 := by after_reads_simp
theorem post_arg1 : after postOps X main_arg1 = X main_arg1 := by after_reads_simp

theorem cond0_cost : after cond0Ops X main_v11_0 = X main_v11_0 := by after_reads_simp
theorem cond0_ctr : after cond0Ops X main_v11_1 = X main_v11_1 := by after_reads_simp
theorem cond0_k : after cond0Ops X main_v11_2 = X main_v11_2 := by after_reads_simp
theorem cond0_tab : after cond0Ops X main_v11_3 = X main_v11_3 := by after_reads_simp
theorem cond0_v10 : after cond0Ops X main_v10 = X main_v10 := by after_reads_simp
theorem cond0_arg0 : after cond0Ops X main_arg0 = X main_arg0 := by after_reads_simp
theorem cond0_arg1 : after cond0Ops X main_arg1 = X main_arg1 := by after_reads_simp

theorem body0_v10 : after body0Ops X main_v10 = X main_v10 := by after_reads_simp
theorem body0_arg0 : after body0Ops X main_arg0 = X main_arg0 := by after_reads_simp
theorem body0_arg1 : after body0Ops X main_arg1 = X main_arg1 := by after_reads_simp

theorem cond1_rows : after cond1Ops X main_v24_0 = X main_v24_0 := by after_reads_simp
theorem cond1_cols : after cond1Ops X main_v24_1 = X main_v24_1 := by after_reads_simp
theorem cond1_tab : after cond1Ops X main_v24_2 = X main_v24_2 := by after_reads_simp
theorem cond1_row : after cond1Ops X main_v24_3 = X main_v24_3 := by after_reads_simp
theorem cond1_col : after cond1Ops X main_v24_4 = X main_v24_4 := by after_reads_simp
theorem cond1_path : after cond1Ops X main_v24_5 = X main_v24_5 := by after_reads_simp
theorem cond1_v10 : after cond1Ops X main_v10 = X main_v10 := by after_reads_simp
theorem cond1_v12 : after cond1Ops X main_v12 = X main_v12 := by after_reads_simp
theorem cond1_v13 : after cond1Ops X main_v13 = X main_v13 := by after_reads_simp
theorem cond1_arg0 : after cond1Ops X main_arg0 = X main_arg0 := by after_reads_simp
theorem cond1_arg1 : after cond1Ops X main_arg1 = X main_arg1 := by after_reads_simp

theorem body1_v10 : after body1Ops X main_v10 = X main_v10 := by after_reads_simp
theorem body1_v12 : after body1Ops X main_v12 = X main_v12 := by after_reads_simp
theorem body1_v13 : after body1Ops X main_v13 = X main_v13 := by after_reads_simp
theorem body1_arg0 : after body1Ops X main_arg0 = X main_arg0 := by after_reads_simp
theorem body1_arg1 : after body1Ops X main_arg1 = X main_arg1 := by after_reads_simp

end Cert.ReferenceIdeal.Hand

end
-- ==== Proof.RefState.lean ====
/-
  What the reference's buffers hold at the top of every trip of its two loops.
-/
module

public import proofs.«01_k».proof.Proof.RefRun
public import proofs.«01_k».proof.Proof.RefEnds
public import proofs.«01_k».proof.Proof.Words

@[expose] public section

set_option maxRecDepth 16384
set_option maxHeartbeats 4000000

noncomputable section

namespace Cert.ReferenceIdeal.Hand

open Idealize.ShloMosaic Idealize.ShloMosaic.TcCoe Idealize.ShloMosaic.StableHlo
open Cert.ReferenceIdeal Cert.ReferenceIdeal.Gen Cert.Proof

variable {F : FTy → Type} [FloatOps F]

/-- A number as a scalar of the program. -/
def numT (k : ℕ) : (⟨S_, .i32⟩ : BufTy).Contents (Elt F) := constantI S_ 32 (BitVec.ofNat 32 k)

theorem numT_succ (k : ℕ) (hk : k < 262144) : addi (numT (F := F) k) (constantI S_ 32 1#32) = numT (F := F) (k + 1) := by
  funext i
  exact addi_ofNat (show k + 1 < 2 ^ 31 by omega)

/-- The table with the cell of row-major number `k` written. -/
def tabPut (c t : TabT F) (k : ℕ) : TabT F :=
  cellPut t (cellNew c t (Host.divsi (numT (F := F) k) (constantI S_ 32 512#32)) (Host.remsi (numT (F := F) k) (constantI S_ 32 512#32)))
    (Host.divsi (numT (F := F) k) (constantI S_ 32 512#32)) (Host.remsi (numT (F := F) k) (constantI S_ 32 512#32))

/-- The table after `n` trips, from the cost table. -/
def tabAt (c : TabT F) : ℕ → TabT F
  | 0 => c
  | n + 1 => tabPut c (tabAt c n) (n + 1)

/-- The first loop's buffers at the top of trip `n`. -/
structure At0 (c : TabT F) (x y : ArgT F) (n : ℕ) (V : Valuation τ sig (Elt F)) : Prop where
  ctr : V main_v11_1 = numT (F := F) n
  k : V main_v11_2 = numT (F := F) (n + 1)
  cost : V main_v11_0 = c
  tab : V main_v11_3 = tabAt c n
  v10 : V main_v10 = c
  arg0 : V main_arg0 = x
  arg1 : V main_arg1 = y

theorem At0.cond {c : TabT F} {x y : ArgT F} {n : ℕ} {V : Valuation τ sig (Elt F)} (h : At0 c x y n V) : At0 c x y n (after cond0Ops V) :=
  ⟨(cond0_ctr V).trans h.ctr, (cond0_k V).trans h.k, (cond0_cost V).trans h.cost, (cond0_tab V).trans h.tab, (cond0_v10 V).trans h.v10,
    (cond0_arg0 V).trans h.arg0, (cond0_arg1 V).trans h.arg1⟩

theorem At0.body {c : TabT F} {x y : ArgT F} {n : ℕ} {V : Valuation τ sig (Elt F)} (hn : n < 262143) (h : At0 c x y n V) :
    At0 c x y (n + 1) (after body0Ops V) where
  ctr := by rw [body0_ctr, h.ctr]; exact numT_succ n (by omega)
  k := by rw [body0_k, h.k]; exact numT_succ (n + 1) (by omega)
  cost := (body0_cost V).trans h.cost
  tab := by rw [body0_tab, h.k, h.tab, h.cost]; rfl
  v10 := (body0_v10 V).trans h.v10
  arg0 := (body0_arg0 V).trans h.arg0
  arg1 := (body0_arg1 V).trans h.arg1

variable (m : (ℓ : Loc nD τ sig) → Buf (Elt F) ℓ)

/-- The arguments as launched on a device. -/
def xs (c : Dev nD) : ArgT F := launchContents m c main_arg0
def ys (c : Dev nD) : ArgT F := launchContents m c main_arg1
/-- The cost table of a device. -/
def cs (c : Dev nD) : TabT F := costT (xs m c) (ys m c)

theorem at0 (c : Dev nD) (n : ℕ) (hn : n ≤ 262143) : At0 (cs m c) (xs m c) (ys m c) n (atTrip cond0Ops [body0Ops] (W0 m) n c) := by
  induction n with
  | zero => exact ⟨pre_ctr _, pre_k _, pre_cost _, pre_tab _, pre_v10 _, pre_arg0 _, pre_arg1 _⟩
  | succ n ih => exact (ih (by omega)).cond.body (by omega)

/-- The first loop makes 262143 trips. -/
theorem cond0_trip (n : ℕ) (hn : n ≤ 262143) (c : Dev nD) :
    (after cond0Ops (atTrip cond0Ops [body0Ops] (W0 m) n c) main_while0c_v59 : (⟨S_, .i1⟩ : BufTy).Contents (Elt F)) HostLoop.idx0 = 1#1 ↔ n < 262143 := by
  rw [cond0_pred, (at0 m c n hn).ctr]
  show Scalar.cmpi .slt (BitVec.ofNat 32 n) (BitVec.ofNat 32 262143) = 1#1 ↔ _
  have e : (Scalar.cmpi .slt (BitVec.ofNat 32 n) (BitVec.ofNat 32 262143)) = BitVec.ofBool (decide (n < 262143)) := by
    show BitVec.ofBool (BitVec.slt _ _) = _
    congr 1
    unfold BitVec.slt
    rw [toInt_ofNat_small (by omega), toInt_ofNat_small (by omega)]
    exact decide_eq_decide.mpr (by omega)
  rw [e]
  by_cases h : n < 262143
  · rw [decide_eq_true h]; exact ⟨fun _ => h, fun _ => rfl⟩
  · rw [decide_eq_false h]; exact ⟨fun h' => absurd h' (by decide), fun h' => absurd h' h⟩

/-- Where the samples' walks stand, and the cells they have marked, after `n` trips over the table `t`. -/
structure WalkT (F : FTy → Type) where
  row : PosT F
  col : PosT F
  path : TabT F

/-- The rows' and the columns' numbers. -/
def rowsT : GridT F := iotaInDim S512x512 32 0
def colsT : GridT F := iotaInDim S512x512 32 1

/-- One trip. -/
def WalkT.next (t : TabT F) (s : WalkT F) : WalkT F where
  row := select (broadcastInDim S64 ![0] bcast_S64_S64_0 (goT (F := F) s.row s.col)) (rowT (rowsT (F := F)) (colsT (F := F)) t s.row s.col) s.row
  col := select (broadcastInDim S64 ![0] bcast_S64_S64_0 (goT (F := F) s.row s.col)) (colT (rowsT (F := F)) (colsT (F := F)) t s.row s.col) s.col
  path := select (broadcastInDim S64x512x512 ![0] bcast_S64_S64x512x512_0 (goT (F := F) s.row s.col))
    (select (hitT (F := F) (rowsT (F := F)) (colsT (F := F)) (rowT (rowsT (F := F)) (colsT (F := F)) t s.row s.col) (colT (rowsT (F := F)) (colsT (F := F)) t s.row s.col))
      (fillT 0x3F800000#32) s.path) s.path

/-- The walks after `n` trips. -/
def walkT (t : TabT F) : ℕ → WalkT F
  | 0 => ⟨broadcastInDim S64 ![] bcast_S_S64 (constantI S_ 32 511#32 : (⟨S_, .i32⟩ : BufTy).Contents (Elt F)),
      broadcastInDim S64 ![] bcast_S_S64 (constantI S_ 32 511#32 : (⟨S_, .i32⟩ : BufTy).Contents (Elt F)), path0T⟩
  | n + 1 => (walkT t n).next t

/-- The second loop's buffers at the top of trip `n`. -/
structure At1 (c t : TabT F) (x y : ArgT F) (n : ℕ) (V : Valuation τ sig (Elt F)) : Prop where
  rows : V main_v24_0 = rowsT (F := F)
  cols : V main_v24_1 = colsT (F := F)
  tab : V main_v24_2 = t
  row : V main_v24_3 = (walkT t n).row
  col : V main_v24_4 = (walkT t n).col
  path : V main_v24_5 = (walkT t n).path
  v10 : V main_v10 = c
  v12 : V main_v12 = rowsT (F := F)
  v13 : V main_v13 = colsT (F := F)
  arg0 : V main_arg0 = x
  arg1 : V main_arg1 = y

theorem At1.cond {c t : TabT F} {x y : ArgT F} {n : ℕ} {V : Valuation τ sig (Elt F)} (h : At1 c t x y n V) : At1 c t x y n (after cond1Ops V) :=
  ⟨(cond1_rows V).trans h.rows, (cond1_cols V).trans h.cols, (cond1_tab V).trans h.tab, (cond1_row V).trans h.row, (cond1_col V).trans h.col,
    (cond1_path V).trans h.path, (cond1_v10 V).trans h.v10, (cond1_v12 V).trans h.v12, (cond1_v13 V).trans h.v13, (cond1_arg0 V).trans h.arg0,
    (cond1_arg1 V).trans h.arg1⟩

theorem At1.body {c t : TabT F} {x y : ArgT F} {n : ℕ} {V : Valuation τ sig (Elt F)} (h : At1 c t x y n V) :
    At1 c t x y (n + 1) (after body1Ops V) where
  rows := (body1_rows V).trans h.rows
  cols := (body1_cols V).trans h.cols
  tab := (body1_tab V).trans h.tab
  row := by rw [body1_row, h.rows, h.cols, h.tab, h.row, h.col]; rfl
  col := by rw [body1_col, h.rows, h.cols, h.tab, h.row, h.col]; rfl
  path := by rw [body1_path, h.rows, h.cols, h.tab, h.row, h.col, h.path]; rfl
  v10 := (body1_v10 V).trans h.v10
  v12 := (body1_v12 V).trans h.v12
  v13 := (body1_v13 V).trans h.v13
  arg0 := (body1_arg0 V).trans h.arg0
  arg1 := (body1_arg1 V).trans h.arg1

/-- The whole table of a device. -/
def ts (c : Dev nD) : TabT F := tabAt (cs m c) 262143

theorem at1 (c : Dev nD) (n : ℕ) : At1 (cs m c) (ts m c) (xs m c) (ys m c) n (atTrip cond1Ops [body1Ops] (W1 m) n c) := by
  induction n with
  | zero =>
    have h := (at0 m c 262143 le_rfl).cond
    exact ⟨mid_rows _, mid_cols _, (mid_tab _).trans h.tab, mid_row _, mid_col _, mid_path _, (mid_v10 _).trans h.v10, mid_v12 _, mid_v13 _,
      (mid_arg0 _).trans h.arg0, (mid_arg1 _).trans h.arg1⟩
  | succ n ih => exact ih.cond.body

/-- Whether any sample's walk goes on after `n` trips, as the second loop asks. -/
theorem cond1_trip (n : ℕ) (c : Dev nD) :
    (after cond1Ops (atTrip cond1Ops [body1Ops] (W1 m) n c) main_while1c_v64 : (⟨S_, .i1⟩ : BufTy).Contents (Elt F)) HostLoop.idx0
      = Host.reduce IntOp.ori (goT (F := F) (walkT (ts m c) n).row (walkT (ts m c) n).col) (constantI S_ 1 0#1) reducesTo_S64_S_d0 h_S_ HostLoop.idx0 := by
  rw [cond1_pred, (at1 m c n).row, (at1 m c n).col]

/-- What the program ends with, after `n` trips of the second loop. -/
theorem end_res (n : ℕ) (c : Dev nD) : Wend m n c main_v58 = resT (rowsT (F := F)) (colsT (F := F)) (cs m c) (walkT (ts m c) n).path := by
  have h := (at1 m c n).cond
  exact (post_res _).trans (by rw [h.v12, h.v13, h.v10, h.path])
theorem end_arg0 (n : ℕ) (c : Dev nD) : Wend m n c main_arg0 = xs m c := (post_arg0 _).trans (at1 m c n).cond.arg0
theorem end_arg1 (n : ℕ) (c : Dev nD) : Wend m n c main_arg1 = ys m c := (post_arg1 _).trans (at1 m c n).cond.arg1

end Cert.ReferenceIdeal.Hand

end
-- ==== Proof.Spec.lean ====
/-
  The dynamic time warping table over the extended reals, the walk back through it and the sums along its columns: what both
  programs compute, said without either.
-/
module

public import proofs.«01_k».proof.Proof.Model
public import Idealize.ShloMosaic.Lib.IdealHost

@[expose] public section

noncomputable section

namespace Cert.Proof

/-- The accumulated cost of the cell `(i, j)`, from the costs `r`. -/
def acc (r : ℕ → ℕ → EReal) : ℕ → ℕ → EReal
  | 0, 0 => r 0 0
  | 0, j + 1 => acc r 0 j + r 0 (j + 1)
  | i + 1, 0 => acc r i 0 + r (i + 1) 0
  | i + 1, j + 1 => r (i + 1) (j + 1) + min (min (acc r i j) (acc r i (j + 1))) (acc r (i + 1) j)

variable (r : ℕ → ℕ → EReal)

theorem ne_bot_add {x y : EReal} (hx : x ≠ ⊥) (hy : y ≠ ⊥) : x + y ≠ ⊥ := fun h => (EReal.add_eq_bot_iff.mp h).elim hx hy

theorem acc_ne_bot (h : ∀ i j, r i j ≠ ⊥) (i j : ℕ) : acc r i j ≠ ⊥ := by
  induction i generalizing j with
  | zero =>
    induction j with
    | zero => rw [acc]; exact h _ _
    | succ j ih => rw [acc]; exact ne_bot_add ih (h _ _)
  | succ i ihi =>
    induction j with
    | zero => rw [acc]; exact ne_bot_add (ihi 0) (h _ _)
    | succ j ih =>
      rw [acc]
      refine ne_bot_add (h _ _) ?_
      rcases min_choice (min (acc r i j) (acc r i (j + 1))) (acc r (i + 1) j) with e | e <;> rw [e]
      · rcases min_choice (acc r i j) (acc r i (j + 1)) with e | e <;> rw [e] <;> exact ihi _
      · exact ih

/-- Whether the diagonal neighbour of `(i, j)` is the least of the three. -/
def isDiag (i j : ℕ) : Prop := acc r (i - 1) (j - 1) ≤ acc r (i - 1) j ∧ acc r (i - 1) (j - 1) ≤ acc r i (j - 1)
/-- Whether the upper neighbour is at most the left one. -/
def isUp (i j : ℕ) : Prop := acc r (i - 1) j ≤ acc r i (j - 1)

open Classical in
/-- One step back from a cell; a cell at an edge stays. -/
def back (p : ℕ × ℕ) : ℕ × ℕ :=
  if 0 < p.1 ∧ 0 < p.2 then
    (if isDiag r p.1 p.2 ∨ isUp r p.1 p.2 then p.1 - 1 else p.1, if isDiag r p.1 p.2 ∨ ¬ isUp r p.1 p.2 then p.2 - 1 else p.2)
  else p

/-- The cell after `n` steps from the last one. -/
def pos : ℕ → ℕ × ℕ
  | 0 => (511, 511)
  | n + 1 => back r (pos n)

/-- Whether the walk goes on from a cell. -/
def going (p : ℕ × ℕ) : Prop := 0 < p.1 ∧ 0 < p.2

theorem back_of_stop {p : ℕ × ℕ} (h : ¬ going p) : back r p = p := by
  unfold going at h
  unfold back; rw [if_neg h]

theorem back_le (p : ℕ × ℕ) : (back r p).1 ≤ p.1 ∧ (back r p).2 ≤ p.2 := by
  unfold back
  split
  · dsimp only
    constructor <;> split <;> omega
  · exact ⟨le_rfl, le_rfl⟩

theorem back_lt {p : ℕ × ℕ} (h : going p) : (back r p).1 + (back r p).2 < p.1 + p.2 := by
  unfold going at h
  unfold back
  rw [if_pos h]
  dsimp only
  by_cases hd : isDiag r p.1 p.2
  · rw [if_pos (Or.inl hd), if_pos (Or.inl hd)]; omega
  · by_cases hu : isUp r p.1 p.2
    · rw [if_pos (Or.inr hu)]
      split <;> omega
    · rw [if_pos (Or.inr hu : isDiag r p.1 p.2 ∨ ¬ isUp r p.1 p.2)]
      split <;> omega

theorem pos_lt (n : ℕ) : (pos r n).1 < 512 ∧ (pos r n).2 < 512 := by
  induction n with
  | zero => exact ⟨by show 511 < 512; omega, by show 511 < 512; omega⟩
  | succ n ih => exact ⟨lt_of_le_of_lt (back_le r _).1 ih.1, lt_of_le_of_lt (back_le r _).2 ih.2⟩

theorem pos_stop {n : ℕ} (h : ¬ going (pos r n)) (k : ℕ) : pos r (n + k) = pos r n := by
  induction k with
  | zero => rfl
  | succ k ih =>
    show back r (pos r (n + k)) = pos r n
    rw [ih]; exact back_of_stop r h

theorem pos_stop_le {n m : ℕ} (h : ¬ going (pos r n)) (hm : n ≤ m) : pos r m = pos r n := by
  obtain ⟨k, rfl⟩ := Nat.exists_eq_add_of_le hm
  exact pos_stop r h k

theorem pos_sum_le {n m : ℕ} (h : n ≤ m) : (pos r m).1 + (pos r m).2 ≤ (pos r n).1 + (pos r n).2 := by
  obtain ⟨k, rfl⟩ := Nat.exists_eq_add_of_le h
  induction k with
  | zero => exact le_rfl
  | succ k ih =>
    have := back_le r (pos r (n + k))
    have := ih (by omega)
    show (back r (pos r (n + k))).1 + (back r (pos r (n + k))).2 ≤ _
    omega

theorem going_sum {n : ℕ} (h : going (pos r n)) : (pos r n).1 + (pos r n).2 + n ≤ 1022 := by
  induction n with
  | zero => show 511 + 511 + 0 ≤ 1022; omega
  | succ n ih =>
    have hn : going (pos r n) := by
      by_contra hs
      exact hs (by rw [show pos r (n + 1) = pos r n from back_of_stop r hs] at h; exact h)
    have := ih hn
    have := back_lt r hn
    show (back r (pos r n)).1 + (back r (pos r n)).2 + (n + 1) ≤ 1022
    omega

/-- Every walk has stopped after 1022 steps. -/
theorem stop_1022 : ¬ going (pos r 1022) := fun h => by
  have := going_sum r h
  unfold going at h
  omega

/-- Whether the walk has come to the cell `(i, j)` within `n` steps. -/
def mark (n i j : ℕ) : Prop := ∃ k, k ≤ n ∧ pos r k = (i, j)

theorem mark_zero (i j : ℕ) : mark r 0 i j ↔ i = 511 ∧ j = 511 := by
  constructor
  · rintro ⟨k, hk, e⟩
    obtain rfl : k = 0 := by omega
    have : ((511, 511) : ℕ × ℕ) = (i, j) := e
    simp only [Prod.mk.injEq] at this
    exact ⟨this.1.symm, this.2.symm⟩
  · rintro ⟨rfl, rfl⟩
    exact ⟨0, le_rfl, rfl⟩

theorem mark_succ (n i j : ℕ) : mark r (n + 1) i j ↔ mark r n i j ∨ pos r (n + 1) = (i, j) := by
  constructor
  · rintro ⟨k, hk, e⟩
    by_cases h : k ≤ n
    · exact Or.inl ⟨k, h, e⟩
    · obtain rfl : k = n + 1 := by omega
      exact Or.inr e
  · rintro (⟨k, hk, e⟩ | e)
    · exact ⟨k, by omega, e⟩
    · exact ⟨n + 1, le_rfl, e⟩

theorem mark_stop {n : ℕ} (h : ¬ going (pos r n)) (i j : ℕ) : mark r (n + 1) i j ↔ mark r n i j := by
  rw [mark_succ]
  constructor
  · rintro (h' | e)
    · exact h'
    · exact ⟨n, le_rfl, by rw [← e]; exact (back_of_stop r h).symm⟩
  · exact Or.inl

theorem not_mark_next {n : ℕ} (h : going (pos r n)) : ¬ mark r n (pos r (n + 1)).1 (pos r (n + 1)).2 := by
  rintro ⟨k, hk, e⟩
  have h1 := pos_sum_le r hk
  have h2 : (pos r (n + 1)).1 + (pos r (n + 1)).2 < (pos r n).1 + (pos r n).2 := back_lt r h
  rw [e] at h1
  dsimp only at h1
  omega

/-- The marks no longer change once the walk has stopped. -/
theorem mark_of_stops {n m : ℕ} (hn : ¬ going (pos r n)) (hm : ¬ going (pos r m)) (i j : ℕ) : mark r n i j ↔ mark r m i j := by
  have key : ∀ {a b : ℕ}, ¬ going (pos r b) → mark r a i j → mark r b i j := by
    rintro a b hb ⟨k, hk, e⟩
    by_cases h : k ≤ b
    · exact ⟨k, h, e⟩
    · exact ⟨b, le_rfl, by rw [← e]; exact (pos_stop_le r hb (by omega)).symm⟩
  exact ⟨key hm, key hn⟩

theorem mark_corner {n : ℕ} : mark r n 0 0 ↔ pos r n = (0, 0) := by
  constructor
  · rintro ⟨k, hk, e⟩
    rw [pos_stop_le r (n := k) (by rw [e]; unfold going; simp) hk, e]
  · intro e; exact ⟨n, le_rfl, e⟩

open Classical in
/-- The sum of the marked costs of column `l`. -/
def colSum (n l : ℕ) : EReal := ∑ i : Fin 512, r i.val l * (if mark r n i.val l then 1 else 0)

open Classical in
theorem colSum_zero (l : ℕ) : colSum r 0 l = if l = 511 then r 511 511 else 0 := by
  unfold colSum
  by_cases hl : l = 511
  · subst hl
    rw [if_pos rfl, Finset.sum_eq_single (⟨511, by omega⟩ : Fin 512)]
    · rw [if_pos ((mark_zero r _ _).mpr ⟨rfl, rfl⟩), mul_one]
    · intro b _ hb
      rw [if_neg, mul_zero]
      rw [mark_zero]
      rintro ⟨h, _⟩
      exact hb (Fin.ext h)
    · intro h; exact absurd (Finset.mem_univ _) h
  · rw [if_neg hl]
    refine Finset.sum_eq_zero fun i _ => ?_
    rw [if_neg, mul_zero]
    rw [mark_zero]
    rintro ⟨_, h⟩
    exact hl h

open Classical in
theorem colSum_succ (n l : ℕ) : colSum r (n + 1) l = colSum r n l
    + (if 0 < (pos r n).1 ∧ 0 < (pos r n).2 ∧ l = (pos r (n + 1)).2 then r (pos r (n + 1)).1 l else 0) := by
  unfold colSum
  by_cases hg : going (pos r n)
  · by_cases hl : l = (pos r (n + 1)).2
    · rw [if_pos ⟨hg.1, hg.2, hl⟩]
      have hlt := (pos_lt r (n + 1)).1
      have e : r (pos r (n + 1)).1 l = ∑ i : Fin 512, if i = ⟨(pos r (n + 1)).1, hlt⟩ then r i.val l else 0 := by
        rw [Finset.sum_ite_eq' Finset.univ (⟨(pos r (n + 1)).1, hlt⟩ : Fin 512) (fun i => r i.val l), if_pos (Finset.mem_univ _)]
      rw [e, ← Finset.sum_add_distrib]
      refine Finset.sum_congr rfl fun i _ => ?_
      by_cases hi : i = ⟨(pos r (n + 1)).1, hlt⟩
      · subst hi
        have hm := not_mark_next r hg
        rw [← hl] at hm
        rw [if_neg hm, if_pos ((mark_succ r _ _ _).mpr (Or.inr (by rw [hl]))), if_pos rfl, mul_one, mul_zero, zero_add]
      · rw [if_neg hi, add_zero]
        have : mark r (n + 1) i.val l ↔ mark r n i.val l := by
          rw [mark_succ]
          refine ⟨fun h => h.resolve_right fun e => hi (Fin.ext ?_), Or.inl⟩
          exact (congrArg Prod.fst e).symm
        simp only [this]
    · rw [if_neg (fun h => hl h.2.2), add_zero]
      refine Finset.sum_congr rfl fun i _ => ?_
      have : mark r (n + 1) i.val l ↔ mark r n i.val l := by
        rw [mark_succ]
        refine ⟨fun h => h.resolve_right fun e => hl ?_, Or.inl⟩
        rw [e]
      simp only [this]
  · rw [if_neg (fun h => hg ⟨h.1, h.2.1⟩), add_zero]
    refine Finset.sum_congr rfl fun i _ => ?_
    simp only [mark_stop r hg]

open Classical in
/-- The sum of column `l` along the whole path, the first cell always on it. -/
def pathSum (n l : ℕ) : EReal := ∑ i : Fin 512, r i.val l * (if i.val = 0 ∧ l = 0 then 1 else if mark r n i.val l then 1 else 0)

open Classical in
theorem pathSum_eq (n l : ℕ) : pathSum r n l = colSum r n l + (if l = 0 ∧ ¬ pos r n = (0, 0) then r 0 0 else 0) := by
  unfold pathSum colSum
  by_cases hl : l = 0 ∧ ¬ pos r n = (0, 0)
  · rw [if_pos hl]
    obtain ⟨rfl, hp⟩ := hl
    have e : r 0 0 = ∑ i : Fin 512, if i = (⟨0, by omega⟩ : Fin 512) then r i.val 0 else 0 := by
      rw [Finset.sum_ite_eq' Finset.univ (⟨0, by omega⟩ : Fin 512) (fun i => r i.val 0), if_pos (Finset.mem_univ _)]
    rw [e, ← Finset.sum_add_distrib]
    refine Finset.sum_congr rfl fun i _ => ?_
    by_cases hi : i = (⟨0, by omega⟩ : Fin 512)
    · subst hi
      rw [if_pos ⟨rfl, rfl⟩, if_neg (fun h => hp ((mark_corner r).mp h)), if_pos rfl, mul_one, mul_zero, zero_add]
    · rw [if_neg (fun h => hi (Fin.ext h.1)), if_neg hi, add_zero]
  · rw [if_neg hl, add_zero]
    refine Finset.sum_congr rfl fun i _ => ?_
    by_cases hi : i.val = 0 ∧ l = 0
    · have hp : pos r n = (0, 0) := by
        by_contra hp; exact hl ⟨hi.2, hp⟩
      rw [if_pos hi, hi.1, hi.2, if_pos ((mark_corner r).mpr hp)]
    · rw [if_neg hi]

open Classical in
theorem pathSum_of_stops {n m : ℕ} (hn : ¬ going (pos r n)) (hm : ¬ going (pos r m)) (l : ℕ) : pathSum r n l = pathSum r m l := by
  unfold pathSum
  simp only [mark_of_stops r hn hm]

end Cert.Proof

end
-- ==== Proof.RefTab.lean ====
/-
  The reference's first loop, cell by cell at the extended reals: after all its trips the table is the accumulated cost.
-/
module

public import proofs.«01_k».proof.Proof.RefState
public import proofs.«01_k».proof.Proof.Spec
public import Idealize.ShloMosaic.Lib.Pointwise.Reduce
public import Idealize.ShloMosaic.Lib.WordCmp
public import Idealize.ShloMosaic.Lib.Pipeline.Value

@[expose] public section

set_option maxRecDepth 16384
set_option maxHeartbeats 4000000

noncomputable section

namespace Cert.ReferenceIdeal.Hand

open Idealize.ShloMosaic Idealize.ShloMosaic.TcCoe Idealize.ShloMosaic.StableHlo
open Cert.ReferenceIdeal Cert.ReferenceIdeal.Gen Cert.Proof

variable {F : FTy → Type} [FloatOps F]

theorem not_corner512 (x : BitVec 32) : ¬ IntOp.SDivCorner x 512#32 := by
  rintro (h | ⟨_, h⟩) <;> exact absurd h (by decide)

theorem hostDiv (k : ℕ) (hk : k < 262144) : Host.divsi (numT (F := F) k) (constantI S_ 32 512#32) = numT (F := F) (k / 512) := by
  funext i
  have h := divsi_ofNat (a := k) (b := 512) (by omega) (by omega) (by omega)
  rw [Scalar.divsi, IntOp.divsi, if_neg (not_corner512 _)] at h
  show IntOp.divsi .host (BitVec.ofNat 32 k) 512#32 = BitVec.ofNat 32 (k / 512)
  rw [IntOp.divsi, if_neg (not_corner512 _)]
  exact h

theorem hostRem (k : ℕ) (hk : k < 262144) : Host.remsi (numT (F := F) k) (constantI S_ 32 512#32) = numT (F := F) (k % 512) := by
  funext i
  have h := remsi_ofNat (a := k) (b := 512) (by omega) (by omega) (by omega)
  rw [Scalar.remsi, IntOp.remsi, if_neg (not_corner512 _)] at h
  show IntOp.remsi .host (BitVec.ofNat 32 k) 512#32 = BitVec.ofNat 32 (k % 512)
  rw [IntOp.remsi, if_neg (not_corner512 _)]
  exact h

theorem numT_pred (k : ℕ) (h0 : 0 < k) (hk : k < 262144) : subi (numT (F := F) k) (constantI S_ 32 1#32) = numT (F := F) (k - 1) := by
  funext i
  exact subi_ofNat (show 1 ≤ k by omega) (by omega)

/-- Where a cell's block starts. -/
def cellOff (a b : ℕ) : Fin 3 → ℕ := ![0, a, b]

theorem cellOff_slices {a b : ℕ} (ha : a < 512) (hb : b < 512) : S64x512x512.Slices (cellOff a b) S64x1x1 :=
  ⟨rfl, fun k => by fin_cases k <;> simp [cellOff, S64x512x512, S64x1x1] <;> omega⟩

theorem cellStart {a b : ℕ} (ha : a < 512) (hb : b < 512) (k : Fin 3) :
    ((![constantI S_ 32 0#32, numT (F := F) a, numT (F := F) b] : Fin 3 → (⟨S_, .i32⟩ : BufTy).Contents (Elt F)) k (Shape.Idx.first h_S_)).toInt = (cellOff a b k : ℤ) := by
  match k with
  | ⟨0, _⟩ => rfl
  | ⟨1, _⟩ => exact toInt_ofNat_small (by omega)
  | ⟨2, _⟩ => exact toInt_ofNat_small (by omega)

theorem cellAt_apply (x : TabT F) {a b : ℕ} (ha : a < 512) (hb : b < 512) (s : Fin 64) :
    cellAt x (numT (F := F) a) (numT (F := F) b) (ix3 s 0 0) = x (ix3 s ⟨a, ha⟩ ⟨b, hb⟩) := by
  unfold cellAt
  rw [WordCmp.dynamicSlice_eq_extract S64x1x1 x _ _ (cellOff a b) (cellOff_slices ha hb) (cellStart ha hb)]
  refine extractStridedSlice_apply _ _ _ _ _ fun k => ?_
  match k with
  | ⟨0, _⟩ => exact (Nat.zero_add _).symm
  | ⟨1, _⟩ => rfl
  | ⟨2, _⟩ => rfl

theorem cellPut_apply (x : TabT F) (u : CellT F) {a b : ℕ} (ha : a < 512) (hb : b < 512) (s : Fin 64) (i j : Fin 512) :
    cellPut x u (numT (F := F) a) (numT (F := F) b) (ix3 s i j) = if i.val = a ∧ j.val = b then u (ix3 s 0 0) else x (ix3 s i j) := by
  unfold cellPut
  rw [WordCmp.dynamicUpdateSlice_eq_update x u _ _ (cellOff a b) (cellOff_slices ha hb) (cellStart ha hb)]
  unfold updateSlice
  by_cases h : i.val = a ∧ j.val = b
  · rw [if_pos h, dif_pos (fun k => by
      match k with
      | ⟨0, _⟩ => exact ⟨Nat.zero_le _, by show s.val < 0 + 64; omega⟩
      | ⟨1, _⟩ => exact ⟨le_of_eq h.1.symm, by show i.val < a + 1; omega⟩
      | ⟨2, _⟩ => exact ⟨le_of_eq h.2.symm, by show j.val < b + 1; omega⟩)]
    refine congrArg u (funext fun k => Fin.ext ?_)
    match k with
    | ⟨0, _⟩ => exact Nat.sub_zero _
    | ⟨1, _⟩ => show i.val - a = 0; omega
    | ⟨2, _⟩ => show j.val - b = 0; omega
  · rw [if_neg h, dif_neg (fun h' => h ⟨?_, ?_⟩)]
    · have h1 := h' ⟨1, by decide⟩
      have h2 : a ≤ i.val ∧ i.val < a + 1 := h1
      omega
    · have h1 := h' ⟨2, by decide⟩
      have h2 : b ≤ j.val ∧ j.val < b + 1 := h1
      omega

theorem numT_eq_zero (k : ℕ) (hk : k < 262144) (j : S64x1x1.Idx) :
    (broadcastInDim S64x1x1 ![] bcast_S_S64x1x1 (cmpi .eq (numT (F := F) k) (constantI S_ 32 0#32)) : IVec S64x1x1 1) j = BitVec.ofBool (decide (k = 0)) :=
  eq_zero_ofNat (show k < 2 ^ 31 by omega)

section Ideal

variable (r : ℕ → ℕ → EReal)

/-- The new value of a cell, its neighbours already written. -/
theorem cellNew_apply (c t : TabT Ideal) {a b : ℕ} (ha : a < 512) (hb : b < 512) (hab : 0 < a ∨ 0 < b) (s : Fin 64)
    (hc : c (ix3 s ⟨a, ha⟩ ⟨b, hb⟩) = r a b)
    (ht : ∀ i j : Fin 512, (512 * i.val + j.val < 512 * a + b) → t (ix3 s i j) = acc r i.val j.val) :
    cellNew c t (numT (F := Ideal) a) (numT (F := Ideal) b) (ix3 s 0 0) = acc r a b := by
  show Scalar.select ((broadcastInDim S64x1x1 ![] bcast_S_S64x1x1 (cmpi .eq (numT (F := Ideal) a) (constantI S_ 32 0#32)) : IVec S64x1x1 1) (ix3 s 0 0))
    (cellAt t (numT (F := Ideal) a) (subi (numT (F := Ideal) b) (constantI S_ 32 1#32)) (ix3 s 0 0) + cellAt c (numT (F := Ideal) a) (numT (F := Ideal) b) (ix3 s 0 0) : EReal)
    (Scalar.select ((broadcastInDim S64x1x1 ![] bcast_S_S64x1x1 (cmpi .eq (numT (F := Ideal) b) (constantI S_ 32 0#32)) : IVec S64x1x1 1) (ix3 s 0 0))
      (cellAt t (subi (numT (F := Ideal) a) (constantI S_ 32 1#32)) (numT (F := Ideal) b) (ix3 s 0 0) + cellAt c (numT (F := Ideal) a) (numT (F := Ideal) b) (ix3 s 0 0) : EReal)
      (cellAt c (numT (F := Ideal) a) (numT (F := Ideal) b) (ix3 s 0 0)
        + min (min (cellAt t (subi (numT (F := Ideal) a) (constantI S_ 32 1#32)) (subi (numT (F := Ideal) b) (constantI S_ 32 1#32)) (ix3 s 0 0))
          (cellAt t (subi (numT (F := Ideal) a) (constantI S_ 32 1#32)) (numT (F := Ideal) b) (ix3 s 0 0)))
          (cellAt t (numT (F := Ideal) a) (subi (numT (F := Ideal) b) (constantI S_ 32 1#32)) (ix3 s 0 0)))) = _
  rw [numT_eq_zero a (by omega), numT_eq_zero b (by omega), cellAt_apply c ha hb, hc]
  rcases Nat.eq_zero_or_pos a with h0 | h0
  · subst h0
    obtain ⟨b', rfl⟩ : ∃ b', b = b' + 1 := ⟨b - 1, by omega⟩
    rw [numT_pred (b' + 1) (by omega) (by omega), Nat.add_sub_cancel, cellAt_apply t ha (by omega : b' < 512), ht _ _ (by dsimp only; omega), acc]
    rfl
  · obtain ⟨a', rfl⟩ : ∃ a', a = a' + 1 := ⟨a - 1, by omega⟩
    rw [numT_pred (a' + 1) (by omega) (by omega), Nat.add_sub_cancel, decide_eq_false (by omega : ¬ a' + 1 = 0)]
    rcases Nat.eq_zero_or_pos b with h1 | h1
    · subst h1
      rw [cellAt_apply t (by omega : a' < 512) hb, ht ⟨a', _⟩ ⟨0, _⟩ (by dsimp only; omega), acc]
      rfl
    · obtain ⟨b', rfl⟩ : ∃ b', b = b' + 1 := ⟨b - 1, by omega⟩
      rw [numT_pred (b' + 1) (by omega) (by omega), Nat.add_sub_cancel, decide_eq_false (by omega : ¬ b' + 1 = 0),
        cellAt_apply t (by omega : a' < 512) hb, cellAt_apply t (by omega : a' < 512) (by omega : b' < 512), cellAt_apply t ha (by omega : b' < 512),
        ht ⟨a', _⟩ ⟨b' + 1, _⟩ (by dsimp only; omega), ht ⟨a', _⟩ ⟨b', _⟩ (by dsimp only; omega), ht ⟨a' + 1, _⟩ ⟨b', _⟩ (by dsimp only; omega), acc]
      rfl

/-- The table after `n` trips: the cells up to number `n` are accumulated. -/
theorem tabAt_apply (c : TabT Ideal) (s : Fin 64) (hc : ∀ i j : Fin 512, c (ix3 s i j) = r i.val j.val) (n : ℕ) (hn : n ≤ 262143) (i j : Fin 512) :
    tabAt c n (ix3 s i j) = if 512 * i.val + j.val ≤ n then acc r i.val j.val else r i.val j.val := by
  induction n generalizing i j with
  | zero =>
    show c (ix3 s i j) = _
    rw [hc]
    by_cases h : 512 * i.val + j.val ≤ 0
    · rw [if_pos h, show i.val = 0 by omega, show j.val = 0 by omega, acc]
    · rw [if_neg h]
  | succ n ih =>
    have hi := i.isLt
    have hj := j.isLt
    have ha : (n + 1) / 512 < 512 := by omega
    have hb : (n + 1) % 512 < 512 := by omega
    show tabPut c (tabAt c n) (n + 1) (ix3 s i j) = _
    unfold tabPut
    rw [hostDiv _ (by omega), hostRem _ (by omega), cellPut_apply _ _ ha hb]
    by_cases h : i.val = (n + 1) / 512 ∧ j.val = (n + 1) % 512
    · rw [if_pos h, if_pos (by omega), cellNew_apply r c (tabAt c n) ha hb (by omega) s (hc _ _) (fun i' j' h' => by
        rw [ih (by omega), if_pos (by omega)]), h.1, h.2]
    · rw [if_neg h, ih (by omega)]
      by_cases h2 : 512 * i.val + j.val ≤ n
      · rw [if_pos h2, if_pos (by omega)]
      · rw [if_neg h2, if_neg (by omega)]

/-- The whole table. -/
theorem tab_apply (c : TabT Ideal) (s : Fin 64) (hc : ∀ i j : Fin 512, c (ix3 s i j) = r i.val j.val) (i j : Fin 512) :
    tabAt c 262143 (ix3 s i j) = acc r i.val j.val := by
  have hi := i.isLt
  have hj := j.isLt
  rw [tabAt_apply r c s hc 262143 le_rfl, if_pos (by omega)]

end Ideal

end Cert.ReferenceIdeal.Hand

end
-- ==== Proof.RefPath.lean ====
/-
  The reference's second loop, sample by sample at the extended reals: every sample's walk is the plain one, and the cells it
  has marked are those the plain walk came to.
-/
module

public import proofs.«01_k».proof.Proof.RefTab
public import Idealize.ShloMosaic.Lib.IdealHost

@[expose] public section

set_option maxRecDepth 16384
set_option maxHeartbeats 4000000

noncomputable section

namespace Cert.ReferenceIdeal.Hand

open Idealize.ShloMosaic Idealize.ShloMosaic.TcCoe Idealize.ShloMosaic.StableHlo
open Cert.ReferenceIdeal Cert.ReferenceIdeal.Gen Cert.Proof

open Classical in
/-- A truth value as a bit. -/
def bitOf (p : Prop) : BitVec 1 := BitVec.ofBool (decide p)

open Classical in
theorem bitOf_true {p : Prop} (h : p) : bitOf p = 1#1 := by unfold bitOf; rw [decide_eq_true h]; rfl
open Classical in
theorem bitOf_false {p : Prop} (h : ¬ p) : bitOf p = 0#1 := by unfold bitOf; rw [decide_eq_false h]; rfl
theorem bitOf_eq_one (p : Prop) : bitOf p = 1#1 ↔ p := by
  by_cases h : p
  · exact ⟨fun _ => h, fun _ => bitOf_true h⟩
  · exact ⟨fun h' => absurd ((bitOf_false h).symm.trans h') (by decide), fun h' => absurd h' h⟩
theorem bitOf_eq {b : Bool} {p : Prop} (h : b = true ↔ p) : BitVec.ofBool b = bitOf p := by
  by_cases hp : p
  · rw [bitOf_true hp, h.mpr hp]; rfl
  · rw [bitOf_false hp, Bool.eq_false_iff.mpr (fun hb => hp (h.mp hb))]; rfl
theorem bitOf_and (p q : Prop) : IntOp.andi (bitOf p) (bitOf q) = bitOf (p ∧ q) := by
  by_cases hp : p
  · by_cases hq : q
    · rw [bitOf_true hp, bitOf_true hq, bitOf_true ⟨hp, hq⟩]; rfl
    · rw [bitOf_true hp, bitOf_false hq, bitOf_false (fun h => hq h.2)]; rfl
  · by_cases hq : q
    · rw [bitOf_false hp, bitOf_true hq, bitOf_false (fun h => hp h.1)]; rfl
    · rw [bitOf_false hp, bitOf_false hq, bitOf_false (fun h => hp h.1)]; rfl
theorem bitOf_or (p q : Prop) : IntOp.ori (bitOf p) (bitOf q) = bitOf (p ∨ q) := by
  by_cases hp : p
  · by_cases hq : q
    · rw [bitOf_true hp, bitOf_true hq, bitOf_true (Or.inl hp)]; rfl
    · rw [bitOf_true hp, bitOf_false hq, bitOf_true (Or.inl hp)]; rfl
  · by_cases hq : q
    · rw [bitOf_false hp, bitOf_true hq, bitOf_true (Or.inr hq)]; rfl
    · rw [bitOf_false hp, bitOf_false hq, bitOf_false (fun h => h.elim hp hq)]; rfl
theorem bitOf_not {s : Shape} (x : IVec s 1) (k : s.Idx) (p : Prop) (h : x k = bitOf p) : noti x k = bitOf (¬ p) := by
  have e : noti x k = ~~~ (x k) := rfl
  rw [e, h]
  by_cases hp : p
  · rw [bitOf_true hp, bitOf_false (not_not.mpr hp)]; rfl
  · rw [bitOf_false hp, bitOf_true hp]; rfl
open Classical in
theorem select_bitOf {α : Type} (p : Prop) (a b : α) : Scalar.select (bitOf p) a b = if p then a else b := by
  by_cases hp : p
  · rw [bitOf_true hp, if_pos hp]; rfl
  · rw [bitOf_false hp, if_neg hp]; rfl

theorem eq_words {a b : ℕ} (ha : a < 2 ^ 31) (hb : b < 2 ^ 31) : IntOp.cmpi .eq (BitVec.ofNat 32 a) (BitVec.ofNat 32 b) = bitOf (a = b) := by
  refine bitOf_eq ?_
  constructor
  · intro h
    have h' : BitVec.ofNat 32 a = BitVec.ofNat 32 b := by simpa using h
    have := congrArg BitVec.toNat h'
    rwa [toNat_ofNat_small ha, toNat_ofNat_small hb] at this
  · rintro rfl
    simp

theorem gt_word {a : ℕ} (ha : a < 2 ^ 31) : IntOp.cmpi .sgt (BitVec.ofNat 32 a) 0#32 = bitOf (0 < a) :=
  (sgt_zero_ofNat ha).trans (bitOf_eq (by simp))

section F

variable {F : FTy → Type} [FloatOps F]

/-- A grid read in a cell of a sample. -/
theorem grid_apply (x : GridT F) (s : Fin 64) (i j : Fin 512) :
    broadcastInDim S64x512x512 ![0, 1, 2] bcast_S1x512x512_S64x512x512_0_1_2 (broadcastInDim S1x512x512 ![1, 2] bcast_S512x512_S1x512x512_1_2 x) (ix3 s i j) = x (ix2 i j) := by
  rw [broadcastInDim_apply _ _ _ _ (ix3 0 i j) (fun a => by fin_cases a <;> rfl),
    broadcastInDim_apply _ _ _ _ (ix2 i j) (fun a => by fin_cases a <;> rfl)]

/-- A number of a sample read in a cell. -/
theorem num_apply (x : PosT F) (s : Fin 64) (i j : Fin 512) :
    broadcastInDim S64x512x512 ![0, 1, 2] bcast_S64x1x1_S64x512x512_0_1_2 (broadcastInDim S64x1x1 ![0] bcast_S64_S64x1x1_0 x) (ix3 s i j) = x (ix1 s) := by
  rw [broadcastInDim_apply _ _ _ _ (ix3 s 0 0) (fun a => by fin_cases a <;> rfl),
    broadcastInDim_apply _ _ _ _ (ix1 s) (fun a => by fin_cases a <;> rfl)]

/-- A bit of a sample read in a cell. -/
theorem bit_apply (x : BitT F) (s : Fin 64) (i j : Fin 512) :
    broadcastInDim S64x512x512 ![0] bcast_S64_S64x512x512_0 x (ix3 s i j) = x (ix1 s) :=
  broadcastInDim_apply _ _ _ _ (ix1 s) (fun a => by fin_cases a; rfl)
theorem bit_apply1 (x : BitT F) (s : Fin 64) : broadcastInDim S64 ![0] bcast_S64_S64_0 x (ix1 s) = x (ix1 s) :=
  broadcastInDim_apply _ _ _ _ (ix1 s) (fun a => by fin_cases a; rfl)

theorem hit_apply (a b : PosT F) (s : Fin 64) (i j : Fin 512) {p q : ℕ} (hp : p < 512) (hq : q < 512)
    (ha : a (ix1 s) = BitVec.ofNat 32 p) (hb : b (ix1 s) = BitVec.ofNat 32 q) :
    hitT (F := F) (rowsT (F := F)) (colsT (F := F)) a b (ix3 s i j) = bitOf (i.val = p ∧ j.val = q) := by
  have hi := i.isLt
  have hj := j.isLt
  show IntOp.andi (IntOp.cmpi .eq (broadcastInDim S64x512x512 ![0, 1, 2] bcast_S1x512x512_S64x512x512_0_1_2 (broadcastInDim S1x512x512 ![1, 2] bcast_S512x512_S1x512x512_1_2 (rowsT (F := F))) (ix3 s i j))
      (broadcastInDim S64x512x512 ![0, 1, 2] bcast_S64x1x1_S64x512x512_0_1_2 (broadcastInDim S64x1x1 ![0] bcast_S64_S64x1x1_0 a) (ix3 s i j)))
    (IntOp.cmpi .eq (broadcastInDim S64x512x512 ![0, 1, 2] bcast_S1x512x512_S64x512x512_0_1_2 (broadcastInDim S1x512x512 ![1, 2] bcast_S512x512_S1x512x512_1_2 (colsT (F := F))) (ix3 s i j))
      (broadcastInDim S64x512x512 ![0, 1, 2] bcast_S64x1x1_S64x512x512_0_1_2 (broadcastInDim S64x1x1 ![0] bcast_S64_S64x1x1_0 b) (ix3 s i j))) = _
  rw [grid_apply (F := F), grid_apply (F := F), num_apply (F := F), num_apply (F := F), ha, hb]
  show IntOp.andi (IntOp.cmpi .eq (BitVec.ofNat 32 i.val) (BitVec.ofNat 32 p)) (IntOp.cmpi .eq (BitVec.ofNat 32 j.val) (BitVec.ofNat 32 q)) = _
  rw [eq_words (by omega) (by omega), eq_words (by omega) (by omega), bitOf_and]

theorem go_apply (i j : PosT F) (s : Fin 64) {p q : ℕ} (hp : p < 512) (hq : q < 512)
    (hi : i (ix1 s) = BitVec.ofNat 32 p) (hj : j (ix1 s) = BitVec.ofNat 32 q) : goT (F := F) i j (ix1 s) = bitOf (0 < p ∧ 0 < q) := by
  show IntOp.andi (IntOp.cmpi .sgt (i (ix1 s)) 0#32) (IntOp.cmpi .sgt (j (ix1 s)) 0#32) = _
  rw [hi, hj, gt_word (by omega), gt_word (by omega), bitOf_and]

theorem pred_apply (i : PosT F) (s : Fin 64) {p : ℕ} (h0 : 0 < p) (hp : p < 512) (hi : i (ix1 s) = BitVec.ofNat 32 p) :
    subi i (onesT (F := F)) (ix1 s) = BitVec.ofNat 32 (p - 1) := by
  show IntOp.subi (i (ix1 s)) 1#32 = _
  rw [hi]
  exact subi_ofNat (show 1 ≤ p by omega) (by omega)

end F

section Ideal

/-- The masked sum picks the table's value. -/
theorem pick_apply (t : TabT Ideal) (a b : PosT Ideal) (s : Fin 64) {p q : ℕ} (hp : p < 512) (hq : q < 512)
    (ha : a (ix1 s) = BitVec.ofNat 32 p) (hb : b (ix1 s) = BitVec.ofNat 32 q) :
    pickT (rowsT (F := Ideal)) (colsT (F := Ideal)) t a b (ix1 s) = t (ix3 s ⟨p, hp⟩ ⟨q, hq⟩) := by
  classical
  show Ideal.hostReduceAdd reducesTo_S64x512x512_S64_d1_2 (select (hitT (F := Ideal) (rowsT (F := Ideal)) (colsT (F := Ideal)) a b) t (fillT (F := Ideal) 0x00000000#32))
    (Ideal.ofBits .f32 0x00000000#32) (ix1 s) = _
  rw [Ideal.hostReduceAdd_r3_a12, Ideal.ofBits_zero_f32, zero_add]
  have e : ∀ i j : Fin 512, select (hitT (F := Ideal) (rowsT (F := Ideal)) (colsT (F := Ideal)) a b) t (fillT (F := Ideal) 0x00000000#32) (ix3 s i j)
      = if i = ⟨p, hp⟩ then (if j = ⟨q, hq⟩ then t (ix3 s i j) else 0) else 0 := fun i j => by
    show Scalar.select (hitT (F := Ideal) (rowsT (F := Ideal)) (colsT (F := Ideal)) a b (ix3 s i j)) (t (ix3 s i j)) (Ideal.ofBits .f32 0x00000000#32) = _
    rw [hit_apply (F := Ideal) a b s i j hp hq ha hb, Ideal.ofBits_zero_f32, select_bitOf]
    by_cases h1 : i = ⟨p, hp⟩
    · rw [if_pos h1]
      by_cases h2 : j = ⟨q, hq⟩
      · rw [if_pos h2, if_pos ⟨congrArg Fin.val h1, congrArg Fin.val h2⟩]
      · rw [if_neg h2, if_neg (fun h => h2 (Fin.ext h.2))]
    · rw [if_neg h1, if_neg (fun h => h1 (Fin.ext h.1))]
  refine (Finset.sum_congr rfl fun i _ => Finset.sum_congr rfl fun j _ => e i j).trans ?_
  rw [Finset.sum_eq_single (⟨p, hp⟩ : Fin 512) (fun i _ hi => by simp [if_neg hi]) (fun h => absurd (Finset.mem_univ _) h)]
  rw [Finset.sum_eq_single (⟨q, hq⟩ : Fin 512) (fun j _ hj => by simp [if_neg hj]) (fun h => absurd (Finset.mem_univ _) h)]
  rw [if_pos rfl, if_pos rfl]

variable (r : ℕ → ℕ → EReal)

section Step

variable (t : TabT Ideal) (i j : PosT Ideal) (s : Fin 64) {p q : ℕ} (hp : p < 512) (hq : q < 512) (h0 : 0 < p ∧ 0 < q)
  (ht : ∀ a b : Fin 512, t (ix3 s a b) = acc r a.val b.val)
  (hi : i (ix1 s) = BitVec.ofNat 32 p) (hj : j (ix1 s) = BitVec.ofNat 32 q)

include hp hq h0 ht hi hj

theorem diag_apply : diagT (rowsT (F := Ideal)) (colsT (F := Ideal)) t i j (ix1 s) = bitOf (isDiag r p q) := by
  have hi' := pred_apply i s h0.1 hp hi
  have hj' := pred_apply j s h0.2 hq hj
  show IntOp.andi (Ideal.cmp .ole (pickT (rowsT (F := Ideal)) (colsT (F := Ideal)) t (subi i (onesT (F := Ideal))) (subi j (onesT (F := Ideal))) (ix1 s))
      (pickT (rowsT (F := Ideal)) (colsT (F := Ideal)) t (subi i (onesT (F := Ideal))) j (ix1 s)))
    (Ideal.cmp .ole (pickT (rowsT (F := Ideal)) (colsT (F := Ideal)) t (subi i (onesT (F := Ideal))) (subi j (onesT (F := Ideal))) (ix1 s))
      (pickT (rowsT (F := Ideal)) (colsT (F := Ideal)) t i (subi j (onesT (F := Ideal))) (ix1 s))) = _
  rw [pick_apply t _ _ s (by omega : p - 1 < 512) (by omega : q - 1 < 512) hi' hj', pick_apply t _ _ s (by omega : p - 1 < 512) hq hi' hj,
    pick_apply t _ _ s hp (by omega : q - 1 < 512) hi hj', ht, ht, ht]
  show IntOp.andi (BitVec.ofBool (decide _)) (BitVec.ofBool (decide _)) = _
  rw [bitOf_eq decide_eq_true_iff, bitOf_eq decide_eq_true_iff, bitOf_and]
  rfl

theorem up_apply : upT (rowsT (F := Ideal)) (colsT (F := Ideal)) t i j (ix1 s) = bitOf (¬ isDiag r p q ∧ isUp r p q) := by
  have hi' := pred_apply i s h0.1 hp hi
  have hj' := pred_apply j s h0.2 hq hj
  show IntOp.andi (noti (diagT (rowsT (F := Ideal)) (colsT (F := Ideal)) t i j) (ix1 s))
    (Ideal.cmp .ole (pickT (rowsT (F := Ideal)) (colsT (F := Ideal)) t (subi i (onesT (F := Ideal))) j (ix1 s))
      (pickT (rowsT (F := Ideal)) (colsT (F := Ideal)) t i (subi j (onesT (F := Ideal))) (ix1 s))) = _
  rw [bitOf_not _ _ _ (diag_apply r t i j s hp hq h0 ht hi hj), pick_apply t _ _ s (by omega : p - 1 < 512) hq hi' hj,
    pick_apply t _ _ s hp (by omega : q - 1 < 512) hi hj', ht, ht]
  show IntOp.andi _ (BitVec.ofBool (decide _)) = _
  rw [bitOf_eq decide_eq_true_iff, bitOf_and]
  rfl

theorem row_apply : rowT (rowsT (F := Ideal)) (colsT (F := Ideal)) t i j (ix1 s) = BitVec.ofNat 32 (back r (p, q)).1 := by
  classical
  have hi' := pred_apply i s h0.1 hp hi
  show Scalar.select (IntOp.ori (diagT (rowsT (F := Ideal)) (colsT (F := Ideal)) t i j (ix1 s)) (upT (rowsT (F := Ideal)) (colsT (F := Ideal)) t i j (ix1 s)))
    (subi i (onesT (F := Ideal)) (ix1 s)) (i (ix1 s)) = _
  rw [diag_apply r t i j s hp hq h0 ht hi hj, up_apply r t i j s hp hq h0 ht hi hj, bitOf_or, hi', hi, select_bitOf]
  unfold back
  rw [if_pos h0]
  dsimp only
  by_cases hd : isDiag r p q
  · rw [if_pos (Or.inl hd), if_pos (Or.inl hd)]
  · by_cases hu : isUp r p q
    · rw [if_pos (Or.inr ⟨hd, hu⟩), if_pos (Or.inr hu)]
    · rw [if_neg (fun h => h.elim hd fun h => hu h.2), if_neg (fun h => h.elim hd hu)]

theorem col_apply : colT (rowsT (F := Ideal)) (colsT (F := Ideal)) t i j (ix1 s) = BitVec.ofNat 32 (back r (p, q)).2 := by
  classical
  have hj' := pred_apply j s h0.2 hq hj
  show Scalar.select (IntOp.ori (diagT (rowsT (F := Ideal)) (colsT (F := Ideal)) t i j (ix1 s)) (noti (upT (rowsT (F := Ideal)) (colsT (F := Ideal)) t i j) (ix1 s)))
    (subi j (onesT (F := Ideal)) (ix1 s)) (j (ix1 s)) = _
  rw [diag_apply r t i j s hp hq h0 ht hi hj, bitOf_not _ _ _ (up_apply r t i j s hp hq h0 ht hi hj), bitOf_or, hj', hj, select_bitOf]
  unfold back
  rw [if_pos h0]
  dsimp only
  by_cases hd : isDiag r p q
  · rw [if_pos (Or.inl hd), if_pos (Or.inl hd)]
  · by_cases hu : isUp r p q
    · rw [if_neg (fun h => h.elim hd fun h => h ⟨hd, hu⟩), if_neg (fun h => h.elim hd fun h => h hu)]
    · rw [if_pos (Or.inr fun h => hu h.2), if_pos (Or.inr hu)]

end Step

theorem ofBits_one : Ideal.ofBits .f32 0x3F800000#32 = (1 : EReal) := Ideal.ofBits_one_f32

/-- The marks before the walk. -/
theorem path0_apply (s : Fin 64) (i j : Fin 512) : (path0T : TabT Ideal) (ix3 s i j) = Scalar.select (bitOf (i.val = 511 ∧ j.val = 511)) (1 : EReal) 0 := by
  unfold path0T
  rw [broadcastInDim_apply _ _ _ _ (ix2 i j) (fun a => by fin_cases a <;> rfl)]
  show Scalar.select (IntOp.andi (IntOp.cmpi .eq (BitVec.ofNat 32 i.val) (BitVec.ofNat 32 511)) (IntOp.cmpi .eq (BitVec.ofNat 32 j.val) (BitVec.ofNat 32 511)))
    (Ideal.ofBits .f32 0x3F800000#32) (Ideal.ofBits .f32 0x00000000#32) = _
  have hi := i.isLt
  have hj := j.isLt
  rw [eq_words (by omega) (by omega), eq_words (by omega) (by omega), bitOf_and, ofBits_one, Ideal.ofBits_zero_f32]

open Classical in
/-- Every sample's walk, and its marks. -/
theorem walk_apply (t : TabT Ideal) (s : Fin 64) (ht : ∀ a b : Fin 512, t (ix3 s a b) = acc r a.val b.val) (n : ℕ) :
    (walkT t n).row (ix1 s) = BitVec.ofNat 32 (pos r n).1 ∧ (walkT t n).col (ix1 s) = BitVec.ofNat 32 (pos r n).2
    ∧ ∀ i j : Fin 512, (walkT t n).path (ix3 s i j) = if mark r n i.val j.val then (1 : EReal) else 0 := by
  induction n with
  | zero =>
    refine ⟨rfl, rfl, fun i j => ?_⟩
    show (path0T : TabT Ideal) (ix3 s i j) = _
    rw [path0_apply, select_bitOf]
    by_cases h : i.val = 511 ∧ j.val = 511
    · rw [if_pos h, if_pos ((mark_zero r _ _).mpr h)]
    · rw [if_neg h, if_neg (fun h' => h ((mark_zero r _ _).mp h'))]
  | succ n ih =>
    obtain ⟨h1, h2, h3⟩ := ih
    have hl := pos_lt r n
    have hg := go_apply (F := Ideal) _ _ s hl.1 hl.2 h1 h2
    have e1 : (walkT t (n + 1)).row (ix1 s) = Scalar.select (broadcastInDim S64 ![0] bcast_S64_S64_0 (goT (F := Ideal) (walkT t n).row (walkT t n).col) (ix1 s))
      (rowT (rowsT (F := Ideal)) (colsT (F := Ideal)) t (walkT t n).row (walkT t n).col (ix1 s)) ((walkT t n).row (ix1 s)) := rfl
    have e2 : (walkT t (n + 1)).col (ix1 s) = Scalar.select (broadcastInDim S64 ![0] bcast_S64_S64_0 (goT (F := Ideal) (walkT t n).row (walkT t n).col) (ix1 s))
      (colT (rowsT (F := Ideal)) (colsT (F := Ideal)) t (walkT t n).row (walkT t n).col (ix1 s)) ((walkT t n).col (ix1 s)) := rfl
    have e3 : ∀ i j : Fin 512, (walkT t (n + 1)).path (ix3 s i j)
      = Scalar.select (broadcastInDim S64x512x512 ![0] bcast_S64_S64x512x512_0 (goT (F := Ideal) (walkT t n).row (walkT t n).col) (ix3 s i j))
        (Scalar.select (hitT (F := Ideal) (rowsT (F := Ideal)) (colsT (F := Ideal)) (rowT (rowsT (F := Ideal)) (colsT (F := Ideal)) t (walkT t n).row (walkT t n).col)
          (colT (rowsT (F := Ideal)) (colsT (F := Ideal)) t (walkT t n).row (walkT t n).col) (ix3 s i j)) (Ideal.ofBits .f32 0x3F800000#32) ((walkT t n).path (ix3 s i j)))
        ((walkT t n).path (ix3 s i j)) := fun _ _ => rfl
    rw [e1, e2, bit_apply1 (F := Ideal), hg, select_bitOf, select_bitOf]
    simp only [e3]
    by_cases hgo : 0 < (pos r n).1 ∧ 0 < (pos r n).2
    · have r1 := row_apply r t _ _ s hl.1 hl.2 hgo ht h1 h2
      have r2 := col_apply r t _ _ s hl.1 hl.2 hgo ht h1 h2
      have hl' := pos_lt r (n + 1)
      rw [if_pos hgo, if_pos hgo, r1, r2]
      refine ⟨rfl, rfl, fun i j => ?_⟩
      rw [bit_apply (F := Ideal), hg, select_bitOf, if_pos hgo, hit_apply (F := Ideal) _ _ s i j hl'.1 hl'.2 r1 r2, select_bitOf, h3, ofBits_one]
      have ms := mark_succ r n i.val j.val
      by_cases hm : mark r n i.val j.val
      · rw [if_pos hm, if_pos (ms.mpr (Or.inl hm)), ite_self]
      · rw [if_neg hm]
        by_cases he : i.val = (pos r (n + 1)).1 ∧ j.val = (pos r (n + 1)).2
        · rw [if_pos he, if_pos (ms.mpr (Or.inr (Prod.ext he.1.symm he.2.symm)))]
        · rw [if_neg he, if_neg (fun h => ?_)]
          have e := (ms.mp h).resolve_left hm
          exact he ⟨(congrArg Prod.fst e).symm, (congrArg Prod.snd e).symm⟩
    · rw [if_neg hgo, if_neg hgo, h1, h2]
      have e : pos r (n + 1) = pos r n := back_of_stop r hgo
      rw [e]
      refine ⟨rfl, rfl, fun i j => ?_⟩
      rw [bit_apply (F := Ideal), hg, select_bitOf, if_neg hgo, h3, if_congr (mark_stop r hgo i.val j.val) rfl rfl]

end Ideal

end Cert.ReferenceIdeal.Hand

end
-- ==== Proof.RefFrame.lean ====
/-
  The reference's run: after as many trips of its second loop as the longest walk has steps, it ends, its arguments as they
  were, its result the one of the cost table and the marked cells.
-/
module

public import proofs.«01_k».proof.Proof.RefPath

@[expose] public section

set_option maxRecDepth 16384
set_option maxHeartbeats 4000000

noncomputable section

namespace Cert.ReferenceIdeal.Hand

open Idealize.ShloMosaic Idealize.ShloMosaic.TcCoe Idealize.ShloMosaic.StableHlo
open Cert.ReferenceIdeal Cert.ReferenceIdeal.Gen Cert.Proof

theorem foldl_ori {α : Type} (g : α → BitVec 1) (l : List α) (b : BitVec 1) :
    l.foldl (fun r n => IntOp.ori r (g n)) b = 1#1 ↔ b = 1#1 ∨ ∃ n ∈ l, g n = 1#1 := by
  have key : ∀ x y : BitVec 1, IntOp.ori x y = 1#1 ↔ x = 1#1 ∨ y = 1#1 := by decide
  induction l generalizing b with
  | nil => simp
  | cons a l ih =>
    refine (ih _).trans ?_
    rw [key]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.mp hn with rfl | hn
        · exact Or.inl (Or.inr h)
        · exact Or.inr ⟨n, hn, h⟩

/-- The second loop's question, over all samples. -/
theorem any_apply (x : IVec S64 1) :
    Host.reduce IntOp.ori x (constantI S_ 1 0#1) reducesTo_S64_S_d0 h_S_ HostLoop.idx0 = 1#1 ↔ ∃ s : Fin 64, x (ix1 s) = 1#1 := by
  unfold Host.reduce
  rw [foldl_ori]
  constructor
  · rintro (h | ⟨n, _, h⟩)
    · exact absurd h (by decide)
    · exact ⟨(S64.rowMajor.symm n) 0, by rw [ix1_eta]; exact h⟩
  · rintro ⟨s, h⟩
    refine Or.inr ⟨S64.rowMajor (ix1 s), List.mem_filter.mpr ⟨List.mem_finRange _, ?_⟩, ?_⟩
    · exact decide_eq_true (funext fun a => a.elim0)
    · rw [Equiv.symm_apply_apply]; exact h

/-- A sample's costs. -/
def costOf (C : TabT Ideal) (s : Fin 64) (i j : ℕ) : EReal := if h : i < 512 ∧ j < 512 then C (ix3 s ⟨i, h.1⟩ ⟨j, h.2⟩) else 0

theorem costOf_apply (C : TabT Ideal) (s : Fin 64) (i j : Fin 512) : C (ix3 s i j) = costOf C s i.val j.val := by
  unfold costOf
  rw [dif_pos ⟨i.isLt, j.isLt⟩]

variable (m : (ℓ : Loc nD τ sig) → Buf (Elt Ideal) ℓ) (ρ : Dev nD → PrngReg)

theorem ts_apply (c : Dev nD) (s : Fin 64) (a b : Fin 512) : ts m c (ix3 s a b) = acc (costOf (cs m c) s) a.val b.val :=
  tab_apply (costOf (cs m c) s) (cs m c) s (costOf_apply (cs m c) s) a b

/-- Whether any walk goes on after `n` steps. -/
def anyGoing (n : ℕ) : Prop := ∃ s : Fin 64, going (pos (costOf (cs m 0) s) n)

theorem cond1_iff (n : ℕ) (c : Dev nD) :
    (after cond1Ops (atTrip cond1Ops [body1Ops] (W1 m) n c) main_while1c_v64 : (⟨S_, .i1⟩ : BufTy).Contents (Elt Ideal)) HostLoop.idx0 = 1#1 ↔ anyGoing m n := by
  obtain rfl : c = 0 := Subsingleton.elim _ _
  rw [cond1_trip, any_apply]
  refine exists_congr fun s => ?_
  obtain ⟨h1, h2, _⟩ := walk_apply (costOf (cs m 0) s) (ts m 0) s (ts_apply m 0 s) n
  have hl := pos_lt (costOf (cs m 0) s) n
  rw [go_apply (F := Ideal) _ _ s hl.1 hl.2 h1 h2, bitOf_eq_one]
  rfl

theorem exists_stop : ∃ n, ¬ anyGoing m n := ⟨1022, fun ⟨s, h⟩ => stop_1022 _ h⟩

open Classical in
/-- How many trips the second loop makes. -/
def trips : ℕ := Nat.find (exists_stop m)

theorem trips_stop (s : Fin 64) : ¬ going (pos (costOf (cs m 0) s) (trips m)) := by
  classical
  exact fun h => Nat.find_spec (exists_stop m) ⟨s, h⟩

theorem anyGoing_iff (n : ℕ) (hn : n ≤ trips m) : anyGoing m n ↔ n < trips m := by
  classical
  constructor
  · intro h
    refine lt_of_le_of_ne hn fun e => ?_
    obtain ⟨s, hs⟩ := h
    rw [e] at hs
    exact trips_stop m s hs
  · intro h
    exact not_not.mp (Nat.find_min (exists_stop m) h)

/-- The reference's run. -/
theorem run_all : θ_run defs (onTc (τ := τ) (main (F := Ideal))) ⟨m, fun _ => 0, ρ⟩ (fun r =>
    (∀ (c : Dev nD) (b : Ref sig .tc), (Proc.devRef .tc b : DevRef τ sig).isScoped = false →
      r.2.mem ((c.tc : Thread nD τ).loc b) = Wend m (trips m) c (Proc.devRef .tc b)) ∧ r.2.sem = fun _ => 0) :=
  run_ref m ρ (trips m) (loopCond0 _ _ fun n hn c => cond0_trip m n hn c)
    (loopCond1 _ _ fun n hn c => (cond1_iff m n c).trans (anyGoing_iff m n hn))

/-- The frame: the arguments end unchanged and every counter at zero. -/
theorem frame_ref : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c main_arg0 rfl).trans (end_arg0 m (trips m) c), (h.1 c main_arg1 rfl).trans (end_arg1 m (trips m) c)⟩, h.2⟩)
    (run_all m ρ)

end Cert.ReferenceIdeal.Hand

end
-- ==== Proof.KSpec.lean ====
/-
  The kernel's diagonal programme, its codes, its walk and its running column sums, at the extended reals, are those of the
  plain table.
-/
module

public import proofs.«01_k».proof.Proof.Spec

@[expose] public section

set_option maxRecDepth 16384

noncomputable section

namespace Cert.Proof

open Idealize.ShloMosaic

theorem inf_eq : (infF : Ideal .f32) = (⊤ : EReal) := by
  show Ideal.ofBits .f32 0x7F800000#32 = ⊤
  simp [Ideal.ofBits, Ideal.ieee]
theorem zeroF_eq : (zeroF : Ideal .f32) = (0 : EReal) := Ideal.ofBits_zero_f32
theorem bits3 : Ideal.ofBits .f32 0x40400000#32 = ((3 : ℝ) : EReal) := by
  simp [Ideal.ofBits, Ideal.ieee, -EReal.coe_mul]; norm_num
theorem bits4 : Ideal.ofBits .f32 0x40800000#32 = ((4 : ℝ) : EReal) := by
  simp [Ideal.ofBits, Ideal.ieee, -EReal.coe_mul]; norm_num
theorem bits7 : Ideal.ofBits .f32 0x40E00000#32 = ((7 : ℝ) : EReal) := by
  simp [Ideal.ofBits, Ideal.ieee, -EReal.coe_mul]; norm_num
theorem bits8 : Ideal.ofBits .f32 0x41000000#32 = ((8 : ℝ) : EReal) := by
  simp [Ideal.ofBits, Ideal.ieee, -EReal.coe_mul]; norm_num

/-- A value from 0 to 2. -/
def Small (x : EReal) : Prop := ∃ a : ℝ, x = (a : EReal) ∧ 0 ≤ a ∧ a ≤ 2

theorem bit3_eq (e : EReal) : bit3 (F := Ideal) e = BitVec.ofBool (decide (((3 : ℝ) : EReal) ≤ e)) := by
  show Ideal.cmp .oge e (Ideal.ofBits .f32 0x40400000#32) = _
  rw [bits3]; rfl
theorem bit7_eq (e : EReal) : bit7 (F := Ideal) e = BitVec.ofBool (decide (((7 : ℝ) : EReal) ≤ e)) := by
  show Ideal.cmp .oge e (Ideal.ofBits .f32 0x40E00000#32) = _
  rw [bits7]; rfl

theorem uncode_eq (e : EReal) : uncode (F := Ideal) e = e - ((4 : ℝ) : EReal) * (((Scalar.extui (bit3 (F := Ideal) e)).toInt : ℝ) : EReal)
    - ((4 : ℝ) : EReal) * (((Scalar.extui (bit7 (F := Ideal) e)).toInt : ℝ) : EReal) := by
  rw [← bits4]; rfl

/-- The code 0. -/
theorem code0 {x : EReal} (h : Small x) : bit3 (F := Ideal) x = 0#1 ∧ bit7 (F := Ideal) x = 0#1 ∧ uncode (F := Ideal) x = x := by
  obtain ⟨a, rfl, h0, h2⟩ := h
  have b3 : bit3 (F := Ideal) ((a : ℝ) : EReal) = 0#1 := by
    rw [bit3_eq, decide_eq_false (by rw [EReal.coe_le_coe_iff]; linarith)]; rfl
  have b7 : bit7 (F := Ideal) ((a : ℝ) : EReal) = 0#1 := by
    rw [bit7_eq, decide_eq_false (by rw [EReal.coe_le_coe_iff]; linarith)]; rfl
  refine ⟨b3, b7, ?_⟩
  rw [uncode_eq, b3, b7, show (Scalar.extui (0#1)).toInt = 0 by decide]
  norm_cast
  simp

/-- The code 4. -/
theorem code4 {x : EReal} (h : Small x) : bit3 (F := Ideal) (x + ((4 : ℝ) : EReal)) = 1#1 ∧ bit7 (F := Ideal) (x + ((4 : ℝ) : EReal)) = 0#1
    ∧ uncode (F := Ideal) (x + ((4 : ℝ) : EReal)) = x := by
  obtain ⟨a, rfl, h0, h2⟩ := h
  rw [← EReal.coe_add]
  have b3 : bit3 (F := Ideal) ((a + 4 : ℝ) : EReal) = 1#1 := by
    rw [bit3_eq, decide_eq_true (by rw [EReal.coe_le_coe_iff]; linarith)]; rfl
  have b7 : bit7 (F := Ideal) ((a + 4 : ℝ) : EReal) = 0#1 := by
    rw [bit7_eq, decide_eq_false (by rw [EReal.coe_le_coe_iff]; linarith)]; rfl
  refine ⟨b3, b7, ?_⟩
  rw [uncode_eq, b3, b7, show (Scalar.extui (0#1)).toInt = 0 by decide, show (Scalar.extui (1#1)).toInt = 1 by decide]
  norm_cast
  simp

/-- The code 8. -/
theorem code8 {x : EReal} (h : Small x) : bit3 (F := Ideal) (x + ((8 : ℝ) : EReal)) = 1#1 ∧ bit7 (F := Ideal) (x + ((8 : ℝ) : EReal)) = 1#1
    ∧ uncode (F := Ideal) (x + ((8 : ℝ) : EReal)) = x := by
  obtain ⟨a, rfl, h0, h2⟩ := h
  rw [← EReal.coe_add]
  have b3 : bit3 (F := Ideal) ((a + 8 : ℝ) : EReal) = 1#1 := by
    rw [bit3_eq, decide_eq_true (by rw [EReal.coe_le_coe_iff]; linarith)]; rfl
  have b7 : bit7 (F := Ideal) ((a + 8 : ℝ) : EReal) = 1#1 := by
    rw [bit7_eq, decide_eq_true (by rw [EReal.coe_le_coe_iff]; linarith)]; rfl
  refine ⟨b3, b7, ?_⟩
  rw [uncode_eq, b3, b7, show (Scalar.extui (1#1)).toInt = 1 by decide]
  norm_cast
  ring_nf

open Classical in
theorem dpCode_eq (w a b c : EReal) : dpCode (F := Ideal) w a b c
    = w + (if a ≤ min b c then 0 else if b ≤ c then ((4 : ℝ) : EReal) else ((8 : ℝ) : EReal)) := by
  show w + Scalar.select (Ideal.cmp .ole a (min b c)) (Ideal.ofBits .f32 0x00000000#32)
    (Scalar.select (IntOp.andi (IntOp.xori (Ideal.cmp .ole a (min b c)) 1#1) (Ideal.cmp .ole b c))
      (Ideal.ofBits .f32 0x40800000#32) (Ideal.ofBits .f32 0x41000000#32)) = _
  rw [Ideal.ofBits_zero_f32, bits4, bits8]
  have e : ∀ x y : EReal, Ideal.cmp .ole x y = BitVec.ofBool (decide (x ≤ y)) := fun _ _ => rfl
  rw [e, e]
  by_cases h1 : a ≤ min b c
  · rw [decide_eq_true h1, if_pos h1]; rfl
  · rw [decide_eq_false h1, if_neg h1]
    by_cases h2 : b ≤ c
    · rw [decide_eq_true h2, if_pos h2]; rfl
    · rw [decide_eq_false h2, if_neg h2]; rfl

theorem corner_if (p : ℕ × ℕ) (l : ℕ) {a b : EReal} (e : a = b) {i1 : Decidable (l = 0 ∧ ¬ (p.1 = 0 ∧ p.2 = 0))} {i2 : Decidable (l = 0 ∧ ¬ p = (0, 0))} :
    (@ite _ (l = 0 ∧ ¬ (p.1 = 0 ∧ p.2 = 0)) i1 a 0) = @ite _ (l = 0 ∧ ¬ p = (0, 0)) i2 b 0 := by
  have e2 : (p.1 = 0 ∧ p.2 = 0) ↔ p = (0, 0) :=
    ⟨fun h => Prod.ext h.1 h.2, fun h => ⟨congrArg Prod.fst h, congrArg Prod.snd h⟩⟩
  by_cases h : l = 0 ∧ ¬ p = (0, 0)
  · rw [if_pos h, if_pos ⟨h.1, fun h' => h.2 (e2.mp h')⟩]
    exact e
  · rw [if_neg h, if_neg (fun h' => h ⟨h'.1, fun h2 => h'.2 (e2.mpr h2)⟩)]

section Table

variable (r : ℕ → ℕ → EReal) (hr : ∀ i j, Small (r i j)) (c : Fin 512 → Fin 512 → Ideal .f32) (hc : ∀ i j : Fin 512, c j i = r i.val j.val)

/-- Diagonal `q` of the table `f`: its cell in row `i`, and `⊤` where there is none. -/
def onDiag (f : ℕ → ℕ → EReal) (q : ℕ) (i : Fin 512) : EReal := if i.val ≤ q ∧ q - i.val < 512 then f i.val (q - i.val) else ⊤

include hr in
theorem r_ne_bot (i j : ℕ) : r i j ≠ ⊥ := by
  obtain ⟨a, h, _⟩ := hr i j
  rw [h]; exact EReal.coe_ne_bot a

include hc in
theorem skewed_eq (q : ℕ) (hq : q ≤ 1022) (i : Fin 512) : skewed c q i = onDiag r q i := by
  have hi := i.isLt
  unfold skewed onDiag
  by_cases h : i.val ≤ q ∧ q - i.val < 512
  · have e : (q + 1024 - i.val) % 1024 = q - i.val := by omega
    rw [if_pos h, dif_pos (by omega), hc]
    show r i.val ((q + 1024 - i.val) % 1024) = _
    rw [e]
  · rw [if_neg h, dif_neg (by omega), inf_eq]

include hc in
theorem skewed_first (i : Fin 512) (h : i.val = 0) : skewed c 0 i = r 0 0 := by
  rw [skewed_eq r c hc 0 (by omega)]
  unfold onDiag
  rw [if_pos (by omega), h]

theorem shiftUp_eq (p : Lane Ideal) (i : Fin 512) : shiftUp p i = if i.val = 0 then (⊤ : EReal) else p ⟨i.val - 1, by omega⟩ := by
  unfold shiftUp; rw [inf_eq]

theorem dpCell_eq (w a b c : EReal) : dpCell (F := Ideal) w a b c = w + min a (min b c) := rfl

/-- The diagonal before diagonal `k`, all `⊤` before the first. -/
def beforeDiag (k : ℕ) (i : Fin 512) : EReal := if k = 0 then ⊤ else onDiag (acc r) (k - 1) i

include hr in
theorem onDiag_ne_bot (q : ℕ) (i : Fin 512) : onDiag (acc r) q i ≠ ⊥ := by
  unfold onDiag
  split
  · exact acc_ne_bot r (r_ne_bot r hr) _ _
  · exact top_ne_bot

/-- The three neighbours of the cell of diagonal `k + 1` in row `i`, as the kernel finds them. -/
def nbD (k : ℕ) (i : Fin 512) : EReal := if i.val = 0 then ⊤ else beforeDiag r k ⟨i.val - 1, by omega⟩
def nbU (k : ℕ) (i : Fin 512) : EReal := if i.val = 0 then ⊤ else onDiag (acc r) k ⟨i.val - 1, by omega⟩
def nbL (k : ℕ) (i : Fin 512) : EReal := onDiag (acc r) k i

theorem nbD_in {k : ℕ} {i : Fin 512} {j : ℕ} (e : i.val + (j + 1) = k + 1) (hj : j + 1 < 512) (hi : 0 < i.val) : nbD r k i = acc r (i.val - 1) j := by
  unfold nbD beforeDiag onDiag
  rw [if_neg (by omega), if_neg (by omega), if_pos (by dsimp only; omega)]
  dsimp only
  rw [show k - 1 - (i.val - 1) = j by omega]
theorem nbD_edge {k : ℕ} {i : Fin 512} (h : i.val = 0 ∨ i.val = k + 1) : nbD r k i = ⊤ := by
  unfold nbD beforeDiag onDiag
  by_cases h0 : i.val = 0
  · rw [if_pos h0]
  · rw [if_neg h0]
    by_cases hk : k = 0
    · rw [if_pos hk]
    · rw [if_neg hk, if_neg (by dsimp only; omega)]
theorem nbU_in {k : ℕ} {i : Fin 512} {j : ℕ} (e : i.val + j = k + 1) (hj : j < 512) (hi : 0 < i.val) : nbU r k i = acc r (i.val - 1) j := by
  unfold nbU onDiag
  rw [if_neg (by omega), if_pos (by dsimp only; omega)]
  dsimp only
  rw [show k - (i.val - 1) = j by omega]
theorem nbU_edge {k : ℕ} {i : Fin 512} (h : i.val = 0) : nbU r k i = ⊤ := by
  unfold nbU
  rw [if_pos h]
theorem nbL_in {k : ℕ} {i : Fin 512} {j : ℕ} (e : i.val + (j + 1) = k + 1) (hj : j + 1 < 512) : nbL r k i = acc r i.val j := by
  unfold nbL onDiag
  rw [if_pos (by omega), show k - i.val = j by omega]
theorem nbL_edge {k : ℕ} {i : Fin 512} (h : i.val = k + 1) : nbL r k i = ⊤ := by
  unfold nbL onDiag
  rw [if_neg (by omega)]

include hr in
/-- One cell of the next diagonal. -/
theorem cell_eq (k : ℕ) (i : Fin 512) :
    onDiag r (k + 1) i + min (nbD r k i) (min (nbU r k i) (nbL r k i)) = onDiag (acc r) (k + 1) i := by
  have hi := i.isLt
  by_cases h : i.val ≤ k + 1 ∧ k + 1 - i.val < 512
  · obtain ⟨j, hj⟩ : ∃ j, j = k + 1 - i.val := ⟨_, rfl⟩
    have hjl : j < 512 := by omega
    have e : i.val + j = k + 1 := by omega
    have e1 : onDiag r (k + 1) i = r i.val j := by unfold onDiag; rw [if_pos h, hj]
    have e2 : onDiag (acc r) (k + 1) i = acc r i.val j := by unfold onDiag; rw [if_pos h, hj]
    rw [e1, e2]
    obtain ⟨iv, hiv⟩ : ∃ iv, iv = i.val := ⟨_, rfl⟩
    rcases Nat.eq_zero_or_pos i.val with hi0 | hi0
    · -- the first row
      obtain ⟨j', rfl⟩ : ∃ j', j = j' + 1 := ⟨j - 1, by omega⟩
      rw [nbD_edge r (Or.inl hi0), nbU_edge r hi0, nbL_in r e hjl, hi0, acc, top_inf_eq, top_inf_eq, add_comm]
    · rcases Nat.eq_zero_or_pos j with hj0 | hj0
      · subst hj0
        obtain ⟨i', hi'⟩ : ∃ i', i.val = i' + 1 := ⟨i.val - 1, by omega⟩
        rw [nbD_edge r (Or.inr (by omega)), nbU_in r e hjl hi0, nbL_edge r (by omega), hi', acc, top_inf_eq, inf_top_eq, add_comm]
        rfl
      · obtain ⟨j', rfl⟩ : ∃ j', j = j' + 1 := ⟨j - 1, by omega⟩
        obtain ⟨i', hi'⟩ : ∃ i', i.val = i' + 1 := ⟨i.val - 1, by omega⟩
        rw [nbD_in r e hjl hi0, nbU_in r e hjl hi0, nbL_in r e hjl, hi', acc, ← min_assoc]
        rfl
  · have e1 : onDiag r (k + 1) i = ⊤ := by unfold onDiag; rw [if_neg h]
    have e2 : onDiag (acc r) (k + 1) i = ⊤ := by unfold onDiag; rw [if_neg h]
    rw [e1, e2]
    refine EReal.top_add_of_ne_bot ?_
    have hD : nbD r k i ≠ ⊥ := by
      unfold nbD beforeDiag
      split
      · exact top_ne_bot
      · split
        · exact top_ne_bot
        · exact onDiag_ne_bot r hr _ _
    have hU : nbU r k i ≠ ⊥ := by
      unfold nbU
      split
      · exact top_ne_bot
      · exact onDiag_ne_bot r hr _ _
    have hL : nbL r k i ≠ ⊥ := onDiag_ne_bot r hr _ _
    rcases min_choice (nbD r k i) (min (nbU r k i) (nbL r k i)) with e | e <;> rw [e]
    · exact hD
    · rcases min_choice (nbU r k i) (nbL r k i) with e | e <;> rw [e]
      · exact hU
      · exact hL

include hr hc in
/-- The kernel's last two diagonals are the plain table's. -/
theorem dpPair_eq (k : ℕ) (hk : k ≤ 1022) :
    (∀ i, (dpPair (skewed c) k).1 i = onDiag (acc r) k i) ∧ ∀ i, (dpPair (skewed c) k).2 i = beforeDiag r k i := by
  induction k with
  | zero =>
    refine ⟨fun i => ?_, fun i => ?_⟩
    · show (if i.val = 0 then skewed c 0 i else infF) = _
      unfold onDiag
      by_cases h : i.val = 0
      · rw [if_pos h, skewed_eq r c hc 0 (by omega), if_pos (by omega)]
        unfold onDiag
        rw [if_pos (by omega), h, acc]
      · rw [if_neg h, if_neg (by omega), inf_eq]
    · show infF = _
      unfold beforeDiag
      rw [if_pos rfl, inf_eq]
  | succ k ih =>
    obtain ⟨ih1, ih2⟩ := ih (by omega)
    refine ⟨fun i => ?_, fun i => ?_⟩
    · show dpCell (skewed c (k + 1) i) (shiftUp (dpPair (skewed c) k).2 i) (shiftUp (dpPair (skewed c) k).1 i) ((dpPair (skewed c) k).1 i) = _
      rw [dpCell_eq, skewed_eq r c hc (k + 1) hk, shiftUp_eq, shiftUp_eq, ih1, ih1, ih2]
      exact cell_eq r hr k i
    · show (dpPair (skewed c) k).1 i = _
      rw [ih1]
      unfold beforeDiag
      rw [if_neg (by omega), Nat.add_sub_cancel]

include hr hc in
theorem coded_succ (k : ℕ) (hk : k + 1 ≤ 1022) (i : Fin 512) :
    coded (skewed c) (k + 1) i = dpCode (F := Ideal) (onDiag r (k + 1) i) (nbD r k i) (nbU r k i) (nbL r k i) := by
  obtain ⟨h1, h2⟩ := dpPair_eq r hr c hc k (by omega)
  show dpCode (skewed c (k + 1) i) (shiftUp (dpPair (skewed c) k).2 i) (shiftUp (dpPair (skewed c) k).1 i) ((dpPair (skewed c) k).1 i) = _
  rw [skewed_eq r c hc (k + 1) hk, shiftUp_eq, shiftUp_eq, h1, h1, h2]
  rfl

include hr hc in
/-- The cost in the coded cell `(i, j)`. -/
theorem uncode_coded (i j : ℕ) (hi : i < 512) (hj : j < 512) : uncode (F := Ideal) (coded (skewed c) (i + j) ⟨i, hi⟩) = r i j := by
  rcases Nat.eq_zero_or_pos (i + j) with h | h
  · obtain rfl : i = 0 := by omega
    obtain rfl : j = 0 := by omega
    show uncode (F := Ideal) (skewed c 0 ⟨0, hi⟩) = _
    rw [skewed_eq r c hc 0 (by omega)]
    unfold onDiag
    rw [if_pos (by dsimp only; omega)]
    exact (code0 (hr 0 0)).2.2
  · obtain ⟨k, hk⟩ : ∃ k, i + j = k + 1 := ⟨i + j - 1, by omega⟩
    rw [hk, coded_succ r hr c hc k (by omega), dpCode_eq]
    have e : onDiag r (k + 1) ⟨i, hi⟩ = r i j := by
      unfold onDiag
      rw [if_pos (by dsimp only; omega)]
      dsimp only
      rw [show k + 1 - i = j by omega]
    rw [e]
    split
    · rw [add_zero]; exact (code0 (hr i j)).2.2
    · split
      · exact (code4 (hr i j)).2.2
      · exact (code8 (hr i j)).2.2

include hr hc in
/-- The two bits of a coded inner cell say where its step goes. -/
theorem bits_coded (i j : ℕ) (hi : i < 512) (hj : j < 512) (hi0 : 0 < i) (hj0 : 0 < j) :
    (bit7 (F := Ideal) (coded (skewed c) (i + j) ⟨i, hi⟩) = 0#1 ↔ isDiag r i j ∨ isUp r i j)
    ∧ ((bit3 (F := Ideal) (coded (skewed c) (i + j) ⟨i, hi⟩) = 0#1 ∨ bit7 (F := Ideal) (coded (skewed c) (i + j) ⟨i, hi⟩) = 1#1) ↔ isDiag r i j ∨ ¬ isUp r i j) := by
  obtain ⟨k, hk⟩ : ∃ k, i + j = k + 1 := ⟨i + j - 1, by omega⟩
  obtain ⟨j', rfl⟩ : ∃ j', j = j' + 1 := ⟨j - 1, by omega⟩
  rw [hk, coded_succ r hr c hc k (by omega), dpCode_eq]
  have e : onDiag r (k + 1) ⟨i, hi⟩ = r i (j' + 1) := by
    unfold onDiag
    rw [if_pos (by dsimp only; omega)]
    dsimp only
    rw [show k + 1 - i = j' + 1 by omega]
  rw [e, nbD_in r (i := ⟨i, hi⟩) hk hj hi0, nbU_in r (i := ⟨i, hi⟩) hk hj hi0, nbL_in r (i := ⟨i, hi⟩) hk hj]
  unfold isDiag isUp
  rw [Nat.add_sub_cancel]
  dsimp only
  by_cases h : acc r (i - 1) j' ≤ acc r (i - 1) (j' + 1) ∧ acc r (i - 1) j' ≤ acc r i j'
  · rw [if_pos (le_min_iff.mpr h), add_zero]
    have := code0 (hr i (j' + 1))
    exact ⟨⟨fun _ => Or.inl h, fun _ => this.2.1⟩, ⟨fun _ => Or.inl h, fun _ => Or.inl this.1⟩⟩
  · rw [if_neg (fun h' => h (le_min_iff.mp h'))]
    by_cases h2 : acc r (i - 1) (j' + 1) ≤ acc r i j'
    · rw [if_pos h2]
      have := code4 (hr i (j' + 1))
      refine ⟨⟨fun _ => Or.inr h2, fun _ => this.2.1⟩, ⟨fun h' => ?_, fun h' => ?_⟩⟩
      · rw [this.1, this.2.1] at h'
        exact absurd h' (by decide)
      · exact absurd (h'.resolve_left h) (not_not.mpr h2)
    · rw [if_neg h2]
      have := code8 (hr i (j' + 1))
      refine ⟨⟨fun h' => ?_, fun h' => ?_⟩, ⟨fun _ => Or.inr h2, fun _ => Or.inr this.2.1⟩⟩
      · rw [this.2.1] at h'
        exact absurd h' (by decide)
      · exact absurd (h'.resolve_left h) h2

/-- A walk's place, its row and column given. -/
theorem walk_mk (X : ℕ → Lane Ideal) {a b a' b' : ℕ} (ha : a = a') (hb : b = b') (hl : a' < 512) :
    (⟨a, b, if a + b = 0 then X 0 0 else X (a + b) ⟨a % 512, Nat.mod_lt _ (by decide)⟩⟩ : Walk Ideal) = ⟨a', b', X (a' + b') ⟨a', hl⟩⟩ := by
  subst ha hb
  congr 1
  by_cases h0 : a + b = 0
  · have e1 : a = 0 := by omega
    have e2 : b = 0 := by omega
    subst e1 e2
    rfl
  · rw [if_neg h0]
    congr 1
    exact Fin.ext (Nat.mod_eq_of_lt hl)

open Classical in
include hr hc in
/-- The kernel's walk is the plain one. -/
theorem walk_eq (n : ℕ) : walkAt (coded (skewed c)) (coded (skewed c) 0 0) (coded (skewed c) 1022 511) n
    = ⟨(pos r n).1, (pos r n).2, coded (skewed c) ((pos r n).1 + (pos r n).2) ⟨(pos r n).1, (pos_lt r n).1⟩⟩ := by
  induction n with
  | zero => rfl
  | succ n ih =>
    show (walkAt (coded (skewed c)) (coded (skewed c) 0 0) (coded (skewed c) 1022 511) n).step _ _ = _
    rw [ih]
    have hl := pos_lt r n
    have key : backI (pos r n).1 (pos r n).2 (bit7 (F := Ideal) (coded (skewed c) ((pos r n).1 + (pos r n).2) ⟨(pos r n).1, (pos_lt r n).1⟩)) = (pos r (n + 1)).1
        ∧ backJ (pos r n).1 (pos r n).2 (bit3 (F := Ideal) (coded (skewed c) ((pos r n).1 + (pos r n).2) ⟨(pos r n).1, (pos_lt r n).1⟩))
          (bit7 (F := Ideal) (coded (skewed c) ((pos r n).1 + (pos r n).2) ⟨(pos r n).1, (pos_lt r n).1⟩)) = (pos r (n + 1)).2 := by
      show _ = (back r (pos r n)).1 ∧ _ = (back r (pos r n)).2
      unfold backI backJ back
      by_cases hg : 0 < (pos r n).1 ∧ 0 < (pos r n).2
      · rw [if_pos hg]
        obtain ⟨b1, b2⟩ := bits_coded r hr c hc (pos r n).1 (pos r n).2 hl.1 hl.2 hg.1 hg.2
        exact ⟨if_congr ⟨fun h => b1.mp h.2.2, fun h => ⟨hg.1, hg.2, b1.mpr h⟩⟩ rfl rfl,
          if_congr ⟨fun h => b2.mp h.2.2, fun h => ⟨hg.1, hg.2, b2.mpr h⟩⟩ rfl rfl⟩
      · rw [if_neg hg, if_neg (fun h => hg ⟨h.1, h.2.1⟩), if_neg (fun h => hg ⟨h.1, h.2.1⟩)]
        exact ⟨rfl, rfl⟩
    exact walk_mk (coded (skewed c)) key.1 key.2 (pos_lt r (n + 1)).1

include hr hc in
theorem rowAt_eq (n : ℕ) (l : Fin 512) :
    rowAt (coded (skewed c)) (coded (skewed c) 0 0) (coded (skewed c) 1022 511) (rowStart (coded (skewed c))) n l = colSum r n l.val := by
  induction n with
  | zero =>
    rw [colSum_zero]
    show (if l.val = 511 then uncode (F := Ideal) (coded (skewed c) 1022 511) else zeroF) = _
    rw [show uncode (F := Ideal) (coded (skewed c) 1022 511) = r 511 511 from uncode_coded r hr c hc 511 511 (by omega) (by omega), zeroF_eq]
  | succ n ih =>
    rw [colSum_succ, ← ih]
    show _ + rowAdd _ _ _ = _
    congr 1
    rw [walk_eq r hr c hc n, walk_eq r hr c hc (n + 1)]
    unfold rowAdd
    dsimp only
    rw [uncode_coded r hr c hc _ _ _ (pos_lt r (n + 1)).2, zeroF_eq]
    by_cases h : 0 < (pos r n).1 ∧ 0 < (pos r n).2 ∧ l.val = (pos r (n + 1)).2
    · rw [if_pos h, if_pos h, h.2.2]
    · rw [if_neg h, if_neg h]

include hr hc in
theorem corner_eq (l : Fin 512) (n : ℕ) :
    (if l.val = 0 ∧ ¬ ((walkAt (coded (skewed c)) (coded (skewed c) 0 0) (coded (skewed c) 1022 511) n).i = 0
      ∧ (walkAt (coded (skewed c)) (coded (skewed c) 0 0) (coded (skewed c) 1022 511) n).j = 0) then coded (skewed c) 0 0 else zeroF)
      = if l.val = 0 ∧ ¬ pos r n = (0, 0) then r 0 0 else 0 := by
  rw [walk_eq r hr c hc n, zeroF_eq]
  exact corner_if (pos r n) l.val (skewed_first r c hc 0 rfl)

include hr hc in
/-- The kernel's last row of column sums. -/
theorem endRow_eq (l : Fin 512) : endRow (coded (skewed c)) l = pathSum r 1022 l.val := by
  rw [pathSum_eq, ← rowAt_eq r hr c hc 1022 l]
  exact congrArg (fun z : EReal => rowAt (coded (skewed c)) (coded (skewed c) 0 0) (coded (skewed c) 1022 511) (rowStart (coded (skewed c))) 1022 l + z)
    (corner_eq r hr c hc l 1022)

end Table

end Cert.Proof

end
-- ==== Proof.Cost.lean ====
/-
  A row divided by its norm, the cost of two such rows, and the logarithm of a sum of exponentials, over the extended reals.
-/
module

public import proofs.«01_k».proof.Proof.KSpec

@[expose] public section

set_option maxRecDepth 16384

noncomputable section

namespace Cert.Proof

open Idealize.ShloMosaic

/-- The least norm divided by. -/
abbrev eps : EReal := Ideal.ofBits .f32 0x322BCC77#32

theorem eps_eq : eps = ((11258999 / 2 ^ 50 : ℝ) : EReal) := by
  simp [Ideal.ofBits, Ideal.ieee, -EReal.coe_mul]; norm_num

theorem eps_pos : ∃ e : ℝ, eps = (e : EReal) ∧ 0 < e := ⟨_, eps_eq, by norm_num⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem sq_nonneg' (x : EReal) : 0 ≤ x * x := by
  induction x with
  | bot => rw [EReal.bot_mul_bot]; exact le_top
  | top => rw [EReal.top_mul_top]; exact le_top
  | coe a => rw [← EReal.coe_mul]; exact EReal.coe_nonneg.mpr (mul_self_nonneg a)

/-- An entry of a row divided by the row's norm. -/
def nrm (x : Fin 256 → EReal) (d : Fin 256) : EReal := Ideal.div (x d) (max (Ideal.sqrt (∑ k, x k * x k)) eps)

theorem sqrt_coe {r : ℝ} (h : 0 ≤ r) : Ideal.sqrt (r : EReal) = (Real.sqrt r : EReal) := if_neg (not_lt.mpr h)

theorem nrm_real (x : Fin 256 → EReal) : ∃ u : Fin 256 → ℝ, (∀ d, nrm x d = (u d : EReal)) ∧ ∑ d, u d * u d ≤ 1 := by
  by_cases h : ∃ k, x k * x k = ⊤
  · obtain ⟨k, hk⟩ := h
    have hs : ∑ k, x k * x k = ⊤ := by
      refine top_le_iff.mp ?_
      rw [← hk]
      exact Finset.single_le_sum (f := fun k => x k * x k) (fun i _ => sq_nonneg' (x i)) (Finset.mem_univ k)
    refine ⟨fun _ => 0, fun d => ?_, by simp⟩
    unfold nrm
    rw [hs]
    show Ideal.div (x d) (max ⊤ eps) = _
    rw [max_eq_left le_top]
    unfold Ideal.div
    rw [if_neg (by simp), EReal.inv_top, mul_zero]
    rfl
  · have hx : ∀ k, ∃ a : ℝ, x k = (a : EReal) := fun k => by
      have hk := fun e => h ⟨k, e⟩
      revert hk
      induction x k with
      | bot => exact fun hk => absurd EReal.bot_mul_bot hk
      | top => exact fun hk => absurd EReal.top_mul_top hk
      | coe a => exact fun _ => ⟨a, rfl⟩
    choose a ha using hx
    obtain ⟨e, he, e0⟩ := eps_pos
    have hs : ∑ k, x k * x k = ((∑ k, a k * a k : ℝ) : EReal) := by
      rw [← coe_sum]
      exact Finset.sum_congr rfl fun k _ => by rw [ha, EReal.coe_mul]
    have n0 : 0 ≤ ∑ k, a k * a k := Finset.sum_nonneg fun k _ => mul_self_nonneg (a k)
    have M0 : 0 < max (Real.sqrt (∑ k, a k * a k)) e := lt_max_of_lt_right e0
    refine ⟨fun d => a d * (max (Real.sqrt (∑ k, a k * a k)) e)⁻¹, fun d => ?_, ?_⟩
    · unfold nrm
      rw [hs, sqrt_coe n0, he, ← EReal.coe_strictMono.monotone.map_max, ha]
      unfold Ideal.div
      rw [if_neg (by rw [← EReal.coe_zero]; exact fun h => M0.ne' (EReal.coe_injective h)), EReal.coe_mul, EReal.coe_inv]
    · generalize hM : max (Real.sqrt (∑ k, a k * a k)) e = M at M0 ⊢
      have h1 : ∑ k, a k * a k ≤ M * M := by
        have h2 : Real.sqrt (∑ k, a k * a k) ≤ M := hM ▸ le_max_left _ _
        calc ∑ k, a k * a k = Real.sqrt (∑ k, a k * a k) * Real.sqrt (∑ k, a k * a k) := (Real.mul_self_sqrt n0).symm
          _ ≤ M * M := mul_self_le_mul_self (Real.sqrt_nonneg _) h2
      have h3 : ∑ d, a d * M⁻¹ * (a d * M⁻¹) = (∑ d, a d * a d) * (M * M)⁻¹ := by
        rw [Finset.sum_mul]
        exact Finset.sum_congr rfl fun d _ => by rw [mul_inv]; ring
      show ∑ d, a d * M⁻¹ * (a d * M⁻¹) ≤ 1
      rw [h3, ← div_eq_mul_inv]
      exact (div_le_one (mul_pos M0 M0)).mpr h1

/-- The cost of two rows: one less the inner product of the rows divided by their norms. -/
def costV (x y : Fin 256 → EReal) : EReal := 1 - ∑ d, nrm x d * nrm y d

theorem costV_small (x y : Fin 256 → EReal) : Small (costV x y) := by
  obtain ⟨u, hu, u1⟩ := nrm_real x
  obtain ⟨v, hv, v1⟩ := nrm_real y
  have e : costV x y = ((1 - ∑ d, u d * v d : ℝ) : EReal) := by
    unfold costV
    rw [EReal.coe_sub, EReal.coe_one, ← coe_sum]
    congr 1
    exact Finset.sum_congr rfl fun d _ => by rw [hu, hv, EReal.coe_mul]
  have h1 : ∑ d, u d * v d ≤ 1 := by
    have : ∑ d, u d * v d ≤ ∑ d, (u d * u d / 2 + v d * v d / 2) :=
      Finset.sum_le_sum fun d _ => by nlinarith [mul_self_nonneg (u d - v d)]
    rw [Finset.sum_add_distrib, ← Finset.sum_div, ← Finset.sum_div] at this
    linarith
  have h2 : -1 ≤ ∑ d, u d * v d := by
    have : ∑ d, (-(u d * u d / 2) + -(v d * v d / 2)) ≤ ∑ d, u d * v d :=
      Finset.sum_le_sum fun d _ => by nlinarith [mul_self_nonneg (u d + v d)]
    rw [Finset.sum_add_distrib, Finset.sum_neg_distrib, Finset.sum_neg_distrib, ← Finset.sum_div, ← Finset.sum_div] at this
    linarith
  exact ⟨_, e, by linarith, by linarith⟩

/-- The greatest of 512 values. -/
def maxV (R : Fin 512 → EReal) : EReal := Finset.univ.sup R

/-- The logarithm of the sum of the exponentials of 512 values, the greatest taken out. -/
def lseV (R : Fin 512 → EReal) : EReal := maxV R + Ideal.log (∑ l, Ideal.exp (R l - maxV R))

/-- A real value. -/
def IsReal (x : EReal) : Prop := ∃ a : ℝ, x = (a : EReal)

theorem isReal_sum {ι : Type*} (s : Finset ι) (f : ι → EReal) (h : ∀ i, IsReal (f i)) : IsReal (∑ i ∈ s, f i) := by
  choose a ha using h
  exact ⟨∑ i ∈ s, a i, by rw [← coe_sum]; exact Finset.sum_congr rfl fun i _ => ha i⟩

theorem Small.isReal {x : EReal} (h : Small x) : IsReal x := ⟨h.choose, h.choose_spec.1⟩

theorem maxV_real (R : Fin 512 → EReal) (h : ∀ l, IsReal (R l)) : IsReal (maxV R) := by
  obtain ⟨l, _, hl⟩ := Finset.exists_mem_eq_sup Finset.univ ⟨0, Finset.mem_univ _⟩ R
  obtain ⟨a, ha⟩ := h l
  exact ⟨a, hl.trans ha⟩

theorem fold_max {ι : Type*} (s : Finset ι) (f : ι → EReal) : s.fold max ⊥ f = s.sup f := rfl

theorem sup_pair (f : Fin 1 × Fin 512 → EReal) (R : Fin 512 → EReal) (h : ∀ l, f (0, l) = R l) : Finset.univ.sup f = maxV R := by
  refine le_antisymm (Finset.sup_le fun k _ => ?_) (Finset.sup_le fun l _ => ?_)
  · obtain ⟨u, l⟩ := k
    obtain rfl : u = 0 := Subsingleton.elim _ _
    exact (le_of_eq (h l)).trans (Finset.le_sup (f := R) (Finset.mem_univ l))
  · exact (le_of_eq (h l).symm).trans (Finset.le_sup (f := f) (Finset.mem_univ (0, l)))

theorem negInf_eq : Ideal.ofBits .f32 0xFF800000#32 = (⊥ : EReal) := by simp [Ideal.ofBits, Ideal.ieee]

/-- The absolute value of a real value is below the top. -/
theorem abs_lt_top {x : EReal} (h : IsReal x) : max x (-x) < ⊤ := by
  obtain ⟨a, rfl⟩ := h
  exact max_lt (EReal.coe_lt_top a) (by rw [← EReal.coe_neg]; exact EReal.coe_lt_top _)

theorem pathSum_real (r : ℕ → ℕ → EReal) (hr : ∀ i j, Small (r i j)) (n l : ℕ) : IsReal (pathSum r n l) := by
  refine isReal_sum _ _ fun i => ?_
  obtain ⟨a, ha, _⟩ := hr i.val l
  have h1 : IsReal (r i.val l * 1) := ⟨a, by rw [mul_one, ha]⟩
  have h0 : IsReal (r i.val l * 0) := ⟨0, by rw [mul_zero]; rfl⟩
  split_ifs
  · exact h1
  · exact h1
  · exact h0

/-- The costs of two sequences of rows, 0 outside the table. -/
def tableOf (x y : Fin 512 → Fin 256 → EReal) (i j : ℕ) : EReal :=
  if h : i < 512 ∧ j < 512 then costV (x ⟨i, h.1⟩) (y ⟨j, h.2⟩) else 0

theorem tableOf_apply (x y : Fin 512 → Fin 256 → EReal) (i j : Fin 512) : tableOf x y i.val j.val = costV (x i) (y j) := by
  unfold tableOf
  rw [dif_pos ⟨i.isLt, j.isLt⟩]

theorem tableOf_small (x y : Fin 512 → Fin 256 → EReal) (i j : ℕ) : Small (tableOf x y i j) := by
  unfold tableOf
  by_cases h : i < 512 ∧ j < 512
  · rw [dif_pos h]
    exact costV_small _ _
  · rw [dif_neg h]
    exact ⟨0, rfl, le_refl _, by norm_num⟩

/-- A sample's result: the log-sum-exp of the column sums along the path, less that of all column sums. -/
def sampleV (x y : Fin 512 → Fin 256 → EReal) : EReal :=
  lseV (fun l => pathSum (tableOf x y) 1022 l.val) - lseV (fun l => ∑ i : Fin 512, costV (x i) (y l))

end Cert.Proof

end
-- ==== Proof.KCost.lean ====
/-
  The kernel's cost table and its log-sum-exps, at the extended reals, are those of the plain cost of two rows.
-/
module

public import proofs.«01_k».proof.Proof.Cost
public import proofs.«01_k».proof.Proof.Final
public import Idealize.ShloMosaic.Lib.Pointwise
public import Idealize.ShloMosaic.Lib.ValueLayout
public import Idealize.ShloMosaic.Lib.ValueLayoutCasts

@[expose] public section

set_option maxRecDepth 16384

noncomputable section

namespace Cert.KernelIdeal.Hand

open Idealize.ShloMosaic hiding ix1 ix2 ix3 ix4
open Idealize.ShloMosaic.TcCoe Idealize.ShloMosaic.ValueIdx
open Cert.KernelIdeal Cert.KernelIdeal.Gen Cert.Proof

/-- The rows of a block, each divided by its norm, as the kernel computes them. -/
def normK (v0 : Vec Ideal S1x8x512x256 .f32) : FVec Ideal S8x512x256 .f32 :=
  divf (shapeCast S8x512x256 v0 shapeCasts_S1x8x512x256_S8x512x256)
    (broadcastTo S8x512x256 (maximumf (sqrt (shapeCast S8x512x1 (multiReduction .add [2] S8x512
      (mulf (shapeCast S8x512x256 v0 shapeCasts_S1x8x512x256_S8x512x256 : FVec Ideal S8x512x256 .f32)
        (shapeCast S8x512x256 v0 shapeCasts_S1x8x512x256_S8x512x256)) 0x00000000#32 reduces_S8x512x256_S8x512 (.inl rfl) rfl)
        shapeCasts_S8x512_S8x512x1)) (broadcast S8x512x1 (Scalar.ofBits .f32 0x322BCC77#32))) broadcasts_S8x512x1_S8x512x256)

theorem normK_apply (v0 : Vec Ideal S1x8x512x256 .f32) (g : Fin 8) (i : Fin 512) (d : Fin 256) :
    normK v0 (ix3 g i d) = nrm (fun d => v0 (ix4 0 g i d)) d := by
  have hv : ∀ d, shapeCast S8x512x256 v0 shapeCasts_S1x8x512x256_S8x512x256 (ix3 g i d) = v0 (ix4 0 g i d) := fun d =>
    shapeCast_1abc_abc_apply _ _ g i d
  unfold normK nrm
  show Ideal.div (shapeCast S8x512x256 v0 shapeCasts_S1x8x512x256_S8x512x256 (ix3 g i d)) (broadcastTo _ _ _ (ix3 g i d)) = _
  rw [hv, broadcastTo_apply _ broadcasts_S8x512x1_S8x512x256 (ix3 g i d) (ix3 g i 0) (fun a => by fin_cases a <;> rfl)]
  show Ideal.div _ (max (Ideal.sqrt (shapeCast _ _ _ (ix3 g i 0))) eps) = _
  rw [shapeCast_apply _ shapeCasts_S8x512_S8x512x1 (ix3 g i 0) (ix2 g i) (by
    rw [Shape.rowMajor_val_two, Shape.rowMajor_val_three]
    show g.val * 512 + i.val = (g.val * 512 + i.val) * 1 + 0
    omega)]
  congr 3
  show Ideal.reduceAdd reduces_S8x512x256_S8x512 _ (ix2 g i) = _
  rw [Ideal.reduceAdd_r3_a2]
  refine Finset.sum_congr rfl fun k _ => ?_
  rw [ix3_eq_valueIdx]
  exact congrArg₂ (fun a b : EReal => a * b) (hv k) (hv k)

theorem pay30_apply (X Y : Vec Ideal S1x8x512x256 .f32) (g : Fin 8) (j i : Fin 512) :
    k0_pay30 X Y (ix3 g j i) = costV (fun d => X (ix4 0 g i d)) (fun d => Y (ix4 0 g j d)) := by
  show Ideal.ofBits .f32 0x3F800000#32 - Ideal.matmul dot_S8x512x256_S8x512x256_S8x512x512_2_2_1_1_0_0 (normK Y) (normK X)
    (constant (F := Ideal) S8x512x512 .f32 0x00000000#32) (ix3 g j i) = _
  rw [Ideal.ofBits_one_f32, Ideal.matmul_apply₁_of (a := 2) _ rfl (K := 256) rfl _ _ _ _ (fun k => ix3 g j k) (fun k => ix3 g i k)
    (fun k => by funext a; fin_cases a <;> rfl) (fun k => by funext a; fin_cases a <;> rfl)]
  show (1 : EReal) - (Ideal.ofBits .f32 0x00000000#32 + _) = _
  rw [Ideal.ofBits_zero_f32, zero_add]
  unfold costV
  congr 1
  refine Finset.sum_congr rfl fun k _ => ?_
  rw [normK_apply, normK_apply, mul_comm]

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

theorem castRow_apply (R : FVec Ideal S1x512 .f32) (l : Fin 512) :
    shapeCast S1x1x512 R shapeCasts_S1x512_S1x1x512 (ix3 0 0 l) = R (ix2 0 l) :=
  shapeCast_ab_1ab_apply _ _ 0 0 l

theorem one_apply (v : FVec Ideal S1 .f32) : extractAt ![0, 0, 0] (shapeCast S1x1x1 v shapeCasts_S1_S1x1x1) inpos_S1x1x1_p0_0_0 = v (ix1 0) :=
  shapeCast_apply v _ _ (ix1 0) rfl

theorem rowMax_eq (R : Lane Ideal) : rowMax (asRow R) = maxV R := by
  unfold rowMax
  rw [one_apply]
  refine (multiReduction_maximumf_eq_fold _ _ _ _ _ _).trans ?_
  rw [Shape.Reduces.fold_fiber_r3_a12]
  show Finset.fold max (Ideal.ofBits .f32 0xFF800000#32) _ Finset.univ = _
  rw [negInf_eq, fold_max]
  exact sup_pair _ R fun l => castRow_apply (asRow R) l

theorem rowLse_eq (R : Lane Ideal) : rowLse (asRow R) = lseV R := by
  unfold rowLse lseV
  rw [one_apply, rowMax_eq]
  show maxV R + Ideal.log (Ideal.reduceAdd reduces_S1x1x512_S1 _ (ix1 0)) = _
  rw [Ideal.reduceAdd_r3_a12, Fin.sum_univ_one]
  congr 2

theorem pay31_apply (X Y : Vec Ideal S1x8x512x256 .f32) (g : Fin 8) :
    k0_pay31 X Y (ix2 g 0) = lseV fun j => ∑ i : Fin 512, k0_pay30 X Y (ix3 g j i) := by
  have hs : ∀ j : Fin 512, multiReduction .add [2] S8x512 (k0_pay30 X Y) 0x00000000#32 reduces_S8x512x512_S8x512 (.inl rfl) rfl (ix2 g j)
      = ∑ i : Fin 512, k0_pay30 X Y (ix3 g j i) := fun j => by
    show Ideal.reduceAdd reduces_S8x512x512_S8x512 _ (ix2 g j) = _
    rw [Ideal.reduceAdd_r3_a2]
    rfl
  unfold k0_pay31
  generalize hv : multiReduction .add [2] S8x512 (k0_pay30 X Y) 0x00000000#32 reduces_S8x512x512_S8x512 (.inl rfl) rfl = v at hs
  have hm : multiReduction .maximumf [1] S8 v 0xFF800000#32 reduces_S8x512_S8 (.inl rfl) rfl (ix1 g) = maxV fun j => v (ix2 g j) := by
    refine (multiReduction_maximumf_eq_fold _ _ _ _ _ _).trans ?_
    rw [Shape.Reduces.fold_fiber_r2_a1]
    show Finset.fold max (Ideal.ofBits .f32 0xFF800000#32) _ Finset.univ = _
    rw [negInf_eq, fold_max]
    rfl
  generalize multiReduction .maximumf [1] S8 v 0xFF800000#32 reduces_S8x512_S8 (.inl rfl) rfl = M at hm
  have hc : shapeCast S8x1 M shapeCasts_S8_S8x1 (ix2 g 0) = M (ix1 g) := shapeCast_a_a1_apply _ _ g 0
  show shapeCast S8x1 M shapeCasts_S8_S8x1 (ix2 g 0) + Ideal.log (shapeCast S8x1 _ shapeCasts_S8_S8x1 (ix2 g 0)) = _
  rw [hc, shapeCast_a_a1_apply]
  show M (ix1 g) + Ideal.log (Ideal.reduceAdd reduces_S8x512_S8 _ (ix1 g)) = _
  rw [Ideal.reduceAdd_r2_a1, hm]
  have hr : (fun j => ∑ i : Fin 512, k0_pay30 X Y (ix3 g j i)) = fun j => v (ix2 g j) := funext fun j => (hs j).symm
  rw [hr]
  unfold lseV
  congr 2
  refine Finset.sum_congr rfl fun l _ => ?_
  show Ideal.exp (v (ix2 g l) - broadcastTo S8x512 (shapeCast S8x1 M shapeCasts_S8_S8x1) broadcasts_S8x1_S8x512 (ix2 g l)) = _
  rw [broadcastTo_apply _ broadcasts_S8x1_S8x512 (ix2 g l) (ix2 g 0) (fun a => by fin_cases a <;> rfl), hc, hm]

end Cert.KernelIdeal.Hand

end
-- ==== Proof.KValue.lean ====
/-
  The kernel's result at the extended reals, sample by sample.
-/
module

public import proofs.«01_k».proof.Proof.KCost
public import proofs.«01_k».proof.Proof.Run
public import Idealize.ShloMosaic.Lib.Pipeline.ValueKit
public import Idealize.ShloMosaic.Lib.StableHlo.RunRead

@[expose] public section

set_option maxRecDepth 16384

noncomputable section

namespace Cert.KernelIdeal.Hand

open Idealize.ShloMosaic hiding ix1 ix2 ix3 ix4
open Idealize.ShloMosaic.TcCoe Idealize.ShloMosaic.ValueIdx
open Cert.KernelIdeal Cert.KernelIdeal.Gen Cert.Proof

/-- What one grid point stores: each of its eight samples' results, in every lane. -/
theorem blockOut_apply (X Y : Vec Ideal S1x8x512x256 .f32) (y : S1x8x128.Idx) :
    blockOut X Y y = sampleV (fun i d => X (ix4 0 (y 1) i d)) (fun j d => Y (ix4 0 (y 1) j d)) := by
  have key : ∀ g : Fin 8, rowLse (asRow (endRow (coded (skewG (k0_pay30 X Y) g)))) - k0_pay31 X Y (ix2 g 0)
      = sampleV (fun i d => X (ix4 0 g i d)) (fun j d => Y (ix4 0 g j d)) := fun g => by
    have h1 : (endRow (coded (skewG (k0_pay30 X Y) g)) : Lane Ideal)
        = fun l => pathSum (tableOf (fun i d => X (ix4 0 g i d)) (fun j d => Y (ix4 0 g j d))) 1022 l.val := funext fun l =>
      endRow_eq _ (tableOf_small _ _) (fun j i => k0_pay30 X Y (ix3 g j i)) (fun i j => by rw [tableOf_apply]; exact pay30_apply X Y g j i) l
    rw [rowLse_eq, h1, pay31_apply]
    unfold sampleV
    simp only [pay30_apply]
  exact key (y 1)

variable (m : (ℓ : Loc nD τ sig) → Buf (Elt Ideal) ℓ)

/-- The result array: sample `(b, g)`'s result in every lane. -/
def outArr (A B : (⟨S8x8x512x256, .f32⟩ : BufTy).Contents (Elt Ideal)) : (⟨S8x8x128, .f32⟩ : BufTy).Contents (Elt Ideal) := fun x =>
  sampleV (fun i d => A (ix4 (x 0) (x 1) i d)) (fun j d => B (ix4 (x 0) (x 1) j d))

theorem idx_win : ∀ t : Fin cfg0.N, win0_0.index t = ![t.val, 0, 0, 0] ∧ win0_1.index t = ![t.val, 0, 0, 0] ∧ win0_2.index t = ![t.val, 0, 0] :=
  (by decide +kernel : ∀ t : Fin grid0.N, _)

theorem out_final (c : Dev nD) : (dats m 0 c).arrAt 2 cfg0.N = outArr (V m c main_v0) (V m c main_v1) := by
  refine (dats m 0 c).arrAt_eq_of_covers 2 _ (by decide +kernel) fun t hf y => ?_
  blk_simp
  rw [after0_2]
  refine (blockOut_apply _ _ y).trans ?_
  have e0 : ((((cfg0.win 2).blk t).view.emb y 0 : Fin 8) : ℕ) = t.val := by
    blk_simp [idx_win t]
  have e1 : ((((cfg0.win 2).blk t).view.emb y 1 : Fin 8) : ℕ) = (y 1).val := by
    blk_simp [idx_win t]
  have h0 : ∀ (i : Fin 512) (d : Fin 256), iblk m c 0 t (ix4 0 (y 1) i d)
      = V m c main_v0 (ix4 (((cfg0.win 2).blk t).view.emb y 0) (((cfg0.win 2).blk t).view.emb y 1) i d) := fun i d => by
    show V m c main_v0 (((cfg0.win 0).blk t).view.emb (ix4 0 (y 1) i d)) = _
    congr 1
    funext a
    apply Fin.ext
    fin_cases a
    · blk_simp [idx_win t]
      exact e0.symm
    · blk_simp [idx_win t]
      exact e1.symm
    · blk_simp [idx_win t]
    · blk_simp [idx_win t]
  have h1 : ∀ (i : Fin 512) (d : Fin 256), iblk m c 1 t (ix4 0 (y 1) i d)
      = V m c main_v1 (ix4 (((cfg0.win 2).blk t).view.emb y 0) (((cfg0.win 2).blk t).view.emb y 1) i d) := fun i d => by
    show V m c main_v1 (((cfg0.win 1).blk t).view.emb (ix4 0 (y 1) i d)) = _
    congr 1
    funext a
    apply Fin.ext
    fin_cases a
    · blk_simp [idx_win t]
      exact e0.symm
    · blk_simp [idx_win t]
      exact e1.symm
    · blk_simp [idx_win t]
    · blk_simp [idx_win t]
  unfold outArr
  simp only [← h0, ← h1]

/-- An argument as the launch finds it, sample `8 b + g` at `(b, g)`. -/
def asBlocks (x : (⟨S64x512x256, .f32⟩ : BufTy).Contents (Elt Ideal)) : (⟨S8x8x512x256, .f32⟩ : BufTy).Contents (Elt Ideal) :=
  shapeCast S8x8x512x256 x shapeCasts_S64x512x256_S8x8x512x256

theorem V_v0 (c : Dev nD) : V m c main_v0 = asBlocks (m ((c.tc : Thread nD τ).loc main_arg0)) := by
  show StableHlo.after _ _ (Proc.devRef .tc main_v0) = _
  simp only [List.flatten_cons, List.flatten_nil, List.append_nil]
  after_reads_simp
  rfl
theorem V_v1 (c : Dev nD) : V m c main_v1 = asBlocks (m ((c.tc : Thread nD τ).loc main_arg1)) := by
  show StableHlo.after _ _ (Proc.devRef .tc main_v1) = _
  simp only [List.flatten_cons, List.flatten_nil, List.append_nil]
  after_reads_simp
  rfl

/-- The number of the sample `(b, g)`. -/
def sampleNo (b g : Fin 8) : Fin 64 := ⟨8 * b.val + g.val, by omega⟩

theorem asBlocks_apply (x : (⟨S64x512x256, .f32⟩ : BufTy).Contents (Elt Ideal)) (b g : Fin 8) (i : Fin 512) (d : Fin 256) :
    asBlocks x (ix4 b g i d) = x (ix3 (sampleNo b g) i d) := by
  refine shapeCast_apply _ _ _ _ ?_
  rw [Shape.rowMajor_val_three, Shape.rowMajor_val_four]
  show ((8 * b.val + g.val) * 512 + i.val) * 256 + d.val = ((b.val * 8 + g.val) * 512 + i.val) * 256 + d.val
  ring

/-- What the lines after the launch make of its result array. -/
def tailOf (x : (⟨S8x8x128, .f32⟩ : BufTy).Contents (Elt Ideal)) : (⟨S64, .f32⟩ : BufTy).Contents (Elt Ideal) :=
  shapeCast S64 (shapeCast S8x8 (extractStridedSlice S8x8x1 ![0, 0, 0] x slices_S8x8x128_S8x8x1_0_0_0) shapeCasts_S8x8x1_S8x8) shapeCasts_S8x8_S64

theorem tailOf_apply (x : (⟨S8x8x128, .f32⟩ : BufTy).Contents (Elt Ideal)) (b g : Fin 8) : tailOf x (ix1 (sampleNo b g)) = x (ix3 b g 0) := by
  refine (shapeCast_apply _ _ _ (ix2 b g) ?_).trans ((shapeCast_apply _ _ _ (ix3 b g 0) ?_).trans ?_)
  · rw [Shape.rowMajor_val_one, Shape.rowMajor_val_two]
    show b.val * 8 + g.val = 8 * b.val + g.val
    ring
  · rw [Shape.rowMajor_val_three, Shape.rowMajor_val_two]
    show (b.val * 8 + g.val) * 1 + 0 = b.val * 8 + g.val
    ring
  · exact extractStridedSlice_apply _ _ _ _ (ix3 b g 0) (forall_fin3 (Nat.zero_add _).symm (Nat.zero_add _).symm rfl)

theorem tail_eq (c : Dev nD) : Pipeline.afterTail₀ cfgs (dats m) 0 (V0 m) [hostOps1] c main_v5 = tailOf ((dats m 0 c).arrAt 2 cfg0.N) := by
  unfold Pipeline.afterTail₀
  have e : Pipeline.withArrays (cfgs 0).spec c (V0 m c) (fun w => (dats m 0 c).arrAt w (cfgs 0).N) (Proc.devRef .tc main_v2) = (dats m 0 c).arrAt 2 cfg0.N :=
    Pipeline.withArrays_arr spec0 (by decide) c (V0 m c) (fun w => (dats m 0 c).arrAt w (cfgs 0).N) 2
  generalize Pipeline.withArrays (cfgs 0).spec c (V0 m c) (fun w => (dats m 0 c).arrAt w (cfgs 0).N) = W at e
  rw [← e]
  simp only [List.flatten_cons, List.flatten_nil, List.append_nil]
  after_reads_simp
  rfl

/-- The kernel's result of sample `(b, g)`. -/
theorem tail_value (c : Dev nD) (b g : Fin 8) :
    (Pipeline.afterTail₀ cfgs (dats m) 0 (V0 m) [hostOps1] c main_v5 : (⟨S64, .f32⟩ : BufTy).Contents (Elt Ideal)) (ix1 (sampleNo b g))
      = sampleV (fun i d => (m ((c.tc : Thread nD τ).loc main_arg0) : (⟨S64x512x256, .f32⟩ : BufTy).Contents (Elt Ideal)) (ix3 (sampleNo b g) i d))
        (fun j d => (m ((c.tc : Thread nD τ).loc main_arg1) : (⟨S64x512x256, .f32⟩ : BufTy).Contents (Elt Ideal)) (ix3 (sampleNo b g) j d)) := by
  rw [tail_eq, out_final, tailOf_apply]
  show sampleV (fun i d => V m c main_v0 (ix4 b g i d)) (fun j d => V m c main_v1 (ix4 b g j d)) = _
  rw [V_v0, V_v1]
  simp only [asBlocks_apply]

end Cert.KernelIdeal.Hand

end
-- ==== Proof.RefValue.lean ====
/-
  The reference's result at the extended reals, sample by sample.
-/
module

public import proofs.«01_k».proof.Proof.RefFrame
public import proofs.«01_k».proof.Proof.Cost
public import Idealize.ShloMosaic.Lib.Pointwise

@[expose] public section

set_option maxRecDepth 16384

noncomputable section

namespace Cert.ReferenceIdeal.Hand

open Idealize.ShloMosaic Idealize.ShloMosaic.TcCoe Idealize.ShloMosaic.StableHlo
open Cert.ReferenceIdeal Cert.ReferenceIdeal.Gen Cert.Proof

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

theorem normT_apply (x : ArgT Ideal) (s : Fin 64) (i : Fin 512) (d : Fin 256) : normT x (ix3 s i d) = nrm (fun d => x (ix3 s i d)) d := by
  unfold normT nrm
  show Ideal.div (x (ix3 s i d)) (broadcastInDim (s := S64x512x1) S64x512x256 ![0, 1, 2] bcast_S64x512x1_S64x512x256_0_1_2 _ (ix3 s i d)) = _
  rw [broadcastInDim_apply ![0, 1, 2] bcast_S64x512x1_S64x512x256_0_1_2 _ _ (ix3 s i 0) (fun a => by fin_cases a <;> rfl)]
  show Ideal.div _ (max eps (Ideal.sqrt (broadcastInDim (s := S64x512) S64x512x1 ![0, 1] bcast_S64x512_S64x512x1_0_1 _ (ix3 s i 0)))) = _
  rw [broadcastInDim_apply ![0, 1] bcast_S64x512_S64x512x1_0_1 _ _ (ix2 s i) (fun a => by fin_cases a <;> rfl), max_comm]
  congr 3
  show Ideal.hostReduceAdd reducesTo_S64x512x256_S64x512_d2 _ (Ideal.ofBits .f32 0x00000000#32) (ix2 s i) = _
  rw [Ideal.hostReduceAdd_r3_a2, Ideal.ofBits_zero_f32, zero_add]
  rfl

theorem costT_apply (x y : ArgT Ideal) (s : Fin 64) (i j : Fin 512) :
    costT x y (ix3 s i j) = costV (fun d => x (ix3 s i d)) (fun d => y (ix3 s j d)) := by
  show Ideal.ofBits .f32 0x3F800000#32 - Ideal.matmul dot_S64x512x256_S64x512x256_S64x512x512_2_2_1_1_0_0 (normT x) (normT y) (fun _ => 0) (ix3 s i j) = _
  rw [Ideal.ofBits_one_f32, Ideal.matmul_apply₁_of (a := 2) _ rfl (K := 256) rfl _ _ _ _ (fun k => ix3 s i k) (fun k => ix3 s j k)
    (fun k => by funext a; fin_cases a <;> rfl) (fun k => by funext a; fin_cases a <;> rfl), zero_add]
  unfold costV
  congr 1
  refine Finset.sum_congr rfl fun k _ => ?_
  rw [normT_apply, normT_apply]

theorem lseT_apply (a : LineT Ideal) (s : Fin 64) (h : ∀ l, IsReal (a (ix2 s l))) : lseT a (ix1 s) = lseV fun l => a (ix2 s l) := by
  have hm : Host.reduce (FloatOps.maximumf (F := Ideal) (φ := .f32)) a (scT (F := Ideal) 0xFF800000#32) reducesTo_S64x512_S64_d1 h_S_ (ix1 s) = maxV fun l => a (ix2 s l) := by
    refine (Host.reduce_eq_fold _ _ _ _ _ _).trans ?_
    rw [Shape.ReducesTo.fold_fiber_r2_a1]
    show Finset.fold max (Ideal.ofBits .f32 0xFF800000#32) _ Finset.univ = _
    rw [negInf_eq, fold_max]
    rfl
  unfold lseT
  generalize Host.reduce (FloatOps.maximumf (F := Ideal) (φ := .f32)) a (scT (F := Ideal) 0xFF800000#32) reducesTo_S64x512_S64_d1 h_S_ = M at hm
  have hM : IsReal (M (ix1 s)) := by rw [hm]; exact maxV_real _ h
  have hs : select (cmpf .olt (Host.absf M) (broadcastInDim S64 ![] bcast_S_S64 (scT (F := Ideal) 0x7F800000#32))) M (broadcastInDim S64 ![] bcast_S_S64 (scT (F := Ideal) 0x00000000#32)) (ix1 s) = M (ix1 s) := by
    show Scalar.select (BitVec.ofBool (decide (max (M (ix1 s)) (-(M (ix1 s))) < Ideal.ofBits .f32 0x7F800000#32))) (M (ix1 s)) _ = _
    rw [show Ideal.ofBits .f32 0x7F800000#32 = (⊤ : EReal) from inf_eq, decide_eq_true (abs_lt_top hM)]
    rfl
  generalize select (cmpf .olt (Host.absf M) (broadcastInDim S64 ![] bcast_S_S64 (scT (F := Ideal) 0x7F800000#32))) M (broadcastInDim S64 ![] bcast_S_S64 (scT (F := Ideal) 0x00000000#32)) = M' at hs
  show Ideal.log (Ideal.hostReduceAdd reducesTo_S64x512_S64_d1 _ (Ideal.ofBits .f32 0x00000000#32) (ix1 s)) + M' (ix1 s) = _
  rw [Ideal.hostReduceAdd_r2_a1, Ideal.ofBits_zero_f32, zero_add, hs, hm, add_comm]
  unfold lseV
  congr 2
  refine Finset.sum_congr rfl fun l _ => ?_
  show Ideal.exp (a (ix2 s l) - broadcastInDim S64x512 ![0, 1] bcast_S64x1_S64x512_0_1 (broadcastInDim S64x1 ![0] bcast_S64_S64x1_0 M') (ix2 s l)) = _
  rw [broadcastInDim_apply ![0, 1] bcast_S64x1_S64x512_0_1 _ _ (ix2 s 0) (fun a => by fin_cases a <;> rfl),
    broadcastInDim_apply ![0] bcast_S64_S64x1_0 _ _ (ix1 s) (fun a => by fin_cases a <;> rfl), hs, hm]

/-- The sums of the columns. -/
def sumT (t : TabT Ideal) : LineT Ideal :=
  Host.reduceAdd (F := Ideal) (φ := .f32) t (scT (F := Ideal) 0x00000000#32) reducesTo_S64x512x512_S64x512_d1 h_S_

theorem colT_sum (t : TabT Ideal) (s : Fin 64) (l : Fin 512) :
    sumT t (ix2 s l) = ∑ i : Fin 512, t (ix3 s i l) := by
  show Ideal.hostReduceAdd reducesTo_S64x512x512_S64x512_d1 _ (Ideal.ofBits .f32 0x00000000#32) (ix2 s l) = _
  rw [Ideal.hostReduceAdd_r3_a1, Ideal.ofBits_zero_f32, zero_add]
  rfl

theorem pathEnd_apply (p : TabT Ideal) (s : Fin 64) (i l : Fin 512) :
    pathEndT (rowsT (F := Ideal)) (colsT (F := Ideal)) p (ix3 s i l) = Scalar.select (bitOf (i.val = 0 ∧ l.val = 0)) (1 : EReal) (p (ix3 s i l)) := by
  unfold pathEndT
  show Scalar.select (broadcastInDim S64x512x512 ![1, 2] bcast_S512x512_S64x512x512_1_2 (cornerT (F := Ideal) (rowsT (F := Ideal)) (colsT (F := Ideal)) 0#32) (ix3 s i l))
    (Ideal.ofBits .f32 0x3F800000#32) (p (ix3 s i l)) = _
  rw [broadcastInDim_apply ![1, 2] bcast_S512x512_S64x512x512_1_2 _ _ (ix2 i l) (fun a => by fin_cases a <;> rfl), ofBits_one]
  show Scalar.select (IntOp.andi (IntOp.cmpi .eq (BitVec.ofNat 32 i.val) (BitVec.ofNat 32 0)) (IntOp.cmpi .eq (BitVec.ofNat 32 l.val) (BitVec.ofNat 32 0)))
    (1 : EReal) _ = _
  rw [eq_words (by omega) (by omega), eq_words (by omega) (by omega), bitOf_and]

/-- The result from a cost table of small values and the marks of a walk that has stopped. -/
theorem res_apply (x y : ArgT Ideal) (p : TabT Ideal) (s : Fin 64) (r : ℕ → ℕ → EReal) (hr : ∀ i j : Fin 512, costT x y (ix3 s i j) = r i.val j.val)
    (n : ℕ) (hn : ¬ going (pos r n)) (hp : ∀ i j : Fin 512, p (ix3 s i j) = Scalar.select (bitOf (mark r n i.val j.val)) (1 : EReal) 0)
    (hrs : ∀ i j, Small (r i j)) :
    resT (rowsT (F := Ideal)) (colsT (F := Ideal)) (costT x y) p (ix1 s)
      = lseV (fun l => pathSum r 1022 l.val) - lseV (fun l => ∑ i : Fin 512, r i.val l.val) := by
  have h1 : ∀ l : Fin 512, sumT (mulf (costT x y) (pathEndT (rowsT (F := Ideal)) (colsT (F := Ideal)) p)) (ix2 s l)
      = pathSum r 1022 l.val := fun l => by
    rw [colT_sum, pathSum_of_stops r (stop_1022 r) hn]
    unfold pathSum
    refine Finset.sum_congr rfl fun i _ => ?_
    show costT x y (ix3 s i l) * pathEndT (rowsT (F := Ideal)) (colsT (F := Ideal)) p (ix3 s i l) = _
    rw [pathEnd_apply, hr, hp, select_bitOf, select_bitOf]
    congr
  have h2 : ∀ l : Fin 512, sumT (costT x y) (ix2 s l)
      = ∑ i : Fin 512, r i.val l.val := fun l => by
    rw [colT_sum]
    exact Finset.sum_congr rfl fun i _ => hr i l
  show lseT (sumT (mulf (costT x y) (pathEndT (rowsT (F := Ideal)) (colsT (F := Ideal)) p))) (ix1 s) - lseT (sumT (costT x y)) (ix1 s) = _
  rw [lseT_apply _ s (fun l => by rw [h1]; exact pathSum_real r hrs 1022 l.val), lseT_apply _ s (fun l => by rw [h2]; exact isReal_sum _ _ fun i => (hrs i.val l.val).isReal)]
  simp only [h1, h2]

variable (m : (ℓ : Loc nD τ sig) → Buf (Elt Ideal) ℓ)

theorem table_eq (s : Fin 64) : costOf (cs m 0) s = tableOf (fun i d => xs m 0 (ix3 s i d)) (fun j d => ys m 0 (ix3 s j d)) := by
  funext i j
  unfold costOf tableOf
  by_cases h : i < 512 ∧ j < 512
  · rw [dif_pos h, dif_pos h]
    exact costT_apply _ _ _ _ _
  · rw [dif_neg h, dif_neg h]

/-- The reference's result. -/
theorem end_value (s : Fin 64) : (Wend m (trips m) 0 main_v58 : OneT Ideal) (ix1 s)
    = sampleV (fun i d => xs m 0 (ix3 s i d)) (fun j d => ys m 0 (ix3 s j d)) := by
  classical
  rw [end_res]
  refine (res_apply _ _ _ s (costOf (cs m 0) s) (costOf_apply (cs m 0) s) (trips m) (trips_stop m s) (fun i j => ?_) (fun i j => ?_)).trans ?_
  · rw [select_bitOf]
    exact ((walk_apply (costOf (cs m 0) s) (ts m 0) s (ts_apply m 0 s) (trips m)).2.2 i j).trans (by congr)
  · rw [table_eq]
    exact tableOf_small _ _ i j
  · rw [table_eq]
    unfold sampleV
    simp only [tableOf_apply]

end Cert.ReferenceIdeal.Hand

end
-- ==== Proof.Same.lean ====
/-
  The kernel and the reference, at the extended reals, end with the same results.
-/
module

public import proofs.«01_k».proof.Defs
public import proofs.«01_k».proof.Proof.KValue
public import proofs.«01_k».proof.Proof.RefValue

@[expose] public section

set_option maxRecDepth 16384

noncomputable section

namespace Cert.Proof

open Idealize.ShloMosaic Idealize.ShloMosaic.TcCoe
open Cert.KernelIdeal.Hand (sampleNo)

/-- One result for each of 64 samples. -/
abbrev ResultT := (⟨⟨1, ![64]⟩, .f32⟩ : BufTy).Contents (Elt Ideal)

theorem sample_split (s : Fin 64) : ∃ b g : Fin 8, s = sampleNo b g :=
  ⟨⟨s.val / 8, by omega⟩, ⟨s.val % 8, by omega⟩, Fin.ext (by show s.val = 8 * (s.val / 8) + s.val % 8; omega)⟩

/-- Two lists of results that agree on every sample are equal. -/
theorem result_ext (u v : ResultT) (h : ∀ b g : Fin 8, u (ValueIdx.ix1 (sampleNo b g)) = v (ValueIdx.ix1 (sampleNo b g))) : u = v := by
  funext y
  obtain ⟨b, g, e⟩ := sample_split (y 0)
  have hy : y = ValueIdx.ix1 (sampleNo b g) := by
    funext a
    obtain rfl : a = 0 := Subsingleton.elim _ _
    exact e
  rw [hy]
  exact h b g

theorem same_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h0 : (m' (((0 : Dev Cert.ReferenceIdeal.nD).tc : Thread Cert.ReferenceIdeal.nD Cert.ReferenceIdeal.τ).loc Cert.ReferenceIdeal.main_arg0) : Cert.ReferenceIdeal.Hand.ArgT Ideal)
      = m (((0 : Dev Cert.KernelIdeal.nD).tc : Thread Cert.KernelIdeal.nD Cert.KernelIdeal.τ).loc Cert.KernelIdeal.main_arg0))
    (h1 : (m' (((0 : Dev Cert.ReferenceIdeal.nD).tc : Thread Cert.ReferenceIdeal.nD Cert.ReferenceIdeal.τ).loc Cert.ReferenceIdeal.main_arg1) : Cert.ReferenceIdeal.Hand.ArgT Ideal)
      = m (((0 : Dev Cert.KernelIdeal.nD).tc : Thread Cert.KernelIdeal.nD Cert.KernelIdeal.τ).loc Cert.KernelIdeal.main_arg1)) :
    (Cert.ReferenceIdeal.Hand.Wend m' (Cert.ReferenceIdeal.Hand.trips m') 0 Cert.ReferenceIdeal.main_v58 : ResultT)
      = Pipeline.afterTail₀ Cert.KernelIdeal.cfgs (Cert.KernelIdeal.Hand.dats m) 0 (Cert.KernelIdeal.Gen.V0 m) [Cert.KernelIdeal.Gen.hostOps1] 0 Cert.KernelIdeal.main_v5 := by
  refine result_ext _ _ fun b g => ?_
  refine ((congrArg _ (ix1_eq_valueIdx _).symm).trans (Cert.ReferenceIdeal.Hand.end_value m' (sampleNo b g))).trans
    (Eq.trans ?_ (Cert.KernelIdeal.Hand.tail_value m 0 b g).symm)
  have e0 : Cert.ReferenceIdeal.Hand.xs m' 0 = m (((0 : Dev Cert.KernelIdeal.nD).tc : Thread Cert.KernelIdeal.nD Cert.KernelIdeal.τ).loc Cert.KernelIdeal.main_arg0) := h0
  have e1 : Cert.ReferenceIdeal.Hand.ys m' 0 = m (((0 : Dev Cert.KernelIdeal.nD).tc : Thread Cert.KernelIdeal.nD Cert.KernelIdeal.τ).loc Cert.KernelIdeal.main_arg1) := h1
  rw [e0, e1]
  simp only [ix3_eq_valueIdx]

theorem algebraic : Cert.algebraic_KernelIdeal_ReferenceIdeal := by
  intro m g m' g' _ hargs
  refine ⟨fun c => Pipeline.afterTail₀ Cert.KernelIdeal.cfgs (Cert.KernelIdeal.Hand.dats m) 0 (Cert.KernelIdeal.Gen.V0 m) [Cert.KernelIdeal.Gen.hostOps1] c Cert.KernelIdeal.main_v5, ?_, ?_⟩
  · refine (θ_run Cert.KernelIdeal.defs _ _).mono (fun r h c => ?_)
      (θ_run_and (Cert.KernelIdeal.Hand.run_main m g) (Cert.KernelIdeal.Hand.frame_all m g))
    exact ⟨(h.1 c).2 Cert.KernelIdeal.main_v5 (Pipeline.mem_restRefs_of Cert.KernelIdeal.main_v5 (by decide) (by decide)), h.2.1 c⟩
  · refine (θ_run Cert.ReferenceIdeal.defs _ _).mono (fun r h c => ?_)
      (θ_run_and (Cert.ReferenceIdeal.Hand.run_all m' g') (Cert.ReferenceIdeal.Hand.frame_ref m' g'))
    refine ⟨?_, h.2.1 c⟩
    obtain rfl : c = 0 := Subsingleton.elim _ _
    exact (h.1.1 0 Cert.ReferenceIdeal.main_v58 rfl).trans (same_results m m' (hargs 0).1 (hargs 0).2)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.WordRun
public import proofs.«01_k».proof.Proof.RefFrame
public import proofs.«01_k».proof.Proof.Same
public import Idealize.ShloMosaic.Adequacy
public import Idealize.ShloMosaic.Init

@[expose] public section

namespace Cert.Proof

open Idealize.ShloMosaic

theorem claim : Cert.Claim := ⟨Cert.Kernel.Gen.facts, Cert.KernelIdeal.Gen.facts, Cert.ReferenceIdeal.Gen.facts,
  fun m ρ _ => Cert.Kernel.Hand.frame_all m ρ,
  fun m ρ _ => Cert.KernelIdeal.Hand.frame_all m ρ,
  fun m ρ _ => Cert.ReferenceIdeal.Hand.frame_ref m ρ,
  trivial,
  algebraic⟩

end Cert.Proof
